-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_label [hPre_some_label : Cert.Pre_some_label.Facts] (m : (ℓ : Loc Cert.KernelIdeal.nD Cert.KernelIdeal.τ Cert.KernelIdeal.sig) → Buf (Elt Ideal) ℓ) : Prop :=
  ∀ c : Dev Cert.KernelIdeal.nD,
    (Cert.Pre_some_label.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_label [hPre_some_label : Cert.Pre_some_label.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_label.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ r.2.sem = fun _ => 0)

def quiescent_KernelIdeal_pre_some_label [hKernelIdeal : Cert.KernelIdeal.Facts] [hPre_some_label : Cert.Pre_some_label.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_label m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))
      ∧ r.2.sem = fun _ => 0)

def quiescent_ReferenceIdeal_pre_some_label [hReferenceIdeal : Cert.ReferenceIdeal.Facts] [hPre_some_label : Cert.Pre_some_label.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_label m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))
      ∧ r.2.sem = fun _ => 0)

def preserves_Kernel_KernelIdeal : Prop :=
  True

def algebraic_KernelIdeal_ReferenceIdeal_pre_some_label [hKernelIdeal : Cert.KernelIdeal.Facts] [hReferenceIdeal : Cert.ReferenceIdeal.Facts] [hPre_some_label : Cert.Pre_some_label.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_label m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v73_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_some_label : Cert.Pre_some_label.Facts),
    quiescent_Kernel (hKernel := hKernel)
    ∧ quiescent_KernelIdeal (hKernelIdeal := hKernelIdeal)
    ∧ quiescent_KernelIdeal_pre_some_label (hKernelIdeal := hKernelIdeal) (hPre_some_label := hPre_some_label)
    ∧ quiescent_ReferenceIdeal (hReferenceIdeal := hReferenceIdeal)
    ∧ quiescent_ReferenceIdeal_pre_some_label (hReferenceIdeal := hReferenceIdeal) (hPre_some_label := hPre_some_label)
    ∧ preserves_Kernel_KernelIdeal
    ∧ algebraic_KernelIdeal_ReferenceIdeal_pre_some_label (hKernelIdeal := hKernelIdeal) (hReferenceIdeal := hReferenceIdeal) (hPre_some_label := hPre_some_label)
-- ==== Pre_some_label.lean ====
abbrev S10000x10000 : Shape := ⟨2, ![10000, 10000]⟩
abbrev S1x64 : Shape := ⟨2, ![1, 64]⟩
abbrev S1x10000 : Shape := ⟨2, ![1, 10000]⟩
abbrev S10000x512 : Shape := ⟨2, ![10000, 512]⟩
abbrev S512x256 : Shape := ⟨2, ![512, 256]⟩
abbrev S256 : Shape := ⟨1, ![256]⟩
abbrev S256x257 : Shape := ⟨2, ![256, 257]⟩
abbrev S257 : Shape := ⟨1, ![257]⟩
abbrev S128x64 : Shape := ⟨2, ![128, 64]⟩
abbrev S64 : Shape := ⟨1, ![64]⟩
abbrev S3x1x3 : Shape := ⟨3, ![3, 1, 3]⟩
abbrev S3 : Shape := ⟨1, ![3]⟩
abbrev S3x3x3 : Shape := ⟨3, ![3, 3, 3]⟩
abbrev S3x1x1 : Shape := ⟨3, ![3, 1, 1]⟩
abbrev S5x3x3 : Shape := ⟨3, ![5, 3, 3]⟩
abbrev S5 : Shape := ⟨1, ![5]⟩
abbrev S5x5x3 : Shape := ⟨3, ![5, 5, 3]⟩
abbrev S5x3x1 : Shape := ⟨3, ![5, 3, 1]⟩
abbrev S7x5x3 : Shape := ⟨3, ![7, 5, 3]⟩
abbrev S7 : Shape := ⟨1, ![7]⟩
abbrev S7x7x3 : Shape := ⟨3, ![7, 7, 3]⟩
abbrev S7x5x1 : Shape := ⟨3, ![7, 5, 1]⟩
abbrev S9x7x3 : Shape := ⟨3, ![9, 7, 3]⟩
abbrev S9 : Shape := ⟨1, ![9]⟩
abbrev S9x9x3 : Shape := ⟨3, ![9, 9, 3]⟩
abbrev S9x7x1 : Shape := ⟨3, ![9, 7, 1]⟩
abbrev S9x1 : Shape := ⟨2, ![9, 1]⟩
abbrev S1 : Shape := ⟨1, ![1]⟩
abbrev S_ : Shape := ⟨0, ![]⟩

class Facts : Prop where
  bcast_S_S1x10000 : S_.BroadcastsInDim S1x10000 (![] : Fin 0 → Fin S1x10000.rank)
  reducesTo_S1x10000_S_d0_1 : S1x10000.ReducesTo [0, 1] S_
  h_S_ : 0 < S_.numel

variable [Facts]

def fn {F : FTy → Type} [FloatOps F] (main_arg0 : FVec F S10000x10000 .f32) (main_arg1 : FVec F S1x64 .f32) (main_arg2 : FVec F S1x10000 .f32) (main_arg3 : FVec F S10000x512 .f32) (main_arg4 : FVec F S512x256 .f32) (main_arg5 : FVec F S256 .f32) (main_arg6 : FVec F S256x257 .f32) (main_arg7 : FVec F S257 .f32) (main_arg8 : FVec F S128x64 .f32) (main_arg9 : FVec F S64 .f32) (main_arg10 : FVec F S3x1x3 .f32) (main_arg11 : FVec F S3 .f32) (main_arg12 : FVec F S3x3x3 .f32) (main_arg13 : FVec F S3 .f32) (main_arg14 : FVec F S3x1x1 .f32) (main_arg15 : FVec F S3 .f32) (main_arg16 : FVec F S5x3x3 .f32) (main_arg17 : FVec F S5 .f32) (main_arg18 : FVec F S5x5x3 .f32) (main_arg19 : FVec F S5 .f32) (main_arg20 : FVec F S5x3x1 .f32) (main_arg21 : FVec F S5 .f32) (main_arg22 : FVec F S7x5x3 .f32) (main_arg23 : FVec F S7 .f32) (main_arg24 : FVec F S7x7x3 .f32) (main_arg25 : FVec F S7 .f32) (main_arg26 : FVec F S7x5x1 .f32) (main_arg27 : FVec F S7 .f32) (main_arg28 : FVec F S9x7x3 .f32) (main_arg29 : FVec F S9 .f32) (main_arg30 : FVec F S9x9x3 .f32) (main_arg31 : FVec F S9 .f32) (main_arg32 : FVec F S9x7x1 .f32) (main_arg33 : FVec F S9 .f32) (main_arg34 : FVec F S9x1 .f32) (main_arg35 : FVec F S1 .f32) : IVec S_ 1 :=
  let main_cst : FVec F S_ .f32 := constant S_ .f32 0xFF800000#32
  let main_v0 : FVec F S1x10000 .f32 := broadcastInDim S1x10000 ![] bcast_S_S1x10000 main_cst
  let main_v1 : IVec S1x10000 1 := cmpf .ogt main_arg2 main_v0
  let main_c : IVec S_ 1 := constantI S_ 1 0#1
  let main_v2 : IVec S_ 1 := (fun x v => Host.reduce IntOp.ori x v reducesTo_S1x10000_S_d0_1 h_S_) main_v1 main_c
  main_v2
-- ==== Kernel.lean ====
abbrev S10000x10000 : Shape := ⟨2, ![10000, 10000]⟩
abbrev S1x64 : Shape := ⟨2, ![1, 64]⟩
abbrev S1x10000 : Shape := ⟨2, ![1, 10000]⟩
abbrev S10000x512 : Shape := ⟨2, ![10000, 512]⟩
abbrev S512x256 : Shape := ⟨2, ![512, 256]⟩
abbrev S256 : Shape := ⟨1, ![256]⟩
abbrev S256x257 : Shape := ⟨2, ![256, 257]⟩
abbrev S257 : Shape := ⟨1, ![257]⟩
abbrev S128x64 : Shape := ⟨2, ![128, 64]⟩
abbrev S64 : Shape := ⟨1, ![64]⟩
abbrev S3x1x3 : Shape := ⟨3, ![3, 1, 3]⟩
abbrev S3 : Shape := ⟨1, ![3]⟩
abbrev S3x3x3 : Shape := ⟨3, ![3, 3, 3]⟩
abbrev S3x1x1 : Shape := ⟨3, ![3, 1, 1]⟩
abbrev S5x3x3 : Shape := ⟨3, ![5, 3, 3]⟩
abbrev S5 : Shape := ⟨1, ![5]⟩
abbrev S5x5x3 : Shape := ⟨3, ![5, 5, 3]⟩
abbrev S5x3x1 : Shape := ⟨3, ![5, 3, 1]⟩
abbrev S7x5x3 : Shape := ⟨3, ![7, 5, 3]⟩
abbrev S7 : Shape := ⟨1, ![7]⟩
abbrev S7x7x3 : Shape := ⟨3, ![7, 7, 3]⟩
abbrev S7x5x1 : Shape := ⟨3, ![7, 5, 1]⟩
abbrev S9x7x3 : Shape := ⟨3, ![9, 7, 3]⟩
abbrev S9 : Shape := ⟨1, ![9]⟩
abbrev S9x9x3 : Shape := ⟨3, ![9, 9, 3]⟩
abbrev S9x7x1 : Shape := ⟨3, ![9, 7, 1]⟩
abbrev S9x1 : Shape := ⟨2, ![9, 1]⟩
abbrev S1 : Shape := ⟨1, ![1]⟩
abbrev S3x1 : Shape := ⟨2, ![3, 1]⟩
abbrev S3x3x1 : Shape := ⟨3, ![3, 3, 1]⟩
abbrev S3x3 : Shape := ⟨2, ![3, 3]⟩
abbrev S5x3 : Shape := ⟨2, ![5, 3]⟩
abbrev S5x1 : Shape := ⟨2, ![5, 1]⟩
abbrev S5x5x1 : Shape := ⟨3, ![5, 5, 1]⟩
abbrev S5x5 : Shape := ⟨2, ![5, 5]⟩
abbrev S7x5 : Shape := ⟨2, ![7, 5]⟩
abbrev S7x1 : Shape := ⟨2, ![7, 1]⟩
abbrev S7x7x1 : Shape := ⟨3, ![7, 7, 1]⟩
abbrev S7x7 : Shape := ⟨2, ![7, 7]⟩
abbrev S9x7 : Shape := ⟨2, ![9, 7]⟩
abbrev S9x9x1 : Shape := ⟨3, ![9, 9, 1]⟩
abbrev S9x9 : Shape := ⟨2, ![9, 9]⟩
abbrev S9x64 : Shape := ⟨2, ![9, 64]⟩
abbrev S1x1 : Shape := ⟨2, ![1, 1]⟩
abbrev S1x66 : Shape := ⟨2, ![1, 66]⟩
abbrev S3x64 : Shape := ⟨2, ![3, 64]⟩
abbrev S3x66 : Shape := ⟨2, ![3, 66]⟩
abbrev S5x64 : Shape := ⟨2, ![5, 64]⟩
abbrev S5x66 : Shape := ⟨2, ![5, 66]⟩
abbrev S7x64 : Shape := ⟨2, ![7, 64]⟩
abbrev S7x66 : Shape := ⟨2, ![7, 66]⟩
abbrev S9x66 : Shape := ⟨2, ![9, 66]⟩
abbrev S64x9 : Shape := ⟨2, ![64, 9]⟩
abbrev S1x256 : Shape := ⟨2, ![1, 256]⟩
abbrev S10000x256 : Shape := ⟨2, ![10000, 256]⟩
abbrev S200x10000 : Shape := ⟨2, ![200, 10000]⟩
abbrev S200x256 : Shape := ⟨2, ![200, 256]⟩
abbrev S200x512 : Shape := ⟨2, ![200, 512]⟩
abbrev S1x257 : Shape := ⟨2, ![1, 257]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩
abbrev S400x257 : Shape := ⟨2, ![400, 257]⟩
abbrev S400x1 : Shape := ⟨2, ![400, 1]⟩
abbrev S400x259 : Shape := ⟨2, ![400, 259]⟩
abbrev S400x255 : Shape := ⟨2, ![400, 255]⟩
abbrev S255x128 : Shape := ⟨2, ![255, 128]⟩
abbrev S10000x1 : Shape := ⟨2, ![10000, 1]⟩
abbrev S400x64 : Shape := ⟨2, ![400, 64]⟩
abbrev S64x1 : Shape := ⟨2, ![64, 1]⟩
abbrev S400 : Shape := ⟨1, ![400]⟩
abbrev S1x400x1 : Shape := ⟨3, ![1, 400, 1]⟩
abbrev S1x1x1 : Shape := ⟨3, ![1, 1, 1]⟩
abbrev S_ : Shape := ⟨0, ![]⟩

abbrev nBuf : Space → Nat
  | .hbm => 112
  | .vmem => 74
  | .smem => 0
  | _ => 0

abbrev bufTy : (tb : Table) → Fin (tcTables nBuf tb) → BufTy
  | .hbm, ⟨0, _⟩ => ⟨S10000x10000, .f32⟩
  | .hbm, ⟨1, _⟩ => ⟨S1x64, .f32⟩
  | .hbm, ⟨2, _⟩ => ⟨S1x10000, .f32⟩
  | .hbm, ⟨3, _⟩ => ⟨S10000x512, .f32⟩
  | .hbm, ⟨4, _⟩ => ⟨S512x256, .f32⟩
  | .hbm, ⟨5, _⟩ => ⟨S256, .f32⟩
  | .hbm, ⟨6, _⟩ => ⟨S256x257, .f32⟩
  | .hbm, ⟨7, _⟩ => ⟨S257, .f32⟩
  | .hbm, ⟨8, _⟩ => ⟨S128x64, .f32⟩
  | .hbm, ⟨9, _⟩ => ⟨S64, .f32⟩
  | .hbm, ⟨10, _⟩ => ⟨S3x1x3, .f32⟩
  | .hbm, ⟨11, _⟩ => ⟨S3, .f32⟩
  | .hbm, ⟨12, _⟩ => ⟨S3x3x3, .f32⟩
  | .hbm, ⟨13, _⟩ => ⟨S3, .f32⟩
  | .hbm, ⟨14, _⟩ => ⟨S3x1x1, .f32⟩
  | .hbm, ⟨15, _⟩ => ⟨S3, .f32⟩
  | .hbm, ⟨16, _⟩ => ⟨S5x3x3, .f32⟩
  | .hbm, ⟨17, _⟩ => ⟨S5, .f32⟩
  | .hbm, ⟨18, _⟩ => ⟨S5x5x3, .f32⟩
  | .hbm, ⟨19, _⟩ => ⟨S5, .f32⟩
  | .hbm, ⟨20, _⟩ => ⟨S5x3x1, .f32⟩
  | .hbm, ⟨21, _⟩ => ⟨S5, .f32⟩
  | .hbm, ⟨22, _⟩ => ⟨S7x5x3, .f32⟩
  | .hbm, ⟨23, _⟩ => ⟨S7, .f32⟩
  | .hbm, ⟨24, _⟩ => ⟨S7x7x3, .f32⟩
  | .hbm, ⟨25, _⟩ => ⟨S7, .f32⟩
  | .hbm, ⟨26, _⟩ => ⟨S7x5x1, .f32⟩
  | .hbm, ⟨27, _⟩ => ⟨S7, .f32⟩
  | .hbm, ⟨28, _⟩ => ⟨S9x7x3, .f32⟩
  | .hbm, ⟨29, _⟩ => ⟨S9, .f32⟩
  | .hbm, ⟨30, _⟩ => ⟨S9x9x3, .f32⟩
  | .hbm, ⟨31, _⟩ => ⟨S9, .f32⟩
  | .hbm, ⟨32, _⟩ => ⟨S9x7x1, .f32⟩
  | .hbm, ⟨33, _⟩ => ⟨S9, .f32⟩
  | .hbm, ⟨34, _⟩ => ⟨S9x1, .f32⟩
  | .hbm, ⟨35, _⟩ => ⟨S1, .f32⟩
  | .hbm, ⟨36, _⟩ => ⟨S3x1x1, .f32⟩
  | .hbm, ⟨37, _⟩ => ⟨S3x1, .f32⟩
  | .hbm, ⟨38, _⟩ => ⟨S3x1x1, .f32⟩
  | .hbm, ⟨39, _⟩ => ⟨S3x1, .f32⟩
  | .hbm, ⟨40, _⟩ => ⟨S3x1x1, .f32⟩
  | .hbm, ⟨41, _⟩ => ⟨S3x1, .f32⟩
  | .hbm, ⟨42, _⟩ => ⟨S3x1, .f32⟩
  | .hbm, ⟨43, _⟩ => ⟨S3x3x1, .f32⟩
  | .hbm, ⟨44, _⟩ => ⟨S3x3, .f32⟩
  | .hbm, ⟨45, _⟩ => ⟨S3x3x1, .f32⟩
  | .hbm, ⟨46, _⟩ => ⟨S3x3, .f32⟩
  | .hbm, ⟨47, _⟩ => ⟨S3x3x1, .f32⟩
  | .hbm, ⟨48, _⟩ => ⟨S3x3, .f32⟩
  | .hbm, ⟨49, _⟩ => ⟨S3x1, .f32⟩
  | .hbm, ⟨50, _⟩ => ⟨S3x1, .f32⟩
  | .hbm, ⟨51, _⟩ => ⟨S3x1, .f32⟩
  | .hbm, ⟨52, _⟩ => ⟨S5x3x1, .f32⟩
  | .hbm, ⟨53, _⟩ => ⟨S5x3, .f32⟩
  | .hbm, ⟨54, _⟩ => ⟨S5x3x1, .f32⟩
  | .hbm, ⟨55, _⟩ => ⟨S5x3, .f32⟩
  | .hbm, ⟨56, _⟩ => ⟨S5x3x1, .f32⟩
  | .hbm, ⟨57, _⟩ => ⟨S5x3, .f32⟩
  | .hbm, ⟨58, _⟩ => ⟨S5x1, .f32⟩
  | .hbm, ⟨59, _⟩ => ⟨S5x5x1, .f32⟩
  | .hbm, ⟨60, _⟩ => ⟨S5x5, .f32⟩
  | .hbm, ⟨61, _⟩ => ⟨S5x5x1, .f32⟩
  | .hbm, ⟨62, _⟩ => ⟨S5x5, .f32⟩
  | .hbm, ⟨63, _⟩ => ⟨S5x5x1, .f32⟩
  | .hbm, ⟨64, _⟩ => ⟨S5x5, .f32⟩
  | .hbm, ⟨65, _⟩ => ⟨S5x1, .f32⟩
  | .hbm, ⟨66, _⟩ => ⟨S5x3, .f32⟩
  | .hbm, ⟨67, _⟩ => ⟨S5x1, .f32⟩
  | .hbm, ⟨68, _⟩ => ⟨S7x5x1, .f32⟩
  | .hbm, ⟨69, _⟩ => ⟨S7x5, .f32⟩
  | .hbm, ⟨70, _⟩ => ⟨S7x5x1, .f32⟩
  | .hbm, ⟨71, _⟩ => ⟨S7x5, .f32⟩
  | .hbm, ⟨72, _⟩ => ⟨S7x5x1, .f32⟩
  | .hbm, ⟨73, _⟩ => ⟨S7x5, .f32⟩
  | .hbm, ⟨74, _⟩ => ⟨S7x1, .f32⟩
  | .hbm, ⟨75, _⟩ => ⟨S7x7x1, .f32⟩
  | .hbm, ⟨76, _⟩ => ⟨S7x7, .f32⟩
  | .hbm, ⟨77, _⟩ => ⟨S7x7x1, .f32⟩
  | .hbm, ⟨78, _⟩ => ⟨S7x7, .f32⟩
  | .hbm, ⟨79, _⟩ => ⟨S7x7x1, .f32⟩
  | .hbm, ⟨80, _⟩ => ⟨S7x7, .f32⟩
  | .hbm, ⟨81, _⟩ => ⟨S7x1, .f32⟩
  | .hbm, ⟨82, _⟩ => ⟨S7x5, .f32⟩
  | .hbm, ⟨83, _⟩ => ⟨S7x1, .f32⟩
  | .hbm, ⟨84, _⟩ => ⟨S9x7x1, .f32⟩
  | .hbm, ⟨85, _⟩ => ⟨S9x7, .f32⟩
  | .hbm, ⟨86, _⟩ => ⟨S9x7x1, .f32⟩
  | .hbm, ⟨87, _⟩ => ⟨S9x7, .f32⟩
  | .hbm, ⟨88, _⟩ => ⟨S9x7x1, .f32⟩
  | .hbm, ⟨89, _⟩ => ⟨S9x7, .f32⟩
  | .hbm, ⟨90, _⟩ => ⟨S9x1, .f32⟩
  | .hbm, ⟨91, _⟩ => ⟨S9x9x1, .f32⟩
  | .hbm, ⟨92, _⟩ => ⟨S9x9, .f32⟩
  | .hbm, ⟨93, _⟩ => ⟨S9x9x1, .f32⟩
  | .hbm, ⟨94, _⟩ => ⟨S9x9, .f32⟩
  | .hbm, ⟨95, _⟩ => ⟨S9x9x1, .f32⟩
  | .hbm, ⟨96, _⟩ => ⟨S9x9, .f32⟩
  | .hbm, ⟨97, _⟩ => ⟨S9x1, .f32⟩
  | .hbm, ⟨98, _⟩ => ⟨S9x7, .f32⟩
  | .hbm, ⟨99, _⟩ => ⟨S9x1, .f32⟩
  | .hbm, ⟨100, _⟩ => ⟨S9x64, .f32⟩
  | .hbm, ⟨101, _⟩ => ⟨S64x9, .f32⟩
  | .hbm, ⟨102, _⟩ => ⟨S1x256, .f32⟩
  | .hbm, ⟨103, _⟩ => ⟨S10000x256, .f32⟩
  | .hbm, ⟨104, _⟩ => ⟨S1x257, .f32⟩
  | .hbm, ⟨105, _⟩ => ⟨S10000x128, .f32⟩
  | .hbm, ⟨106, _⟩ => ⟨S1x64, .f32⟩
  | .hbm, ⟨107, _⟩ => ⟨S1x1, .f32⟩
  | .hbm, ⟨108, _⟩ => ⟨S10000x1, .f32⟩
  | .hbm, ⟨109, _⟩ => ⟨S1x1, .f32⟩
  | .hbm, ⟨110, _⟩ => ⟨S1x1, .i32⟩
  | .hbm, ⟨111, _⟩ => ⟨S_, .f32⟩
  | .local _ .vmem, ⟨0, _⟩ => ⟨S1x64, .f32⟩
  | .local _ .vmem, ⟨1, _⟩ => ⟨S3x1, .f32⟩
  | .local _ .vmem, ⟨2, _⟩ => ⟨S3x1, .f32⟩
  | .local _ .vmem, ⟨3, _⟩ => ⟨S3x1, .f32⟩
  | .local _ .vmem, ⟨4, _⟩ => ⟨S3x1, .f32⟩
  | .local _ .vmem, ⟨5, _⟩ => ⟨S3x3, .f32⟩
  | .local _ .vmem, ⟨6, _⟩ => ⟨S3x3, .f32⟩
  | .local _ .vmem, ⟨7, _⟩ => ⟨S3x3, .f32⟩
  | .local _ .vmem, ⟨8, _⟩ => ⟨S3x1, .f32⟩
  | .local _ .vmem, ⟨9, _⟩ => ⟨S3x1, .f32⟩
  | .local _ .vmem, ⟨10, _⟩ => ⟨S3x1, .f32⟩
  | .local _ .vmem, ⟨11, _⟩ => ⟨S5x3, .f32⟩
  | .local _ .vmem, ⟨12, _⟩ => ⟨S5x3, .f32⟩
  | .local _ .vmem, ⟨13, _⟩ => ⟨S5x3, .f32⟩
  | .local _ .vmem, ⟨14, _⟩ => ⟨S5x1, .f32⟩
  | .local _ .vmem, ⟨15, _⟩ => ⟨S5x5, .f32⟩
  | .local _ .vmem, ⟨16, _⟩ => ⟨S5x5, .f32⟩
  | .local _ .vmem, ⟨17, _⟩ => ⟨S5x5, .f32⟩
  | .local _ .vmem, ⟨18, _⟩ => ⟨S5x1, .f32⟩
  | .local _ .vmem, ⟨19, _⟩ => ⟨S5x3, .f32⟩
  | .local _ .vmem, ⟨20, _⟩ => ⟨S5x1, .f32⟩
  | .local _ .vmem, ⟨21, _⟩ => ⟨S7x5, .f32⟩
  | .local _ .vmem, ⟨22, _⟩ => ⟨S7x5, .f32⟩
  | .local _ .vmem, ⟨23, _⟩ => ⟨S7x5, .f32⟩
  | .local _ .vmem, ⟨24, _⟩ => ⟨S7x1, .f32⟩
  | .local _ .vmem, ⟨25, _⟩ => ⟨S7x7, .f32⟩
  | .local _ .vmem, ⟨26, _⟩ => ⟨S7x7, .f32⟩
  | .local _ .vmem, ⟨27, _⟩ => ⟨S7x7, .f32⟩
  | .local _ .vmem, ⟨28, _⟩ => ⟨S7x1, .f32⟩
  | .local _ .vmem, ⟨29, _⟩ => ⟨S7x5, .f32⟩
  | .local _ .vmem, ⟨30, _⟩ => ⟨S7x1, .f32⟩
  | .local _ .vmem, ⟨31, _⟩ => ⟨S9x7, .f32⟩
  | .local _ .vmem, ⟨32, _⟩ => ⟨S9x7, .f32⟩
  | .local _ .vmem, ⟨33, _⟩ => ⟨S9x7, .f32⟩
  | .local _ .vmem, ⟨34, _⟩ => ⟨S9x1, .f32⟩
  | .local _ .vmem, ⟨35, _⟩ => ⟨S9x9, .f32⟩
  | .local _ .vmem, ⟨36, _⟩ => ⟨S9x9, .f32⟩
  | .local _ .vmem, ⟨37, _⟩ => ⟨S9x9, .f32⟩
  | .local _ .vmem, ⟨38, _⟩ => ⟨S9x1, .f32⟩
  | .local _ .vmem, ⟨39, _⟩ => ⟨S9x7, .f32⟩
  | .local _ .vmem, ⟨40, _⟩ => ⟨S9x1, .f32⟩
  | .local _ .vmem, ⟨41, _⟩ => ⟨S9x64, .f32⟩
  | .local _ .vmem, ⟨42, _⟩ => ⟨S200x10000, .f32⟩
  | .local _ .vmem, ⟨43, _⟩ => ⟨S200x10000, .f32⟩
  | .local _ .vmem, ⟨44, _⟩ => ⟨S10000x512, .f32⟩
  | .local _ .vmem, ⟨45, _⟩ => ⟨S512x256, .f32⟩
  | .local _ .vmem, ⟨46, _⟩ => ⟨S1x256, .f32⟩
  | .local _ .vmem, ⟨47, _⟩ => ⟨S200x256, .f32⟩
  | .local _ .vmem, ⟨48, _⟩ => ⟨S200x256, .f32⟩
  | .local _ .vmem, ⟨49, _⟩ => ⟨S400x10000, .f32⟩
  | .local _ .vmem, ⟨50, _⟩ => ⟨S400x10000, .f32⟩
  | .local _ .vmem, ⟨51, _⟩ => ⟨S10000x256, .f32⟩
  | .local _ .vmem, ⟨52, _⟩ => ⟨S256x257, .f32⟩
  | .local _ .vmem, ⟨53, _⟩ => ⟨S1x257, .f32⟩
  | .local _ .vmem, ⟨54, _⟩ => ⟨S400x128, .f32⟩
  | .local _ .vmem, ⟨55, _⟩ => ⟨S400x128, .f32⟩
  | .local _ .vmem, ⟨56, _⟩ => ⟨S400x10000, .f32⟩
  | .local _ .vmem, ⟨57, _⟩ => ⟨S400x10000, .f32⟩
  | .local _ .vmem, ⟨58, _⟩ => ⟨S10000x128, .f32⟩
  | .local _ .vmem, ⟨59, _⟩ => ⟨S128x64, .f32⟩
  | .local _ .vmem, ⟨60, _⟩ => ⟨S1x64, .f32⟩
  | .local _ .vmem, ⟨61, _⟩ => ⟨S64x9, .f32⟩
  | .local _ .vmem, ⟨62, _⟩ => ⟨S9x1, .f32⟩
  | .local _ .vmem, ⟨63, _⟩ => ⟨S1x1, .f32⟩
  | .local _ .vmem, ⟨64, _⟩ => ⟨S400x1, .f32⟩
  | .local _ .vmem, ⟨65, _⟩ => ⟨S400x1, .f32⟩
  | .local _ .vmem, ⟨66, _⟩ => ⟨S1x1, .f32⟩
  | .local _ .vmem, ⟨67, _⟩ => ⟨S1x1, .i32⟩
  | .local _ .vmem, ⟨68, _⟩ => ⟨S1x1, .f32⟩
  | .local _ .vmem, ⟨69, _⟩ => ⟨S1x1, .f32⟩
  | .local _ .vmem, ⟨70, _⟩ => ⟨S1x1, .f32⟩
  | .local _ .vmem, ⟨71, _⟩ => ⟨S1x1, .i32⟩
  | .local _ .vmem, ⟨72, _⟩ => ⟨S1x1, .f32⟩
  | .local _ .vmem, ⟨73, _⟩ => ⟨S1x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73_0 : Ref sig .tc := ⟨.hbm, 109, rfl⟩
abbrev main_v73_1 : Ref sig .tc := ⟨.hbm, 110, rfl⟩
abbrev main_v74 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc1_stg0_0 : Ref sig .tc := ⟨.vmem, 42, rfl⟩
abbrev cc1_stg0_1 : Ref sig .tc := ⟨.vmem, 43, rfl⟩
abbrev cc1_stg1_0 : Ref sig .tc := ⟨.vmem, 44, rfl⟩
abbrev cc1_stg2_0 : Ref sig .tc := ⟨.vmem, 45, rfl⟩
abbrev cc1_stg3_0 : Ref sig .tc := ⟨.vmem, 46, rfl⟩
abbrev cc1_stg4_0 : Ref sig .tc := ⟨.vmem, 47, rfl⟩
abbrev cc1_stg4_1 : Ref sig .tc := ⟨.vmem, 48, rfl⟩
abbrev cc2_stg0_0 : Ref sig .tc := ⟨.vmem, 49, rfl⟩
abbrev cc2_stg0_1 : Ref sig .tc := ⟨.vmem, 50, rfl⟩
abbrev cc2_stg1_0 : Ref sig .tc := ⟨.vmem, 51, rfl⟩
abbrev cc2_stg2_0 : Ref sig .tc := ⟨.vmem, 52, rfl⟩
abbrev cc2_stg3_0 : Ref sig .tc := ⟨.vmem, 53, rfl⟩
abbrev cc2_stg4_0 : Ref sig .tc := ⟨.vmem, 54, rfl⟩
abbrev cc2_stg4_1 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg2_0 : Ref sig .tc := ⟨.vmem, 59, rfl⟩
abbrev cc3_stg3_0 : Ref sig .tc := ⟨.vmem, 60, rfl⟩
abbrev cc3_stg4_0 : Ref sig .tc := ⟨.vmem, 61, rfl⟩
abbrev cc3_stg5_0 : Ref sig .tc := ⟨.vmem, 62, rfl⟩
abbrev cc3_stg6_0 : Ref sig .tc := ⟨.vmem, 63, rfl⟩
abbrev cc3_stg7_0 : Ref sig .tc := ⟨.vmem, 64, rfl⟩
abbrev cc3_stg7_1 : Ref sig .tc := ⟨.vmem, 65, rfl⟩
abbrev cc3_stg8_0 : Ref sig .tc := ⟨.vmem, 66, rfl⟩
abbrev cc3_stg9_0 : Ref sig .tc := ⟨.vmem, 67, rfl⟩
abbrev cc3_scratch0 : Ref sig .tc := ⟨.vmem, 68, rfl⟩
abbrev cc3_scratch1 : Ref sig .tc := ⟨.vmem, 69, rfl⟩
abbrev cc3_scratch2 : Ref sig .tc := ⟨.vmem, 70, rfl⟩
abbrev cc3_scratch3 : Ref sig .tc := ⟨.vmem, 71, rfl⟩
abbrev cc3_scratch4 : Ref sig .tc := ⟨.vmem, 72, rfl⟩
abbrev cc3_scratch5 : Ref sig .tc := ⟨.vmem, 73, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc1_sem0_0 : DmaSem sig := 42
abbrev cc1_sem0_1 : DmaSem sig := 43
abbrev cc1_sem1_0 : DmaSem sig := 44
abbrev cc1_sem2_0 : DmaSem sig := 45
abbrev cc1_sem3_0 : DmaSem sig := 46
abbrev cc1_sem4_0 : DmaSem sig := 47
abbrev cc1_sem4_1 : DmaSem sig := 48
abbrev cc2_sem0_0 : DmaSem sig := 49
abbrev cc2_sem0_1 : DmaSem sig := 50
abbrev cc2_sem1_0 : DmaSem sig := 51
abbrev cc2_sem2_0 : DmaSem sig := 52
abbrev cc2_sem3_0 : DmaSem sig := 53
abbrev cc2_sem4_0 : DmaSem sig := 54
abbrev cc2_sem4_1 : DmaSem sig := 55
abbrev cc3_sem0_0 : DmaSem sig := 56
abbrev cc3_sem0_1 : DmaSem sig := 57
abbrev cc3_sem1_0 : DmaSem sig := 58
abbrev cc3_sem2_0 : DmaSem sig := 59
abbrev cc3_sem3_0 : DmaSem sig := 60
abbrev cc3_sem4_0 : DmaSem sig := 61
abbrev cc3_sem5_0 : DmaSem sig := 62
abbrev cc3_sem6_0 : DmaSem sig := 63
abbrev cc3_sem7_0 : DmaSem sig := 64
abbrev cc3_sem7_1 : DmaSem sig := 65
abbrev cc3_sem8_0 : DmaSem sig := 66
abbrev cc3_sem9_0 : DmaSem sig := 67

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x5 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S5x5 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S5x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S5x3 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S5x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S7x5 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S7x5 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S7x5 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S7x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S7x7 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S7x7 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S7x7 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S7x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S7x5 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S7x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S9x7 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S9x7 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S9x7 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S9x1 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S9x9 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S9x9 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S9x9 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S9x1 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S9x7 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S9x1 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S9x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x257 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x257 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def k3_cond4 (i : grid3.Coords) : BitVec 1 :=
  let arg0 : BitVec 32 := BitVec.ofNat 32 (i 0).val
  let c24_i32 : BitVec 32 := 24#32
  let v103 : BitVec 1 := Scalar.cmpi .eq arg0 c24_i32
  let v104 : BitVec 32 := Scalar.extui v103
  let c0_i32_42 : BitVec 32 := 0#32
  let v105 : BitVec 1 := Scalar.cmpi .ne v104 c0_i32_42
  v105

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x9 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S9x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .i32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]
-- ==== ReferenceIdeal.lean ====
abbrev S10000x10000 : Shape := ⟨2, ![10000, 10000]⟩
abbrev S1x64 : Shape := ⟨2, ![1, 64]⟩
abbrev S1x10000 : Shape := ⟨2, ![1, 10000]⟩
abbrev S10000x512 : Shape := ⟨2, ![10000, 512]⟩
abbrev S512x256 : Shape := ⟨2, ![512, 256]⟩
abbrev S256 : Shape := ⟨1, ![256]⟩
abbrev S256x257 : Shape := ⟨2, ![256, 257]⟩
abbrev S257 : Shape := ⟨1, ![257]⟩
abbrev S128x64 : Shape := ⟨2, ![128, 64]⟩
abbrev S64 : Shape := ⟨1, ![64]⟩
abbrev S3x1x3 : Shape := ⟨3, ![3, 1, 3]⟩
abbrev S3 : Shape := ⟨1, ![3]⟩
abbrev S3x3x3 : Shape := ⟨3, ![3, 3, 3]⟩
abbrev S3x1x1 : Shape := ⟨3, ![3, 1, 1]⟩
abbrev S5x3x3 : Shape := ⟨3, ![5, 3, 3]⟩
abbrev S5 : Shape := ⟨1, ![5]⟩
abbrev S5x5x3 : Shape := ⟨3, ![5, 5, 3]⟩
abbrev S5x3x1 : Shape := ⟨3, ![5, 3, 1]⟩
abbrev S7x5x3 : Shape := ⟨3, ![7, 5, 3]⟩
abbrev S7 : Shape := ⟨1, ![7]⟩
abbrev S7x7x3 : Shape := ⟨3, ![7, 7, 3]⟩
abbrev S7x5x1 : Shape := ⟨3, ![7, 5, 1]⟩
abbrev S9x7x3 : Shape := ⟨3, ![9, 7, 3]⟩
abbrev S9 : Shape := ⟨1, ![9]⟩
abbrev S9x9x3 : Shape := ⟨3, ![9, 9, 3]⟩
abbrev S9x7x1 : Shape := ⟨3, ![9, 7, 1]⟩
abbrev S9x1 : Shape := ⟨2, ![9, 1]⟩
abbrev S1 : Shape := ⟨1, ![1]⟩
abbrev S10000 : Shape := ⟨1, ![10000]⟩
abbrev S_ : Shape := ⟨0, ![]⟩
abbrev S10000x1 : Shape := ⟨2, ![10000, 1]⟩
abbrev S1x1 : Shape := ⟨2, ![1, 1]⟩
abbrev S1x10000x512 : Shape := ⟨3, ![1, 10000, 512]⟩
abbrev S10000x1x512 : Shape := ⟨3, ![10000, 1, 512]⟩
abbrev S1x10000x256 : Shape := ⟨3, ![1, 10000, 256]⟩
abbrev S1x1x256 : Shape := ⟨3, ![1, 1, 256]⟩
abbrev S10000x1x256 : Shape := ⟨3, ![10000, 1, 256]⟩
abbrev S1x10000x257 : Shape := ⟨3, ![1, 10000, 257]⟩
abbrev S1x1x257 : Shape := ⟨3, ![1, 1, 257]⟩
abbrev S1x10000x128 : Shape := ⟨3, ![1, 10000, 128]⟩
abbrev S10000x1x128 : Shape := ⟨3, ![10000, 1, 128]⟩
abbrev S1x10000x64 : Shape := ⟨3, ![1, 10000, 64]⟩
abbrev S1x1x64 : Shape := ⟨3, ![1, 1, 64]⟩
abbrev S1x1x66 : Shape := ⟨3, ![1, 1, 66]⟩
abbrev S3x1 : Shape := ⟨2, ![3, 1]⟩
abbrev S1x64x3 : Shape := ⟨3, ![1, 64, 3]⟩
abbrev S1x3x64 : Shape := ⟨3, ![1, 3, 64]⟩
abbrev S1x3x1 : Shape := ⟨3, ![1, 3, 1]⟩
abbrev S1x3x66 : Shape := ⟨3, ![1, 3, 66]⟩
abbrev S3x3x1 : Shape := ⟨3, ![3, 3, 1]⟩
abbrev S3x3 : Shape := ⟨2, ![3, 3]⟩
abbrev S5x3 : Shape := ⟨2, ![5, 3]⟩
abbrev S1x64x5 : Shape := ⟨3, ![1, 64, 5]⟩
abbrev S1x5x64 : Shape := ⟨3, ![1, 5, 64]⟩
abbrev S1x5x1 : Shape := ⟨3, ![1, 5, 1]⟩
abbrev S1x5x66 : Shape := ⟨3, ![1, 5, 66]⟩
abbrev S5x5x1 : Shape := ⟨3, ![5, 5, 1]⟩
abbrev S5x5 : Shape := ⟨2, ![5, 5]⟩
abbrev S7x5 : Shape := ⟨2, ![7, 5]⟩
abbrev S1x64x7 : Shape := ⟨3, ![1, 64, 7]⟩
abbrev S1x7x64 : Shape := ⟨3, ![1, 7, 64]⟩
abbrev S1x7x1 : Shape := ⟨3, ![1, 7, 1]⟩
abbrev S1x7x66 : Shape := ⟨3, ![1, 7, 66]⟩
abbrev S7x7x1 : Shape := ⟨3, ![7, 7, 1]⟩
abbrev S7x7 : Shape := ⟨2, ![7, 7]⟩
abbrev S9x7 : Shape := ⟨2, ![9, 7]⟩
abbrev S1x64x9 : Shape := ⟨3, ![1, 64, 9]⟩
abbrev S1x9x64 : Shape := ⟨3, ![1, 9, 64]⟩
abbrev S1x9x1 : Shape := ⟨3, ![1, 9, 1]⟩
abbrev S1x9x66 : Shape := ⟨3, ![1, 9, 66]⟩
abbrev S9x9x1 : Shape := ⟨3, ![9, 9, 1]⟩
abbrev S9x9 : Shape := ⟨2, ![9, 9]⟩
abbrev S1x64x1 : Shape := ⟨3, ![1, 64, 1]⟩
abbrev S1x1x1 : Shape := ⟨3, ![1, 1, 1]⟩

abbrev nBuf : Space → Nat
  | .hbm => 391
  | .vmem => 0
  | .smem => 0
  | _ => 0

abbrev hbmTy0_0 (i : Nat) : BufTy := match i % 128 with
  | 0 => ⟨S10000x10000, .f32⟩
  | 1 => ⟨S1x64, .f32⟩
  | 2 => ⟨S1x10000, .f32⟩
  | 3 => ⟨S10000x512, .f32⟩
  | 4 => ⟨S512x256, .f32⟩
  | 5 => ⟨S256, .f32⟩
  | 6 => ⟨S256x257, .f32⟩
  | 7 => ⟨S257, .f32⟩
  | 8 => ⟨S128x64, .f32⟩
  | 9 => ⟨S64, .f32⟩
  | 10 => ⟨S3x1x3, .f32⟩
  | 11 => ⟨S3, .f32⟩
  | 12 => ⟨S3x3x3, .f32⟩
  | 13 => ⟨S3, .f32⟩
  | 14 => ⟨S3x1x1, .f32⟩
  | 15 => ⟨S3, .f32⟩
  | 16 => ⟨S5x3x3, .f32⟩
  | 17 => ⟨S5, .f32⟩
  | 18 => ⟨S5x5x3, .f32⟩
  | 19 => ⟨S5, .f32⟩
  | 20 => ⟨S5x3x1, .f32⟩
  | 21 => ⟨S5, .f32⟩
  | 22 => ⟨S7x5x3, .f32⟩
  | 23 => ⟨S7, .f32⟩
  | 24 => ⟨S7x7x3, .f32⟩
  | 25 => ⟨S7, .f32⟩
  | 26 => ⟨S7x5x1, .f32⟩
  | 27 => ⟨S7, .f32⟩
  | 28 => ⟨S9x7x3, .f32⟩
  | 29 => ⟨S9, .f32⟩
  | 30 => ⟨S9x9x3, .f32⟩
  | 31 => ⟨S9, .f32⟩
  | 32 => ⟨S9x7x1, .f32⟩
  | 33 => ⟨S9, .f32⟩
  | 34 => ⟨S9x1, .f32⟩
  | 35 => ⟨S1, .f32⟩
  | 36 => ⟨S10000, .i32⟩
  | 37 => ⟨S_, .i32⟩
  | 38 => ⟨S10000, .i32⟩
  | 39 => ⟨S10000, .i1⟩
  | 40 => ⟨S_, .i32⟩
  | 41 => ⟨S10000, .i32⟩
  | 42 => ⟨S10000, .i32⟩
  | 43 => ⟨S10000, .i32⟩
  | 44 => ⟨S10000x1, .i32⟩
  | 45 => ⟨S1, .i32⟩
  | 46 => ⟨S_, .i32⟩
  | 47 => ⟨S10000x1, .i32⟩
  | 48 => ⟨S10000x1, .i1⟩
  | 49 => ⟨S1x1, .i32⟩
  | 50 => ⟨S10000x1, .i32⟩
  | 51 => ⟨S10000x1, .i1⟩
  | 52 => ⟨S10000x1, .i1⟩
  | 53 => ⟨S_, .i1⟩
  | 54 => ⟨S10000, .i1⟩
  | 55 => ⟨S10000x512, .f32⟩
  | 56 => ⟨S10000x512, .i1⟩
  | 57 => ⟨S_, .f32⟩
  | 58 => ⟨S10000x512, .f32⟩
  | 59 => ⟨S10000x512, .f32⟩
  | 60 => ⟨S1x10000x512, .f32⟩
  | 61 => ⟨S10000x1x512, .f32⟩
  | 62 => ⟨S1x10000x512, .f32⟩
  | 63 => ⟨S1x10000x256, .f32⟩
  | 64 => ⟨S1x1x256, .f32⟩
  | 65 => ⟨S1x10000x256, .f32⟩
  | 66 => ⟨S1x10000x256, .f32⟩
  | 67 => ⟨S_, .f32⟩
  | 68 => ⟨S1x10000x256, .f32⟩
  | 69 => ⟨S1x10000x256, .f32⟩
  | 70 => ⟨S10000x1x256, .f32⟩
  | 71 => ⟨S1x10000x256, .f32⟩
  | 72 => ⟨S1x10000x257, .f32⟩
  | 73 => ⟨S1x1x257, .f32⟩
  | 74 => ⟨S1x10000x257, .f32⟩
  | 75 => ⟨S1x10000x257, .f32⟩
  | 76 => ⟨S_, .f32⟩
  | 77 => ⟨S1x10000x257, .f32⟩
  | 78 => ⟨S1x10000x257, .f32⟩
  | 79 => ⟨S_, .f32⟩
  | 80 => ⟨S_, .f32⟩
  | 81 => ⟨S1x10000x128, .f32⟩
  | 82 => ⟨S10000x1x128, .f32⟩
  | 83 => ⟨S1x10000x128, .f32⟩
  | 84 => ⟨S1x10000x64, .f32⟩
  | 85 => ⟨S1x1x64, .f32⟩
  | 86 => ⟨S1x10000x64, .f32⟩
  | 87 => ⟨S1x10000x64, .f32⟩
  | 88 => ⟨S1x1x64, .f32⟩
  | 89 => ⟨S_, .i32⟩
  | 90 => ⟨S_, .f32⟩
  | 91 => ⟨S1x1x66, .f32⟩
  | 92 => ⟨S3x1x1, .f32⟩
  | 93 => ⟨S3x1, .f32⟩
  | 94 => ⟨S1x1x64, .f32⟩
  | 95 => ⟨S1x64x3, .f32⟩
  | 96 => ⟨S1x3x64, .f32⟩
  | 97 => ⟨S3x1x1, .f32⟩
  | 98 => ⟨S3x1, .f32⟩
  | 99 => ⟨S1x1x64, .f32⟩
  | 100 => ⟨S1x64x3, .f32⟩
  | 101 => ⟨S1x3x64, .f32⟩
  | 102 => ⟨S3x1x1, .f32⟩
  | 103 => ⟨S3x1, .f32⟩
  | 104 => ⟨S1x1x64, .f32⟩
  | 105 => ⟨S1x64x3, .f32⟩
  | 106 => ⟨S1x3x64, .f32⟩
  | 107 => ⟨S1x3x64, .f32⟩
  | 108 => ⟨S1x3x64, .f32⟩
  | 109 => ⟨S1x3x1, .f32⟩
  | 110 => ⟨S1x3x64, .f32⟩
  | 111 => ⟨S1x3x64, .f32⟩
  | 112 => ⟨S_, .f32⟩
  | 113 => ⟨S1x3x64, .f32⟩
  | 114 => ⟨S1x3x64, .f32⟩
  | 115 => ⟨S_, .i32⟩
  | 116 => ⟨S_, .f32⟩
  | 117 => ⟨S1x3x66, .f32⟩
  | 118 => ⟨S3x3x1, .f32⟩
  | 119 => ⟨S3x3, .f32⟩
  | 120 => ⟨S1x3x64, .f32⟩
  | 121 => ⟨S1x64x3, .f32⟩
  | 122 => ⟨S1x3x64, .f32⟩
  | 123 => ⟨S3x3x1, .f32⟩
  | 124 => ⟨S3x3, .f32⟩
  | 125 => ⟨S1x3x64, .f32⟩
  | 126 => ⟨S1x64x3, .f32⟩
  | 127 => ⟨S1x3x64, .f32⟩
  | _ => ⟨S10000x10000, .f32⟩

abbrev hbmTy0_1 (i : Nat) : BufTy := match i % 128 with
  | 0 => ⟨S3x3x1, .f32⟩
  | 1 => ⟨S3x3, .f32⟩
  | 2 => ⟨S1x3x64, .f32⟩
  | 3 => ⟨S1x64x3, .f32⟩
  | 4 => ⟨S1x3x64, .f32⟩
  | 5 => ⟨S1x3x64, .f32⟩
  | 6 => ⟨S1x3x64, .f32⟩
  | 7 => ⟨S1x3x1, .f32⟩
  | 8 => ⟨S1x3x64, .f32⟩
  | 9 => ⟨S1x3x64, .f32⟩
  | 10 => ⟨S3x1, .f32⟩
  | 11 => ⟨S1x64x3, .f32⟩
  | 12 => ⟨S1x3x64, .f32⟩
  | 13 => ⟨S1x3x1, .f32⟩
  | 14 => ⟨S1x3x64, .f32⟩
  | 15 => ⟨S1x3x64, .f32⟩
  | 16 => ⟨S1x3x64, .f32⟩
  | 17 => ⟨S_, .f32⟩
  | 18 => ⟨S1x3x64, .f32⟩
  | 19 => ⟨S1x3x64, .f32⟩
  | 20 => ⟨S_, .i32⟩
  | 21 => ⟨S_, .f32⟩
  | 22 => ⟨S1x3x66, .f32⟩
  | 23 => ⟨S5x3x1, .f32⟩
  | 24 => ⟨S5x3, .f32⟩
  | 25 => ⟨S1x3x64, .f32⟩
  | 26 => ⟨S1x64x5, .f32⟩
  | 27 => ⟨S1x5x64, .f32⟩
  | 28 => ⟨S5x3x1, .f32⟩
  | 29 => ⟨S5x3, .f32⟩
  | 30 => ⟨S1x3x64, .f32⟩
  | 31 => ⟨S1x64x5, .f32⟩
  | 32 => ⟨S1x5x64, .f32⟩
  | 33 => ⟨S5x3x1, .f32⟩
  | 34 => ⟨S5x3, .f32⟩
  | 35 => ⟨S1x3x64, .f32⟩
  | 36 => ⟨S1x64x5, .f32⟩
  | 37 => ⟨S1x5x64, .f32⟩
  | 38 => ⟨S1x5x64, .f32⟩
  | 39 => ⟨S1x5x64, .f32⟩
  | 40 => ⟨S1x5x1, .f32⟩
  | 41 => ⟨S1x5x64, .f32⟩
  | 42 => ⟨S1x5x64, .f32⟩
  | 43 => ⟨S_, .f32⟩
  | 44 => ⟨S1x5x64, .f32⟩
  | 45 => ⟨S1x5x64, .f32⟩
  | 46 => ⟨S_, .i32⟩
  | 47 => ⟨S_, .f32⟩
  | 48 => ⟨S1x5x66, .f32⟩
  | 49 => ⟨S5x5x1, .f32⟩
  | 50 => ⟨S5x5, .f32⟩
  | 51 => ⟨S1x5x64, .f32⟩
  | 52 => ⟨S1x64x5, .f32⟩
  | 53 => ⟨S1x5x64, .f32⟩
  | 54 => ⟨S5x5x1, .f32⟩
  | 55 => ⟨S5x5, .f32⟩
  | 56 => ⟨S1x5x64, .f32⟩
  | 57 => ⟨S1x64x5, .f32⟩
  | 58 => ⟨S1x5x64, .f32⟩
  | 59 => ⟨S5x5x1, .f32⟩
  | 60 => ⟨S5x5, .f32⟩
  | 61 => ⟨S1x5x64, .f32⟩
  | 62 => ⟨S1x64x5, .f32⟩
  | 63 => ⟨S1x5x64, .f32⟩
  | 64 => ⟨S1x5x64, .f32⟩
  | 65 => ⟨S1x5x64, .f32⟩
  | 66 => ⟨S1x5x1, .f32⟩
  | 67 => ⟨S1x5x64, .f32⟩
  | 68 => ⟨S1x5x64, .f32⟩
  | 69 => ⟨S5x3, .f32⟩
  | 70 => ⟨S1x64x5, .f32⟩
  | 71 => ⟨S1x5x64, .f32⟩
  | 72 => ⟨S1x5x1, .f32⟩
  | 73 => ⟨S1x5x64, .f32⟩
  | 74 => ⟨S1x5x64, .f32⟩
  | 75 => ⟨S1x5x64, .f32⟩
  | 76 => ⟨S_, .f32⟩
  | 77 => ⟨S1x5x64, .f32⟩
  | 78 => ⟨S1x5x64, .f32⟩
  | 79 => ⟨S_, .i32⟩
  | 80 => ⟨S_, .f32⟩
  | 81 => ⟨S1x5x66, .f32⟩
  | 82 => ⟨S7x5x1, .f32⟩
  | 83 => ⟨S7x5, .f32⟩
  | 84 => ⟨S1x5x64, .f32⟩
  | 85 => ⟨S1x64x7, .f32⟩
  | 86 => ⟨S1x7x64, .f32⟩
  | 87 => ⟨S7x5x1, .f32⟩
  | 88 => ⟨S7x5, .f32⟩
  | 89 => ⟨S1x5x64, .f32⟩
  | 90 => ⟨S1x64x7, .f32⟩
  | 91 => ⟨S1x7x64, .f32⟩
  | 92 => ⟨S7x5x1, .f32⟩
  | 93 => ⟨S7x5, .f32⟩
  | 94 => ⟨S1x5x64, .f32⟩
  | 95 => ⟨S1x64x7, .f32⟩
  | 96 => ⟨S1x7x64, .f32⟩
  | 97 => ⟨S1x7x64, .f32⟩
  | 98 => ⟨S1x7x64, .f32⟩
  | 99 => ⟨S1x7x1, .f32⟩
  | 100 => ⟨S1x7x64, .f32⟩
  | 101 => ⟨S1x7x64, .f32⟩
  | 102 => ⟨S_, .f32⟩
  | 103 => ⟨S1x7x64, .f32⟩
  | 104 => ⟨S1x7x64, .f32⟩
  | 105 => ⟨S_, .i32⟩
  | 106 => ⟨S_, .f32⟩
  | 107 => ⟨S1x7x66, .f32⟩
  | 108 => ⟨S7x7x1, .f32⟩
  | 109 => ⟨S7x7, .f32⟩
  | 110 => ⟨S1x7x64, .f32⟩
  | 111 => ⟨S1x64x7, .f32⟩
  | 112 => ⟨S1x7x64, .f32⟩
  | 113 => ⟨S7x7x1, .f32⟩
  | 114 => ⟨S7x7, .f32⟩
  | 115 => ⟨S1x7x64, .f32⟩
  | 116 => ⟨S1x64x7, .f32⟩
  | 117 => ⟨S1x7x64, .f32⟩
  | 118 => ⟨S7x7x1, .f32⟩
  | 119 => ⟨S7x7, .f32⟩
  | 120 => ⟨S1x7x64, .f32⟩
  | 121 => ⟨S1x64x7, .f32⟩
  | 122 => ⟨S1x7x64, .f32⟩
  | 123 => ⟨S1x7x64, .f32⟩
  | 124 => ⟨S1x7x64, .f32⟩
  | 125 => ⟨S1x7x1, .f32⟩
  | 126 => ⟨S1x7x64, .f32⟩
  | 127 => ⟨S1x7x64, .f32⟩
  | _ => ⟨S10000x10000, .f32⟩

abbrev hbmTy0_2 (i : Nat) : BufTy := match i % 128 with
  | 0 => ⟨S7x5, .f32⟩
  | 1 => ⟨S1x64x7, .f32⟩
  | 2 => ⟨S1x7x64, .f32⟩
  | 3 => ⟨S1x7x1, .f32⟩
  | 4 => ⟨S1x7x64, .f32⟩
  | 5 => ⟨S1x7x64, .f32⟩
  | 6 => ⟨S1x7x64, .f32⟩
  | 7 => ⟨S_, .f32⟩
  | 8 => ⟨S1x7x64, .f32⟩
  | 9 => ⟨S1x7x64, .f32⟩
  | 10 => ⟨S_, .i32⟩
  | 11 => ⟨S_, .f32⟩
  | 12 => ⟨S1x7x66, .f32⟩
  | 13 => ⟨S9x7x1, .f32⟩
  | 14 => ⟨S9x7, .f32⟩
  | 15 => ⟨S1x7x64, .f32⟩
  | 16 => ⟨S1x64x9, .f32⟩
  | 17 => ⟨S1x9x64, .f32⟩
  | 18 => ⟨S9x7x1, .f32⟩
  | 19 => ⟨S9x7, .f32⟩
  | 20 => ⟨S1x7x64, .f32⟩
  | 21 => ⟨S1x64x9, .f32⟩
  | 22 => ⟨S1x9x64, .f32⟩
  | 23 => ⟨S9x7x1, .f32⟩
  | 24 => ⟨S9x7, .f32⟩
  | 25 => ⟨S1x7x64, .f32⟩
  | 26 => ⟨S1x64x9, .f32⟩
  | 27 => ⟨S1x9x64, .f32⟩
  | 28 => ⟨S1x9x64, .f32⟩
  | 29 => ⟨S1x9x64, .f32⟩
  | 30 => ⟨S1x9x1, .f32⟩
  | 31 => ⟨S1x9x64, .f32⟩
  | 32 => ⟨S1x9x64, .f32⟩
  | 33 => ⟨S_, .f32⟩
  | 34 => ⟨S1x9x64, .f32⟩
  | 35 => ⟨S1x9x64, .f32⟩
  | 36 => ⟨S_, .i32⟩
  | 37 => ⟨S_, .f32⟩
  | 38 => ⟨S1x9x66, .f32⟩
  | 39 => ⟨S9x9x1, .f32⟩
  | 40 => ⟨S9x9, .f32⟩
  | 41 => ⟨S1x9x64, .f32⟩
  | 42 => ⟨S1x64x9, .f32⟩
  | 43 => ⟨S1x9x64, .f32⟩
  | 44 => ⟨S9x9x1, .f32⟩
  | 45 => ⟨S9x9, .f32⟩
  | 46 => ⟨S1x9x64, .f32⟩
  | 47 => ⟨S1x64x9, .f32⟩
  | 48 => ⟨S1x9x64, .f32⟩
  | 49 => ⟨S9x9x1, .f32⟩
  | 50 => ⟨S9x9, .f32⟩
  | 51 => ⟨S1x9x64, .f32⟩
  | 52 => ⟨S1x64x9, .f32⟩
  | 53 => ⟨S1x9x64, .f32⟩
  | 54 => ⟨S1x9x64, .f32⟩
  | 55 => ⟨S1x9x64, .f32⟩
  | 56 => ⟨S1x9x1, .f32⟩
  | 57 => ⟨S1x9x64, .f32⟩
  | 58 => ⟨S1x9x64, .f32⟩
  | 59 => ⟨S9x7, .f32⟩
  | 60 => ⟨S1x64x9, .f32⟩
  | 61 => ⟨S1x9x64, .f32⟩
  | 62 => ⟨S1x9x1, .f32⟩
  | 63 => ⟨S1x9x64, .f32⟩
  | 64 => ⟨S1x9x64, .f32⟩
  | 65 => ⟨S1x9x64, .f32⟩
  | 66 => ⟨S_, .f32⟩
  | 67 => ⟨S1x9x64, .f32⟩
  | 68 => ⟨S1x9x64, .f32⟩
  | 69 => ⟨S1x64x9, .f32⟩
  | 70 => ⟨S1x64x1, .f32⟩
  | 71 => ⟨S1x1x1, .f32⟩
  | 72 => ⟨S1x64x1, .f32⟩
  | 73 => ⟨S1x64x1, .f32⟩
  | 74 => ⟨S1x64, .f32⟩
  | 75 => ⟨S1x1x64, .f32⟩
  | 76 => ⟨S1x10000x64, .f32⟩
  | 77 => ⟨S1x10000x64, .f32⟩
  | 78 => ⟨S_, .f32⟩
  | 79 => ⟨S1x10000, .f32⟩
  | 80 => ⟨S1x10000x64, .f32⟩
  | 81 => ⟨S_, .f32⟩
  | 82 => ⟨S1x10000, .f32⟩
  | 83 => ⟨S1x10000, .f32⟩
  | 84 => ⟨S1x10000x64, .f32⟩
  | 85 => ⟨S_, .f32⟩
  | 86 => ⟨S1x10000, .f32⟩
  | 87 => ⟨S1x10000, .f32⟩
  | 88 => ⟨S1x10000, .f32⟩
  | 89 => ⟨S_, .f32⟩
  | 90 => ⟨S1x10000, .f32⟩
  | 91 => ⟨S1x10000, .f32⟩
  | 92 => ⟨S1x10000, .f32⟩
  | 93 => ⟨S1x1, .f32⟩
  | 94 => ⟨S1x1, .i32⟩
  | 95 => ⟨S1x1, .f32⟩
  | 96 => ⟨S1x1, .i32⟩
  | 97 => ⟨S_, .f32⟩
  | 98 => ⟨S1, .f32⟩
  | 99 => ⟨S1x1, .f32⟩
  | 100 => ⟨S1x10000, .f32⟩
  | 101 => ⟨S1x10000, .f32⟩
  | 102 => ⟨S1x10000, .f32⟩
  | 103 => ⟨S_, .f32⟩
  | 104 => ⟨S1, .f32⟩
  | 105 => ⟨S1, .f32⟩
  | 106 => ⟨S1, .f32⟩
  | 107 => ⟨S1, .f32⟩
  | 108 => ⟨S_, .i32⟩
  | 109 => ⟨S1x1, .i32⟩
  | 110 => ⟨S1x1, .i1⟩
  | 111 => ⟨S_, .i32⟩
  | 112 => ⟨S1x1, .i32⟩
  | 113 => ⟨S1x1, .i32⟩
  | 114 => ⟨S1x1, .i32⟩
  | 115 => ⟨S1, .i32⟩
  | 116 => ⟨S_, .i32⟩
  | 117 => ⟨S1x1, .i32⟩
  | 118 => ⟨S1x1, .i1⟩
  | 119 => ⟨S1x1, .i32⟩
  | 120 => ⟨S1x1, .i1⟩
  | 121 => ⟨S1x1, .i1⟩
  | 122 => ⟨S_, .i1⟩
  | 123 => ⟨S1, .i1⟩
  | 124 => ⟨S1x1, .f32⟩
  | 125 => ⟨S1x1, .i1⟩
  | 126 => ⟨S_, .f32⟩
  | 127 => ⟨S1x1, .f32⟩
  | _ => ⟨S10000x10000, .f32⟩

abbrev hbmTy0_3 (i : Nat) : BufTy := match i % 128 with
  | 0 => ⟨S1x1, .f32⟩
  | 1 => ⟨S1, .f32⟩
  | 2 => ⟨S1, .f32⟩
  | 3 => ⟨S_, .f32⟩
  | 4 => ⟨S_, .f32⟩
  | 5 => ⟨S_, .f32⟩
  | 6 => ⟨S_, .f32⟩
  | _ => ⟨S10000x10000, .f32⟩

abbrev hbmTy (i : Nat) : BufTy := match i / 128 with
  | 0 => hbmTy0_0 i
  | 1 => hbmTy0_1 i
  | 2 => hbmTy0_2 i
  | 3 => hbmTy0_3 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_call1_cst : Ref sig .tc := ⟨.hbm, 67, rfl⟩
abbrev main_call1_v0 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_call2_cst : Ref sig .tc := ⟨.hbm, 76, rfl⟩
abbrev main_call2_v0 : Ref sig .tc := ⟨.hbm, 77, rfl⟩
abbrev main_v16 : Ref sig .tc := ⟨.hbm, 78, rfl⟩
abbrev main_cst : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_c : Ref sig .tc := ⟨.hbm, 89, rfl⟩
abbrev main_call3_v0 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_call4_cst : Ref sig .tc := ⟨.hbm, 112, rfl⟩
abbrev main_call4_v0 : Ref sig .tc := ⟨.hbm, 113, rfl⟩
abbrev main_v47 : Ref sig .tc := ⟨.hbm, 114, rfl⟩
abbrev main_c_0 : Ref sig .tc := ⟨.hbm, 115, rfl⟩
abbrev main_call5_v0 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_call6_cst : Ref sig .tc := ⟨.hbm, 145, rfl⟩
abbrev main_call6_v0 : Ref sig .tc := ⟨.hbm, 146, rfl⟩
abbrev main_v76 : Ref sig .tc := ⟨.hbm, 147, rfl⟩
abbrev main_c_1 : Ref sig .tc := ⟨.hbm, 148, rfl⟩
abbrev main_call7_v0 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_call8_cst : Ref sig .tc := ⟨.hbm, 171, rfl⟩
abbrev main_call8_v0 : Ref sig .tc := ⟨.hbm, 172, rfl⟩
abbrev main_v98 : Ref sig .tc := ⟨.hbm, 173, rfl⟩
abbrev main_c_2 : Ref sig .tc := ⟨.hbm, 174, rfl⟩
abbrev main_call9_v0 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_call10_cst : Ref sig .tc := ⟨.hbm, 204, rfl⟩
abbrev main_call10_v0 : Ref sig .tc := ⟨.hbm, 205, rfl⟩
abbrev main_v127 : Ref sig .tc := ⟨.hbm, 206, rfl⟩
abbrev main_c_3 : Ref sig .tc := ⟨.hbm, 207, rfl⟩
abbrev main_call11_v0 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_call12_cst : Ref sig .tc := ⟨.hbm, 230, rfl⟩
abbrev main_call12_v0 : Ref sig .tc := ⟨.hbm, 231, rfl⟩
abbrev main_v149 : Ref sig .tc := ⟨.hbm, 232, rfl⟩
abbrev main_c_4 : Ref sig .tc := ⟨.hbm, 233, rfl⟩
abbrev main_call13_v0 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_call14_cst : Ref sig .tc := ⟨.hbm, 263, rfl⟩
abbrev main_call14_v0 : Ref sig .tc := ⟨.hbm, 264, rfl⟩
abbrev main_v178 : Ref sig .tc := ⟨.hbm, 265, rfl⟩
abbrev main_c_5 : Ref sig .tc := ⟨.hbm, 266, rfl⟩
abbrev main_call15_v0 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_call16_cst : Ref sig .tc := ⟨.hbm, 289, rfl⟩
abbrev main_call16_v0 : Ref sig .tc := ⟨.hbm, 290, rfl⟩
abbrev main_v200 : Ref sig .tc := ⟨.hbm, 291, rfl⟩
abbrev main_c_6 : Ref sig .tc := ⟨.hbm, 292, rfl⟩
abbrev main_call17_v0 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_call18_cst : Ref sig .tc := ⟨.hbm, 322, rfl⟩
abbrev main_call18_v0 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_cst_7 : Ref sig .tc := ⟨.hbm, 334, rfl⟩
abbrev main_v239 : Ref sig .tc := ⟨.hbm, 335, rfl⟩
abbrev main_call19_v0 : Ref sig .tc := ⟨.hbm, 336, rfl⟩
abbrev main_call19_cst : Ref sig .tc := ⟨.hbm, 337, rfl⟩
abbrev main_call19_v1 : Ref sig .tc := ⟨.hbm, 338, rfl⟩
abbrev main_v240 : Ref sig .tc := ⟨.hbm, 339, rfl⟩
abbrev main_call20_v0 : Ref sig .tc := ⟨.hbm, 340, rfl⟩
abbrev main_call20_cst : Ref sig .tc := ⟨.hbm, 341, rfl⟩
abbrev main_call20_v1 : Ref sig .tc := ⟨.hbm, 342, rfl⟩
abbrev main_v241 : Ref sig .tc := ⟨.hbm, 343, rfl⟩
abbrev main_v242 : Ref sig .tc := ⟨.hbm, 344, rfl⟩
abbrev main_cst_8 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_values : Ref sig .tc := ⟨.hbm, 349, rfl⟩
abbrev main_indices : Ref sig .tc := ⟨.hbm, 350, rfl⟩
abbrev main_values_9 : Ref sig .tc := ⟨.hbm, 351, rfl⟩
abbrev main_indices_10 : Ref sig .tc := ⟨.hbm, 352, rfl⟩
abbrev main_cst_11 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_cst_12 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_call21_c : Ref sig .tc := ⟨.hbm, 364, rfl⟩
abbrev main_call21_v0 : Ref sig .tc := ⟨.hbm, 365, rfl⟩
abbrev main_call21_v1 : Ref sig .tc := ⟨.hbm, 366, rfl⟩
abbrev main_call21_c_0 : Ref sig .tc := ⟨.hbm, 367, rfl⟩
abbrev main_call21_v2 : Ref sig .tc := ⟨.hbm, 368, rfl⟩
abbrev main_call21_v3 : Ref sig .tc := ⟨.hbm, 369, rfl⟩
abbrev main_call21_v4 : Ref sig .tc := ⟨.hbm, 370, rfl⟩
abbrev main_call21_c_1 : Ref sig .tc := ⟨.hbm, 371, rfl⟩
abbrev main_call21_c_2 : Ref sig .tc := ⟨.hbm, 372, rfl⟩
abbrev main_call21_v5 : Ref sig .tc := ⟨.hbm, 373, rfl⟩
abbrev main_call21_v6 : Ref sig .tc := ⟨.hbm, 374, rfl⟩
abbrev main_call21_v7 : Ref sig .tc := ⟨.hbm, 375, rfl⟩
abbrev main_call21_v8 : Ref sig .tc := ⟨.hbm, 376, rfl⟩
abbrev main_call21_v9 : Ref sig .tc := ⟨.hbm, 377, rfl⟩
abbrev main_call21_c_3 : Ref sig .tc := ⟨.hbm, 378, rfl⟩
abbrev main_call21_v10 : Ref sig .tc := ⟨.hbm, 379, rfl⟩
abbrev main_call21_v11 : Ref sig .tc := ⟨.hbm, 380, rfl⟩
abbrev main_call21_v12 : Ref sig .tc := ⟨.hbm, 381, rfl⟩
abbrev main_call21_cst : Ref sig .tc := ⟨.hbm, 382, rfl⟩
abbrev main_call21_v13 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_cst_13 : Ref sig .tc := ⟨.hbm, 387, rfl⟩
abbrev main_v258 : Ref sig .tc := ⟨.hbm, 388, rfl⟩
abbrev main_cst_14 : Ref sig .tc := ⟨.hbm, 389, rfl⟩
abbrev main_v259 : Ref sig .tc := ⟨.hbm, 390, rfl⟩

abbrev nD : Nat := 1
abbrev τ : Topo := Topo.v7x

variable {F : FTy → Type} [FloatOps F]
-- ==== Proof.KernelIdeal.Region0.lean ====
/- The region of pallas_call 0 of `KernelIdeal`: what each staging buffer holds before and after the body,
   the body's triple, and the pipeline's body obligation, at any entry contents `W`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem before0_0_of {c : Dev nD} (dat : Dat τ (Elt F) Unit ℕ (UR sig nD τ) ℕ cfg0 c) (hA : dat.A 0 = W c (Proc.devRef .tc (Pipeline.arrRef spec0 0)))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = W c (Proc.devRef .tc (Pipeline.arrRef spec0 1)))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = W c (Proc.devRef .tc (Pipeline.arrRef spec0 2)))
    (hafter : ∀ t, dat.after 2 t = iblk0 W c 2 t) (t : Fin cfg0.N) (d) : dat.before 2 t d = iblk0 W c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = W c (Proc.devRef .tc (Pipeline.arrRef spec0 3)))
    (hafter : ∀ t, dat.after 3 t = iblk0 W c 3 t) (t : Fin cfg0.N) (d) : dat.before 3 t d = iblk0 W c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = W c (Proc.devRef .tc (Pipeline.arrRef spec0 4)))
    (hafter : ∀ t, dat.after 4 t = iblk0 W c 4 t) (t : Fin cfg0.N) (d) : dat.before 4 t d = iblk0 W c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = W c (Proc.devRef .tc (Pipeline.arrRef spec0 5)))
    (hafter : ∀ t, dat.after 5 t = iblk0 W c 5 t) (t : Fin cfg0.N) (d) : dat.before 5 t d = iblk0 W c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = W c (Proc.devRef .tc (Pipeline.arrRef spec0 6)))
    (hafter : ∀ t, dat.after 6 t = iblk0 W c 6 t) (t : Fin cfg0.N) (d) : dat.before 6 t d = iblk0 W c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = W c (Proc.devRef .tc (Pipeline.arrRef spec0 7)))
    (hafter : ∀ t, dat.after 7 t = iblk0 W c 7 t) (t : Fin cfg0.N) (d) : dat.before 7 t d = iblk0 W c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = W c (Proc.devRef .tc (Pipeline.arrRef spec0 8)))
    (hafter : ∀ t, dat.after 8 t = iblk0 W c 8 t) (t : Fin cfg0.N) (d) : dat.before 8 t d = iblk0 W c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = W c (Proc.devRef .tc (Pipeline.arrRef spec0 9)))
    (hafter : ∀ t, dat.after 9 t = iblk0 W c 9 t) (t : Fin cfg0.N) (d) : dat.before 9 t d = iblk0 W c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = W c (Proc.devRef .tc (Pipeline.arrRef spec0 10)))
    (hafter : ∀ t, dat.after 10 t = iblk0 W c 10 t) (t : Fin cfg0.N) (d) : dat.before 10 t d = iblk0 W c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = W c (Proc.devRef .tc (Pipeline.arrRef spec0 11)))
    (hafter : ∀ t, dat.after 11 t = iblk0 W c 11 t) (t : Fin cfg0.N) (d) : dat.before 11 t d = iblk0 W c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = W c (Proc.devRef .tc (Pipeline.arrRef spec0 12)))
    (hafter : ∀ t, dat.after 12 t = iblk0 W c 12 t) (t : Fin cfg0.N) (d) : dat.before 12 t d = iblk0 W c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = W c (Proc.devRef .tc (Pipeline.arrRef spec0 13)))
    (hafter : ∀ t, dat.after 13 t = iblk0 W c 13 t) (t : Fin cfg0.N) (d) : dat.before 13 t d = iblk0 W c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = W c (Proc.devRef .tc (Pipeline.arrRef spec0 14)))
    (hafter : ∀ t, dat.after 14 t = iblk0 W c 14 t) (t : Fin cfg0.N) (d) : dat.before 14 t d = iblk0 W c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = W c (Proc.devRef .tc (Pipeline.arrRef spec0 15)))
    (hafter : ∀ t, dat.after 15 t = iblk0 W c 15 t) (t : Fin cfg0.N) (d) : dat.before 15 t d = iblk0 W c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = W c (Proc.devRef .tc (Pipeline.arrRef spec0 16)))
    (hafter : ∀ t, dat.after 16 t = iblk0 W c 16 t) (t : Fin cfg0.N) (d) : dat.before 16 t d = iblk0 W c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = W c (Proc.devRef .tc (Pipeline.arrRef spec0 17)))
    (hafter : ∀ t, dat.after 17 t = iblk0 W c 17 t) (t : Fin cfg0.N) (d) : dat.before 17 t d = iblk0 W c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = W c (Proc.devRef .tc (Pipeline.arrRef spec0 18)))
    (hafter : ∀ t, dat.after 18 t = iblk0 W c 18 t) (t : Fin cfg0.N) (d) : dat.before 18 t d = iblk0 W c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = W c (Proc.devRef .tc (Pipeline.arrRef spec0 19)))
    (hafter : ∀ t, dat.after 19 t = iblk0 W c 19 t) (t : Fin cfg0.N) (d) : dat.before 19 t d = iblk0 W c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = W c (Proc.devRef .tc (Pipeline.arrRef spec0 20)))
    (hafter : ∀ t, dat.after 20 t = iblk0 W c 20 t) (t : Fin cfg0.N) (d) : dat.before 20 t d = iblk0 W c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = W c (Proc.devRef .tc (Pipeline.arrRef spec0 21)))
    (hafter : ∀ t, dat.after 21 t = iblk0 W c 21 t) (t : Fin cfg0.N) (d) : dat.before 21 t d = iblk0 W c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = W c (Proc.devRef .tc (Pipeline.arrRef spec0 22)))
    (hafter : ∀ t, dat.after 22 t = iblk0 W c 22 t) (t : Fin cfg0.N) (d) : dat.before 22 t d = iblk0 W c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
theorem before0_23_of {c : Dev nD} (dat : Dat τ (Elt F) Unit ℕ (UR sig nD τ) ℕ cfg0 c) (hA : dat.A 23 = W c (Proc.devRef .tc (Pipeline.arrRef spec0 23)))
    (hafter : ∀ t, dat.after 23 t = iblk0 W c 23 t) (t : Fin cfg0.N) (d) : dat.before 23 t d = iblk0 W c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)
theorem before0_24_of {c : Dev nD} (dat : Dat τ (Elt F) Unit ℕ (UR sig nD τ) ℕ cfg0 c) (hA : dat.A 24 = W c (Proc.devRef .tc (Pipeline.arrRef spec0 24)))
    (hafter : ∀ t, dat.after 24 t = iblk0 W c 24 t) (t : Fin cfg0.N) (d) : dat.before 24 t d = iblk0 W c 24 t :=
  (dat.before_in_eq_fetched 24 rfl (fun _ => rfl) (fun _ _ _ => rfl) (fun t => by rw [hafter]; unfold Dat.blockOf iblk0; rw [hA]; try rfl) t d).trans
    (by unfold Dat.fetched Dat.blockOf iblk0; rw [hA]; try rfl)
theorem before0_25_of {c : Dev nD} (dat : Dat τ (Elt F) Unit ℕ (UR sig nD τ) ℕ cfg0 c) (hA : dat.A 25 = W c (Proc.devRef .tc (Pipeline.arrRef spec0 25)))
    (hafter : ∀ t, dat.after 25 t = iblk0 W c 25 t) (t : Fin cfg0.N) (d) : dat.before 25 t d = iblk0 W c 25 t :=
  (dat.before_in_eq_fetched 25 rfl (fun _ => rfl) (fun _ _ _ => rfl) (fun t => by rw [hafter]; unfold Dat.blockOf iblk0; rw [hA]; try rfl) t d).trans
    (by unfold Dat.fetched Dat.blockOf iblk0; rw [hA]; try rfl)
theorem before0_26_of {c : Dev nD} (dat : Dat τ (Elt F) Unit ℕ (UR sig nD τ) ℕ cfg0 c) (hA : dat.A 26 = W c (Proc.devRef .tc (Pipeline.arrRef spec0 26)))
    (hafter : ∀ t, dat.after 26 t = iblk0 W c 26 t) (t : Fin cfg0.N) (d) : dat.before 26 t d = iblk0 W c 26 t :=
  (dat.before_in_eq_fetched 26 rfl (fun _ => rfl) (fun _ _ _ => rfl) (fun t => by rw [hafter]; unfold Dat.blockOf iblk0; rw [hA]; try rfl) t d).trans
    (by unfold Dat.fetched Dat.blockOf iblk0; rw [hA]; try rfl)
theorem before0_27_of {c : Dev nD} (dat : Dat τ (Elt F) Unit ℕ (UR sig nD τ) ℕ cfg0 c) (hA : dat.A 27 = W c (Proc.devRef .tc (Pipeline.arrRef spec0 27)))
    (hafter : ∀ t, dat.after 27 t = iblk0 W c 27 t) (t : Fin cfg0.N) (d) : dat.before 27 t d = iblk0 W c 27 t :=
  (dat.before_in_eq_fetched 27 rfl (fun _ => rfl) (fun _ _ _ => rfl) (fun t => by rw [hafter]; unfold Dat.blockOf iblk0; rw [hA]; try rfl) t d).trans
    (by unfold Dat.fetched Dat.blockOf iblk0; rw [hA]; try rfl)
theorem before0_28_of {c : Dev nD} (dat : Dat τ (Elt F) Unit ℕ (UR sig nD τ) ℕ cfg0 c) (hA : dat.A 28 = W c (Proc.devRef .tc (Pipeline.arrRef spec0 28)))
    (hafter : ∀ t, dat.after 28 t = iblk0 W c 28 t) (t : Fin cfg0.N) (d) : dat.before 28 t d = iblk0 W c 28 t :=
  (dat.before_in_eq_fetched 28 rfl (fun _ => rfl) (fun _ _ _ => rfl) (fun t => by rw [hafter]; unfold Dat.blockOf iblk0; rw [hA]; try rfl) t d).trans
    (by unfold Dat.fetched Dat.blockOf iblk0; rw [hA]; try rfl)
theorem before0_29_of {c : Dev nD} (dat : Dat τ (Elt F) Unit ℕ (UR sig nD τ) ℕ cfg0 c) (hA : dat.A 29 = W c (Proc.devRef .tc (Pipeline.arrRef spec0 29)))
    (hafter : ∀ t, dat.after 29 t = iblk0 W c 29 t) (t : Fin cfg0.N) (d) : dat.before 29 t d = iblk0 W c 29 t :=
  (dat.before_in_eq_fetched 29 rfl (fun _ => rfl) (fun _ _ _ => rfl) (fun t => by rw [hafter]; unfold Dat.blockOf iblk0; rw [hA]; try rfl) t d).trans
    (by unfold Dat.fetched Dat.blockOf iblk0; rw [hA]; try rfl)
theorem before0_30_of {c : Dev nD} (dat : Dat τ (Elt F) Unit ℕ (UR sig nD τ) ℕ cfg0 c) (hA : dat.A 30 = W c (Proc.devRef .tc (Pipeline.arrRef spec0 30)))
    (hafter : ∀ t, dat.after 30 t = iblk0 W c 30 t) (t : Fin cfg0.N) (d) : dat.before 30 t d = iblk0 W c 30 t :=
  (dat.before_in_eq_fetched 30 rfl (fun _ => rfl) (fun _ _ _ => rfl) (fun t => by rw [hafter]; unfold Dat.blockOf iblk0; rw [hA]; try rfl) t d).trans
    (by unfold Dat.fetched Dat.blockOf iblk0; rw [hA]; try rfl)
theorem before0_31_of {c : Dev nD} (dat : Dat τ (Elt F) Unit ℕ (UR sig nD τ) ℕ cfg0 c) (hA : dat.A 31 = W c (Proc.devRef .tc (Pipeline.arrRef spec0 31)))
    (hafter : ∀ t, dat.after 31 t = iblk0 W c 31 t) (t : Fin cfg0.N) (d) : dat.before 31 t d = iblk0 W c 31 t :=
  (dat.before_in_eq_fetched 31 rfl (fun _ => rfl) (fun _ _ _ => rfl) (fun t => by rw [hafter]; unfold Dat.blockOf iblk0; rw [hA]; try rfl) t d).trans
    (by unfold Dat.fetched Dat.blockOf iblk0; rw [hA]; try rfl)
theorem before0_32_of {c : Dev nD} (dat : Dat τ (Elt F) Unit ℕ (UR sig nD τ) ℕ cfg0 c) (hA : dat.A 32 = W c (Proc.devRef .tc (Pipeline.arrRef spec0 32)))
    (hafter : ∀ t, dat.after 32 t = iblk0 W c 32 t) (t : Fin cfg0.N) (d) : dat.before 32 t d = iblk0 W c 32 t :=
  (dat.before_in_eq_fetched 32 rfl (fun _ => rfl) (fun _ _ _ => rfl) (fun t => by rw [hafter]; unfold Dat.blockOf iblk0; rw [hA]; try rfl) t d).trans
    (by unfold Dat.fetched Dat.blockOf iblk0; rw [hA]; try rfl)
theorem before0_33_of {c : Dev nD} (dat : Dat τ (Elt F) Unit ℕ (UR sig nD τ) ℕ cfg0 c) (hA : dat.A 33 = W c (Proc.devRef .tc (Pipeline.arrRef spec0 33)))
    (hafter : ∀ t, dat.after 33 t = iblk0 W c 33 t) (t : Fin cfg0.N) (d) : dat.before 33 t d = iblk0 W c 33 t :=
  (dat.before_in_eq_fetched 33 rfl (fun _ => rfl) (fun _ _ _ => rfl) (fun t => by rw [hafter]; unfold Dat.blockOf iblk0; rw [hA]; try rfl) t d).trans
    (by unfold Dat.fetched Dat.blockOf iblk0; rw [hA]; try rfl)
theorem before0_34_of {c : Dev nD} (dat : Dat τ (Elt F) Unit ℕ (UR sig nD τ) ℕ cfg0 c) (hA : dat.A 34 = W c (Proc.devRef .tc (Pipeline.arrRef spec0 34)))
    (hafter : ∀ t, dat.after 34 t = iblk0 W c 34 t) (t : Fin cfg0.N) (d) : dat.before 34 t d = iblk0 W c 34 t :=
  (dat.before_in_eq_fetched 34 rfl (fun _ => rfl) (fun _ _ _ => rfl) (fun t => by rw [hafter]; unfold Dat.blockOf iblk0; rw [hA]; try rfl) t d).trans
    (by unfold Dat.fetched Dat.blockOf iblk0; rw [hA]; try rfl)
theorem before0_35_of {c : Dev nD} (dat : Dat τ (Elt F) Unit ℕ (UR sig nD τ) ℕ cfg0 c) (hA : dat.A 35 = W c (Proc.devRef .tc (Pipeline.arrRef spec0 35)))
    (hafter : ∀ t, dat.after 35 t = iblk0 W c 35 t) (t : Fin cfg0.N) (d) : dat.before 35 t d = iblk0 W c 35 t :=
  (dat.before_in_eq_fetched 35 rfl (fun _ => rfl) (fun _ _ _ => rfl) (fun t => by rw [hafter]; unfold Dat.blockOf iblk0; rw [hA]; try rfl) t d).trans
    (by unfold Dat.fetched Dat.blockOf iblk0; rw [hA]; try rfl)
theorem before0_36_of {c : Dev nD} (dat : Dat τ (Elt F) Unit ℕ (UR sig nD τ) ℕ cfg0 c) (hA : dat.A 36 = W c (Proc.devRef .tc (Pipeline.arrRef spec0 36)))
    (hafter : ∀ t, dat.after 36 t = iblk0 W c 36 t) (t : Fin cfg0.N) (d) : dat.before 36 t d = iblk0 W c 36 t :=
  (dat.before_in_eq_fetched 36 rfl (fun _ => rfl) (fun _ _ _ => rfl) (fun t => by rw [hafter]; unfold Dat.blockOf iblk0; rw [hA]; try rfl) t d).trans
    (by unfold Dat.fetched Dat.blockOf iblk0; rw [hA]; try rfl)
theorem before0_37_of {c : Dev nD} (dat : Dat τ (Elt F) Unit ℕ (UR sig nD τ) ℕ cfg0 c) (hA : dat.A 37 = W c (Proc.devRef .tc (Pipeline.arrRef spec0 37)))
    (hafter : ∀ t, dat.after 37 t = iblk0 W c 37 t) (t : Fin cfg0.N) (d) : dat.before 37 t d = iblk0 W c 37 t :=
  (dat.before_in_eq_fetched 37 rfl (fun _ => rfl) (fun _ _ _ => rfl) (fun t => by rw [hafter]; unfold Dat.blockOf iblk0; rw [hA]; try rfl) t d).trans
    (by unfold Dat.fetched Dat.blockOf iblk0; rw [hA]; try rfl)
theorem before0_38_of {c : Dev nD} (dat : Dat τ (Elt F) Unit ℕ (UR sig nD τ) ℕ cfg0 c) (hA : dat.A 38 = W c (Proc.devRef .tc (Pipeline.arrRef spec0 38)))
    (hafter : ∀ t, dat.after 38 t = iblk0 W c 38 t) (t : Fin cfg0.N) (d) : dat.before 38 t d = iblk0 W c 38 t :=
  (dat.before_in_eq_fetched 38 rfl (fun _ => rfl) (fun _ _ _ => rfl) (fun t => by rw [hafter]; unfold Dat.blockOf iblk0; rw [hA]; try rfl) t d).trans
    (by unfold Dat.fetched Dat.blockOf iblk0; rw [hA]; try rfl)
theorem before0_39_of {c : Dev nD} (dat : Dat τ (Elt F) Unit ℕ (UR sig nD τ) ℕ cfg0 c) (hA : dat.A 39 = W c (Proc.devRef .tc (Pipeline.arrRef spec0 39)))
    (hafter : ∀ t, dat.after 39 t = iblk0 W c 39 t) (t : Fin cfg0.N) (d) : dat.before 39 t d = iblk0 W c 39 t :=
  (dat.before_in_eq_fetched 39 rfl (fun _ => rfl) (fun _ _ _ => rfl) (fun t => by rw [hafter]; unfold Dat.blockOf iblk0; rw [hA]; try rfl) t d).trans
    (by unfold Dat.fetched Dat.blockOf iblk0; rw [hA]; try rfl)
theorem before0_40_of {c : Dev nD} (dat : Dat τ (Elt F) Unit ℕ (UR sig nD τ) ℕ cfg0 c) (hA : dat.A 40 = W c (Proc.devRef .tc (Pipeline.arrRef spec0 40)))
    (hafter : ∀ t, dat.after 40 t = iblk0 W c 40 t) (t : Fin cfg0.N) (d) : dat.before 40 t d = iblk0 W c 40 t :=
  (dat.before_in_eq_fetched 40 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S3x1 := Rect.unit (s := S3x1) ![0, 0] S3x1.size inb_S3x1_S3x1_0_0
abbrev r0_1 : Rect S3x3 := Rect.unit (s := S3x3) ![0, 0] S3x3.size inb_S3x3_S3x3_0_0
abbrev r0_2 : Rect S5x3 := Rect.unit (s := S5x3) ![0, 0] S5x3.size inb_S5x3_S5x3_0_0
abbrev r0_3 : Rect S5x1 := Rect.unit (s := S5x1) ![0, 0] S5x1.size inb_S5x1_S5x1_0_0
abbrev r0_4 : Rect S5x5 := Rect.unit (s := S5x5) ![0, 0] S5x5.size inb_S5x5_S5x5_0_0
abbrev r0_5 : Rect S7x5 := Rect.unit (s := S7x5) ![0, 0] S7x5.size inb_S7x5_S7x5_0_0
abbrev r0_6 : Rect S7x1 := Rect.unit (s := S7x1) ![0, 0] S7x1.size inb_S7x1_S7x1_0_0
abbrev r0_7 : Rect S7x7 := Rect.unit (s := S7x7) ![0, 0] S7x7.size inb_S7x7_S7x7_0_0
abbrev r0_8 : Rect S9x7 := Rect.unit (s := S9x7) ![0, 0] S9x7.size inb_S9x7_S9x7_0_0
abbrev r0_9 : Rect S9x1 := Rect.unit (s := S9x1) ![0, 0] S9x1.size inb_S9x1_S9x1_0_0
abbrev r0_10 : Rect S9x9 := Rect.unit (s := S9x9) ![0, 0] S9x9.size inb_S9x9_S9x9_0_0
abbrev r0_11 : Rect S1x64 := Rect.unit (s := S1x64) ![0, 0] S1x64.size inb_S1x64_S1x64_0_0
abbrev r0_12 : Rect S9x64 := Rect.unit (s := S9x64) ![0, 0] S9x64.size inb_S9x64_S9x64_0_0

/-! ## What the body leaves in each output window's buffer -/

/-! ### Values of the body that the stores' payloads, spelt out, would write more than once

    Each is a vector the body binds (often a part call's result), stated over the input windows' blocks and
    numbered on from the skeleton's payload functions (`k0_pay50` …, after `k0_pay49`), so that
    `out0_W` and the values after it name it instead of spelling it out (`unfold_out out0_W` opens a canon
    with them, `unfold_payloads` opens them with the payloads); the comment after each is the printed function's
    name for the value (a count appended where that name is bound again). -/

def k0_pay50 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x3 .f32 :=
  k0_pay6 (View.ld x5 r0_1) -- `v9`
def k0_pay51 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x3 .f32 :=
  k0_pay7 (View.ld x6 r0_1) -- `v11`
def k0_pay52 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x3 .f32 :=
  k0_pay8 (View.ld x7 r0_1) -- `v13`
def k0_pay53 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x1 .f32 :=
  k0_pay9 (View.ld x8 r0_0) -- `v15`
def k0_pay54 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x1 .f32 :=
  k0_pay10 (View.ld x9 r0_0) -- `v17`
def k0_pay55 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x1 .f32 :=
  k0_pay11 (View.ld x10 r0_0) -- `v19`
def k0_pay56 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S5x3 .f32 :=
  k0_pay20 (View.ld x19 r0_2) -- `v37`
def k0_pay57 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S5x1 .f32 :=
  k0_pay21 (View.ld x20 r0_3) -- `v39`
def k0_pay58 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x5 .f32 :=
  k0_pay22 (View.ld x21 r0_5) -- `v41`
def k0_pay59 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x5 .f32 :=
  k0_pay23 (View.ld x22 r0_5) -- `v43`
def k0_pay60 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x5 .f32 :=
  k0_pay24 (View.ld x23 r0_5) -- `v45`
def k0_pay61 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x1 .f32 :=
  k0_pay25 (View.ld x24 r0_6) -- `v47`
def k0_pay62 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x7 .f32 :=
  k0_pay26 (View.ld x25 r0_7) -- `v49`
def k0_pay63 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x7 .f32 :=
  k0_pay27 (View.ld x26 r0_7) -- `v51`
def k0_pay64 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x7 .f32 :=
  k0_pay28 (View.ld x27 r0_7) -- `v53`
def k0_pay65 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x1 .f32 :=
  k0_pay29 (View.ld x28 r0_6) -- `v55`
def k0_pay66 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x5 .f32 :=
  k0_pay30 (View.ld x29 r0_5) -- `v57`
def k0_pay67 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S7x1 .f32 :=
  k0_pay31 (View.ld x30 r0_6) -- `v59`
def k0_pay68 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x64 .f32 :=
  k0_pay42 (k0_pay2 (View.ld x1 r0_0)) (k0_pay3 (View.ld x2 r0_0)) (k0_pay4 (View.ld x3 r0_0)) (k0_pay5 (View.ld x4 r0_0)) (View.ld x0 r0_11) -- `v92`
def k0_pay69 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S3x64 .f32 :=
  k0_pay43 (k0_pay50 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay51 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay52 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay53 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay54 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay55 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (View.ld x0 r0_11) (k0_pay68 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (Scalar.ofBits .f32 0x00000000#32) -- `v112`
def k0_pay70 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S5x64 .f32 :=
  k0_pay44 (k0_pay50 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay51 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay52 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay53 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay54 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay55 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay12 (View.ld x11 r0_2)) (k0_pay13 (View.ld x12 r0_2)) (k0_pay14 (View.ld x13 r0_2)) (k0_pay15 (View.ld x14 r0_3)) (k0_pay16 (View.ld x15 r0_4)) (k0_pay17 (View.ld x16 r0_4)) (k0_pay18 (View.ld x17 r0_4)) (View.ld x0 r0_11) (k0_pay68 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (Scalar.ofBits .f32 0x00000000#32) -- `v136`
def k0_pay71 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : FVec F S5x64 .f32 :=
  k0_pay45 (k0_pay19 (View.ld x18 r0_3)) -- `v137`

/-- The output's staging buffer after the body, from the input blocks. -/
def out0_41 (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) : Vec F S9x64 .f32 :=
  View.canon [⟨r0_12, k0_pay1 (k0_pay33 (View.ld x32 r0_8)) (k0_pay34 (View.ld x33 r0_8)) (k0_pay35 (View.ld x34 r0_9)) (k0_pay36 (View.ld x35 r0_10)) (k0_pay37 (View.ld x36 r0_10)) (k0_pay38 (View.ld x37 r0_10)) (k0_pay39 (View.ld x38 r0_9)) (k0_pay40 (View.ld x39 r0_8)) (k0_pay41 (View.ld x40 r0_9)) (k0_pay46 (k0_pay56 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay57 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay58 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay59 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay60 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay61 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay62 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay63 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay64 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay65 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay66 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay67 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay69 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay70 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay71 x0 x1 x2 x3 x4 x5 x6 x7 x8 x9 x10 x11 x12 x13 x14 x15 x16 x17 x18 x19 x20 x21 x22 x23 x24 x25 x26 x27 x28 x29 x30 x31 x32 x33 x34 x35 x36 x37 x38 x39 x40)) (k0_pay47 (k0_pay56 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay57 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay58 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay59 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay60 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay61 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay62 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay63 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay64 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay65 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay66 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay67 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay69 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay70 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay71 x0 x1 x2 x3 x4 x5 x6 x7 x8 x9 x10 x11 x12 x13 x14 x15 x16 x17 x18 x19 x20 x21 x22 x23 x24 x25 x26 x27 x28 x29 x30 x31 x32 x33 x34 x35 x36 x37 x38 x39 x40)) (k0_pay48 (k0_pay56 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay57 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay58 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay59 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay60 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay61 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay62 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay63 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay64 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay65 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay66 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay67 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay32 (View.ld x31 r0_8)) (k0_pay69 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay70 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay71 x0 x1 x2 x3 x4 x5 x6 x7 x8 x9 x10 x11 x12 x13 x14 x15 x16 x17 x18 x19 x20 x21 x22 x23 x24 x25 x26 x27 x28 x29 x30 x31 x32 x33 x34 x35 x36 x37 x38 x39 x40)) (k0_pay49 (k0_pay56 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay57 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay58 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay59 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay60 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay61 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay62 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay63 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay64 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay65 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay66 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay67 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay69 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay70 x0 x1 x2 x3 x4 x5 x6 x7 x8 x9 x10 x11 x12 x13 x14 x15 x16 x17 x18 x19 x20 x21 x22 x23 x24 x25 x26 x27 x28 x29 x30 x31 x32 x33 x34 x35 x36 x37 x38 x39 x40) (k0_pay71 x0 x1 x2 x3 x4 x5 x6 x7 x8 x9 x10 x11 x12 x13 x14 x15 x16 x17 x18 x19 x20 x21 x22 x23 x24 x25 x26 x27 x28 x29 x30 x31 x32 x33 x34 x35 x36 x37 x38 x39 x40)) (constant S9x64 .f32 0x00000000#32)⟩]

/-- `unfold_out out0_41`: `out0_41` unfolded with every value stated apart above that its pieces name, directly
    or through one another, so that a proof reads the canon's payloads spelt out whole (Lib/UnfoldOut.lean). -/

theorem cover0_41 (p0 : Vec F S9x64 .f32) (y : S9x64.Idx) :
    ∃ pc ∈ ([⟨r0_12, p0⟩] : List (View.Piece (Elt F) S9x64 .f32)), y ∈ pc.1.set :=
  View.cover_of_tiled [⟨r0_12, p0⟩] S9x64.size (by rfl) y

/-! ## The body's triple -/

set_option maxHeartbeats 1000000 in
/-- The body on whole staging buffers: the inputs' stay, the output's ends at the body's value of them. -/
theorem sound_kernel0 (c : Dev nD) (E : Set ℕ) (arg0 : Memref sig .tc .vmem S1x64 .f32) (harg0 : arg0.IsWhole) (arg1 : Memref sig .tc .vmem S3x1 .f32) (harg1 : arg1.IsWhole) (arg2 : Memref sig .tc .vmem S3x1 .f32) (harg2 : arg2.IsWhole) (arg3 : Memref sig .tc .vmem S3x1 .f32) (harg3 : arg3.IsWhole) (arg4 : Memref sig .tc .vmem S3x1 .f32) (harg4 : arg4.IsWhole) (arg5 : Memref sig .tc .vmem S3x3 .f32) (harg5 : arg5.IsWhole) (arg6 : Memref sig .tc .vmem S3x3 .f32) (harg6 : arg6.IsWhole) (arg7 : Memref sig .tc .vmem S3x3 .f32) (harg7 : arg7.IsWhole) (arg8 : Memref sig .tc .vmem S3x1 .f32) (harg8 : arg8.IsWhole) (arg9 : Memref sig .tc .vmem S3x1 .f32) (harg9 : arg9.IsWhole) (arg10 : Memref sig .tc .vmem S3x1 .f32) (harg10 : arg10.IsWhole) (arg11 : Memref sig .tc .vmem S5x3 .f32) (harg11 : arg11.IsWhole) (arg12 : Memref sig .tc .vmem S5x3 .f32) (harg12 : arg12.IsWhole) (arg13 : Memref sig .tc .vmem S5x3 .f32) (harg13 : arg13.IsWhole) (arg14 : Memref sig .tc .vmem S5x1 .f32) (harg14 : arg14.IsWhole) (arg15 : Memref sig .tc .vmem S5x5 .f32) (harg15 : arg15.IsWhole) (arg16 : Memref sig .tc .vmem S5x5 .f32) (harg16 : arg16.IsWhole) (arg17 : Memref sig .tc .vmem S5x5 .f32) (harg17 : arg17.IsWhole) (arg18 : Memref sig .tc .vmem S5x1 .f32) (harg18 : arg18.IsWhole) (arg19 : Memref sig .tc .vmem S5x3 .f32) (harg19 : arg19.IsWhole) (arg20 : Memref sig .tc .vmem S5x1 .f32) (harg20 : arg20.IsWhole) (arg21 : Memref sig .tc .vmem S7x5 .f32) (harg21 : arg21.IsWhole) (arg22 : Memref sig .tc .vmem S7x5 .f32) (harg22 : arg22.IsWhole) (arg23 : Memref sig .tc .vmem S7x5 .f32) (harg23 : arg23.IsWhole) (arg24 : Memref sig .tc .vmem S7x1 .f32) (harg24 : arg24.IsWhole) (arg25 : Memref sig .tc .vmem S7x7 .f32) (harg25 : arg25.IsWhole) (arg26 : Memref sig .tc .vmem S7x7 .f32) (harg26 : arg26.IsWhole) (arg27 : Memref sig .tc .vmem S7x7 .f32) (harg27 : arg27.IsWhole) (arg28 : Memref sig .tc .vmem S7x1 .f32) (harg28 : arg28.IsWhole) (arg29 : Memref sig .tc .vmem S7x5 .f32) (harg29 : arg29.IsWhole) (arg30 : Memref sig .tc .vmem S7x1 .f32) (harg30 : arg30.IsWhole) (arg31 : Memref sig .tc .vmem S9x7 .f32) (harg31 : arg31.IsWhole) (arg32 : Memref sig .tc .vmem S9x7 .f32) (harg32 : arg32.IsWhole) (arg33 : Memref sig .tc .vmem S9x7 .f32) (harg33 : arg33.IsWhole) (arg34 : Memref sig .tc .vmem S9x1 .f32) (harg34 : arg34.IsWhole) (arg35 : Memref sig .tc .vmem S9x9 .f32) (harg35 : arg35.IsWhole) (arg36 : Memref sig .tc .vmem S9x9 .f32) (harg36 : arg36.IsWhole) (arg37 : Memref sig .tc .vmem S9x9 .f32) (harg37 : arg37.IsWhole) (arg38 : Memref sig .tc .vmem S9x1 .f32) (harg38 : arg38.IsWhole) (arg39 : Memref sig .tc .vmem S9x7 .f32) (harg39 : arg39.IsWhole) (arg40 : Memref sig .tc .vmem S9x1 .f32) (harg40 : arg40.IsWhole) (arg41 : Memref sig .tc .vmem S9x64 .f32) (harg41 : arg41.IsWhole)
    (x0 : Vec F S1x64 .f32) (x1 : Vec F S3x1 .f32) (x2 : Vec F S3x1 .f32) (x3 : Vec F S3x1 .f32) (x4 : Vec F S3x1 .f32) (x5 : Vec F S3x3 .f32) (x6 : Vec F S3x3 .f32) (x7 : Vec F S3x3 .f32) (x8 : Vec F S3x1 .f32) (x9 : Vec F S3x1 .f32) (x10 : Vec F S3x1 .f32) (x11 : Vec F S5x3 .f32) (x12 : Vec F S5x3 .f32) (x13 : Vec F S5x3 .f32) (x14 : Vec F S5x1 .f32) (x15 : Vec F S5x5 .f32) (x16 : Vec F S5x5 .f32) (x17 : Vec F S5x5 .f32) (x18 : Vec F S5x1 .f32) (x19 : Vec F S5x3 .f32) (x20 : Vec F S5x1 .f32) (x21 : Vec F S7x5 .f32) (x22 : Vec F S7x5 .f32) (x23 : Vec F S7x5 .f32) (x24 : Vec F S7x1 .f32) (x25 : Vec F S7x7 .f32) (x26 : Vec F S7x7 .f32) (x27 : Vec F S7x7 .f32) (x28 : Vec F S7x1 .f32) (x29 : Vec F S7x5 .f32) (x30 : Vec F S7x1 .f32) (x31 : Vec F S9x7 .f32) (x32 : Vec F S9x7 .f32) (x33 : Vec F S9x7 .f32) (x34 : Vec F S9x1 .f32) (x35 : Vec F S9x9 .f32) (x36 : Vec F S9x9 .f32) (x37 : Vec F S9x9 .f32) (x38 : Vec F S9x1 .f32) (x39 : Vec F S9x7 .f32) (x40 : Vec F S9x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ (∃ d, owns (c : Thread nD τ) arg41 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare (out0_41 x0 x1 x2 x3 x4 x5 x6 x7 x8 x9 x10 x11 x12 x13 x14 x15 x16 x17 x18 x19 x20 x21 x22 x23 x24 x25 x26 x27 x28 x29 x30 x31 x32 x33 x34 x35 x36 x37 x38 x39 x40)) -∗ K ⟨⟩))
      ⊢ wp frame (wpE (defs₀ (F := F)) Variants.none c none) E (cc0__ybranch_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
  simp only [cc0__ybranch_body_eq_skeleton]; unfold cc0__ybranch_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%d41, %f41, -, H41⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  iexists _; isplitr
  swap; · iexact H41
  ipureintro
  refine (View.read_writes_eq_canon _ _ _ (cover0_41 _)).trans ?_
  rfl

/-! ## The pipeline's proof data -/

/-- The proof data of the pipeline on core `c`, entered at the contents `W`: each input's buffer keeps its block,
    the output's holds the body's value of the input blocks. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => iblk0 W c 7 t
    | ⟨8, _⟩ => iblk0 W c 8 t
    | ⟨9, _⟩ => iblk0 W c 9 t
    | ⟨10, _⟩ => iblk0 W c 10 t
    | ⟨11, _⟩ => iblk0 W c 11 t
    | ⟨12, _⟩ => iblk0 W c 12 t
    | ⟨13, _⟩ => iblk0 W c 13 t
    | ⟨14, _⟩ => iblk0 W c 14 t
    | ⟨15, _⟩ => iblk0 W c 15 t
    | ⟨16, _⟩ => iblk0 W c 16 t
    | ⟨17, _⟩ => iblk0 W c 17 t
    | ⟨18, _⟩ => iblk0 W c 18 t
    | ⟨19, _⟩ => iblk0 W c 19 t
    | ⟨20, _⟩ => iblk0 W c 20 t
    | ⟨21, _⟩ => iblk0 W c 21 t
    | ⟨22, _⟩ => iblk0 W c 22 t
    | ⟨23, _⟩ => iblk0 W c 23 t
    | ⟨24, _⟩ => iblk0 W c 24 t
    | ⟨25, _⟩ => iblk0 W c 25 t
    | ⟨26, _⟩ => iblk0 W c 26 t
    | ⟨27, _⟩ => iblk0 W c 27 t
    | ⟨28, _⟩ => iblk0 W c 28 t
    | ⟨29, _⟩ => iblk0 W c 29 t
    | ⟨30, _⟩ => iblk0 W c 30 t
    | ⟨31, _⟩ => iblk0 W c 31 t
    | ⟨32, _⟩ => iblk0 W c 32 t
    | ⟨33, _⟩ => iblk0 W c 33 t
    | ⟨34, _⟩ => iblk0 W c 34 t
    | ⟨35, _⟩ => iblk0 W c 35 t
    | ⟨36, _⟩ => iblk0 W c 36 t
    | ⟨37, _⟩ => iblk0 W c 37 t
    | ⟨38, _⟩ => iblk0 W c 38 t
    | ⟨39, _⟩ => iblk0 W c 39 t
    | ⟨40, _⟩ => iblk0 W c 40 t
    | ⟨41, _⟩ => out0_41 (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t) (iblk0 W c 11 t) (iblk0 W c 12 t) (iblk0 W c 13 t) (iblk0 W c 14 t) (iblk0 W c 15 t) (iblk0 W c 16 t) (iblk0 W c 17 t) (iblk0 W c 18 t) (iblk0 W c 19 t) (iblk0 W c 20 t) (iblk0 W c 21 t) (iblk0 W c 22 t) (iblk0 W c 23 t) (iblk0 W c 24 t) (iblk0 W c 25 t) (iblk0 W c 26 t) (iblk0 W c 27 t) (iblk0 W c 28 t) (iblk0 W c 29 t) (iblk0 W c 30 t) (iblk0 W c 31 t) (iblk0 W c 32 t) (iblk0 W c 33 t) (iblk0 W c 34 t) (iblk0 W c 35 t) (iblk0 W c 36 t) (iblk0 W c 37 t) (iblk0 W c 38 t) (iblk0 W c 39 t) (iblk0 W c 40 t)
    | ⟨_ + 42, h⟩ => absurd h (Nat.not_lt.2 (Nat.le_add_left _ _))
  Φ _ := Pipeline.ΦA spec0 c
  q _ := fullShare
  owed _ := 0

/-- The proof data's arrays are the entry contents. -/
theorem A_eq0 (c : Dev nD) (w : Fin cfg0.W) : (dat0 W c).A w = W c (Proc.devRef .tc (Pipeline.arrRef spec0 w)) := by
  dsimp only [dat0]

/-- What the body leaves, window by window. -/
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = iblk0 W c 6 t := by dsimp only [dat0]
theorem after0_7 (c : Dev nD) (t : Fin cfg0.N) : (dat0 W c).after 7 t = iblk0 W c 7 t := by dsimp only [dat0]
theorem after0_8 (c : Dev nD) (t : Fin cfg0.N) : (dat0 W c).after 8 t = iblk0 W c 8 t := by dsimp only [dat0]
theorem after0_9 (c : Dev nD) (t : Fin cfg0.N) : (dat0 W c).after 9 t = iblk0 W c 9 t := by dsimp only [dat0]
theorem after0_10 (c : Dev nD) (t : Fin cfg0.N) : (dat0 W c).after 10 t = iblk0 W c 10 t := by dsimp only [dat0]
theorem after0_11 (c : Dev nD) (t : Fin cfg0.N) : (dat0 W c).after 11 t = iblk0 W c 11 t := by dsimp only [dat0]
theorem after0_12 (c : Dev nD) (t : Fin cfg0.N) : (dat0 W c).after 12 t = iblk0 W c 12 t := by dsimp only [dat0]
theorem after0_13 (c : Dev nD) (t : Fin cfg0.N) : (dat0 W c).after 13 t = iblk0 W c 13 t := by dsimp only [dat0]
theorem after0_14 (c : Dev nD) (t : Fin cfg0.N) : (dat0 W c).after 14 t = iblk0 W c 14 t := by dsimp only [dat0]
theorem after0_15 (c : Dev nD) (t : Fin cfg0.N) : (dat0 W c).after 15 t = iblk0 W c 15 t := by dsimp only [dat0]
theorem after0_16 (c : Dev nD) (t : Fin cfg0.N) : (dat0 W c).after 16 t = iblk0 W c 16 t := by dsimp only [dat0]
theorem after0_17 (c : Dev nD) (t : Fin cfg0.N) : (dat0 W c).after 17 t = iblk0 W c 17 t := by dsimp only [dat0]
theorem after0_18 (c : Dev nD) (t : Fin cfg0.N) : (dat0 W c).after 18 t = iblk0 W c 18 t := by dsimp only [dat0]
theorem after0_19 (c : Dev nD) (t : Fin cfg0.N) : (dat0 W c).after 19 t = iblk0 W c 19 t := by dsimp only [dat0]
theorem after0_20 (c : Dev nD) (t : Fin cfg0.N) : (dat0 W c).after 20 t = iblk0 W c 20 t := by dsimp only [dat0]
theorem after0_21 (c : Dev nD) (t : Fin cfg0.N) : (dat0 W c).after 21 t = iblk0 W c 21 t := by dsimp only [dat0]
theorem after0_22 (c : Dev nD) (t : Fin cfg0.N) : (dat0 W c).after 22 t = iblk0 W c 22 t := by dsimp only [dat0]
theorem after0_23 (c : Dev nD) (t : Fin cfg0.N) : (dat0 W c).after 23 t = iblk0 W c 23 t := by dsimp only [dat0]
theorem after0_24 (c : Dev nD) (t : Fin cfg0.N) : (dat0 W c).after 24 t = iblk0 W c 24 t := by dsimp only [dat0]
theorem after0_25 (c : Dev nD) (t : Fin cfg0.N) : (dat0 W c).after 25 t = iblk0 W c 25 t := by dsimp only [dat0]
theorem after0_26 (c : Dev nD) (t : Fin cfg0.N) : (dat0 W c).after 26 t = iblk0 W c 26 t := by dsimp only [dat0]
theorem after0_27 (c : Dev nD) (t : Fin cfg0.N) : (dat0 W c).after 27 t = iblk0 W c 27 t := by dsimp only [dat0]
theorem after0_28 (c : Dev nD) (t : Fin cfg0.N) : (dat0 W c).after 28 t = iblk0 W c 28 t := by dsimp only [dat0]
theorem after0_29 (c : Dev nD) (t : Fin cfg0.N) : (dat0 W c).after 29 t = iblk0 W c 29 t := by dsimp only [dat0]
theorem after0_30 (c : Dev nD) (t : Fin cfg0.N) : (dat0 W c).after 30 t = iblk0 W c 30 t := by dsimp only [dat0]
theorem after0_31 (c : Dev nD) (t : Fin cfg0.N) : (dat0 W c).after 31 t = iblk0 W c 31 t := by dsimp only [dat0]
theorem after0_32 (c : Dev nD) (t : Fin cfg0.N) : (dat0 W c).after 32 t = iblk0 W c 32 t := by dsimp only [dat0]
theorem after0_33 (c : Dev nD) (t : Fin cfg0.N) : (dat0 W c).after 33 t = iblk0 W c 33 t := by dsimp only [dat0]
theorem after0_34 (c : Dev nD) (t : Fin cfg0.N) : (dat0 W c).after 34 t = iblk0 W c 34 t := by dsimp only [dat0]
theorem after0_35 (c : Dev nD) (t : Fin cfg0.N) : (dat0 W c).after 35 t = iblk0 W c 35 t := by dsimp only [dat0]
theorem after0_36 (c : Dev nD) (t : Fin cfg0.N) : (dat0 W c).after 36 t = iblk0 W c 36 t := by dsimp only [dat0]
theorem after0_37 (c : Dev nD) (t : Fin cfg0.N) : (dat0 W c).after 37 t = iblk0 W c 37 t := by dsimp only [dat0]
theorem after0_38 (c : Dev nD) (t : Fin cfg0.N) : (dat0 W c).after 38 t = iblk0 W c 38 t := by dsimp only [dat0]
theorem after0_39 (c : Dev nD) (t : Fin cfg0.N) : (dat0 W c).after 39 t = iblk0 W c 39 t := by dsimp only [dat0]
theorem after0_40 (c : Dev nD) (t : Fin cfg0.N) : (dat0 W c).after 40 t = iblk0 W c 40 t := by dsimp only [dat0]
theorem after0_41 (c : Dev nD) (t : Fin cfg0.N) : (dat0 W c).after 41 t = out0_41 (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t) (iblk0 W c 11 t) (iblk0 W c 12 t) (iblk0 W c 13 t) (iblk0 W c 14 t) (iblk0 W c 15 t) (iblk0 W c 16 t) (iblk0 W c 17 t) (iblk0 W c 18 t) (iblk0 W c 19 t) (iblk0 W c 20 t) (iblk0 W c 21 t) (iblk0 W c 22 t) (iblk0 W c 23 t) (iblk0 W c 24 t) (iblk0 W c 25 t) (iblk0 W c 26 t) (iblk0 W c 27 t) (iblk0 W c 28 t) (iblk0 W c 29 t) (iblk0 W c 30 t) (iblk0 W c 31 t) (iblk0 W c 32 t) (iblk0 W c 33 t) (iblk0 W c 34 t) (iblk0 W c 35 t) (iblk0 W c 36 t) (iblk0 W c 37 t) (iblk0 W c 38 t) (iblk0 W c 39 t) (iblk0 W c 40 t) := by dsimp only [dat0]

/-- Each input's staging buffer holds its block when the body is called. -/
theorem before0_0 (c : Dev nD) (t : Fin cfg0.N) (d) : (dat0 W c).before 0 t d = iblk0 W c 0 t :=
  before0_0_of W (dat0 W c) (A_eq0 W c 0) (after0_0 W c) t d
theorem before0_1 (c : Dev nD) (t : Fin cfg0.N) (d) : (dat0 W c).before 1 t d = iblk0 W c 1 t :=
  before0_1_of W (dat0 W c) (A_eq0 W c 1) (after0_1 W c) t d
theorem before0_2 (c : Dev nD) (t : Fin cfg0.N) (d) : (dat0 W c).before 2 t d = iblk0 W c 2 t :=
  before0_2_of W (dat0 W c) (A_eq0 W c 2) (after0_2 W c) t d
theorem before0_3 (c : Dev nD) (t : Fin cfg0.N) (d) : (dat0 W c).before 3 t d = iblk0 W c 3 t :=
  before0_3_of W (dat0 W c) (A_eq0 W c 3) (after0_3 W c) t d
theorem before0_4 (c : Dev nD) (t : Fin cfg0.N) (d) : (dat0 W c).before 4 t d = iblk0 W c 4 t :=
  before0_4_of W (dat0 W c) (A_eq0 W c 4) (after0_4 W c) t d
theorem before0_5 (c : Dev nD) (t : Fin cfg0.N) (d) : (dat0 W c).before 5 t d = iblk0 W c 5 t :=
  before0_5_of W (dat0 W c) (A_eq0 W c 5) (after0_5 W c) t d
theorem before0_6 (c : Dev nD) (t : Fin cfg0.N) (d) : (dat0 W c).before 6 t d = iblk0 W c 6 t :=
  before0_6_of W (dat0 W c) (A_eq0 W c 6) (after0_6 W c) t d
theorem before0_7 (c : Dev nD) (t : Fin cfg0.N) (d) : (dat0 W c).before 7 t d = iblk0 W c 7 t :=
  before0_7_of W (dat0 W c) (A_eq0 W c 7) (after0_7 W c) t d
theorem before0_8 (c : Dev nD) (t : Fin cfg0.N) (d) : (dat0 W c).before 8 t d = iblk0 W c 8 t :=
  before0_8_of W (dat0 W c) (A_eq0 W c 8) (after0_8 W c) t d
theorem before0_9 (c : Dev nD) (t : Fin cfg0.N) (d) : (dat0 W c).before 9 t d = iblk0 W c 9 t :=
  before0_9_of W (dat0 W c) (A_eq0 W c 9) (after0_9 W c) t d
theorem before0_10 (c : Dev nD) (t : Fin cfg0.N) (d) : (dat0 W c).before 10 t d = iblk0 W c 10 t :=
  before0_10_of W (dat0 W c) (A_eq0 W c 10) (after0_10 W c) t d
theorem before0_11 (c : Dev nD) (t : Fin cfg0.N) (d) : (dat0 W c).before 11 t d = iblk0 W c 11 t :=
  before0_11_of W (dat0 W c) (A_eq0 W c 11) (after0_11 W c) t d
theorem before0_12 (c : Dev nD) (t : Fin cfg0.N) (d) : (dat0 W c).before 12 t d = iblk0 W c 12 t :=
  before0_12_of W (dat0 W c) (A_eq0 W c 12) (after0_12 W c) t d
theorem before0_13 (c : Dev nD) (t : Fin cfg0.N) (d) : (dat0 W c).before 13 t d = iblk0 W c 13 t :=
  before0_13_of W (dat0 W c) (A_eq0 W c 13) (after0_13 W c) t d
theorem before0_14 (c : Dev nD) (t : Fin cfg0.N) (d) : (dat0 W c).before 14 t d = iblk0 W c 14 t :=
  before0_14_of W (dat0 W c) (A_eq0 W c 14) (after0_14 W c) t d
theorem before0_15 (c : Dev nD) (t : Fin cfg0.N) (d) : (dat0 W c).before 15 t d = iblk0 W c 15 t :=
  before0_15_of W (dat0 W c) (A_eq0 W c 15) (after0_15 W c) t d
theorem before0_16 (c : Dev nD) (t : Fin cfg0.N) (d) : (dat0 W c).before 16 t d = iblk0 W c 16 t :=
  before0_16_of W (dat0 W c) (A_eq0 W c 16) (after0_16 W c) t d
theorem before0_17 (c : Dev nD) (t : Fin cfg0.N) (d) : (dat0 W c).before 17 t d = iblk0 W c 17 t :=
  before0_17_of W (dat0 W c) (A_eq0 W c 17) (after0_17 W c) t d
theorem before0_18 (c : Dev nD) (t : Fin cfg0.N) (d) : (dat0 W c).before 18 t d = iblk0 W c 18 t :=
  before0_18_of W (dat0 W c) (A_eq0 W c 18) (after0_18 W c) t d
theorem before0_19 (c : Dev nD) (t : Fin cfg0.N) (d) : (dat0 W c).before 19 t d = iblk0 W c 19 t :=
  before0_19_of W (dat0 W c) (A_eq0 W c 19) (after0_19 W c) t d
theorem before0_20 (c : Dev nD) (t : Fin cfg0.N) (d) : (dat0 W c).before 20 t d = iblk0 W c 20 t :=
  before0_20_of W (dat0 W c) (A_eq0 W c 20) (after0_20 W c) t d
theorem before0_21 (c : Dev nD) (t : Fin cfg0.N) (d) : (dat0 W c).before 21 t d = iblk0 W c 21 t :=
  before0_21_of W (dat0 W c) (A_eq0 W c 21) (after0_21 W c) t d
theorem before0_22 (c : Dev nD) (t : Fin cfg0.N) (d) : (dat0 W c).before 22 t d = iblk0 W c 22 t :=
  before0_22_of W (dat0 W c) (A_eq0 W c 22) (after0_22 W c) t d
theorem before0_23 (c : Dev nD) (t : Fin cfg0.N) (d) : (dat0 W c).before 23 t d = iblk0 W c 23 t :=
  before0_23_of W (dat0 W c) (A_eq0 W c 23) (after0_23 W c) t d
theorem before0_24 (c : Dev nD) (t : Fin cfg0.N) (d) : (dat0 W c).before 24 t d = iblk0 W c 24 t :=
  before0_24_of W (dat0 W c) (A_eq0 W c 24) (after0_24 W c) t d
theorem before0_25 (c : Dev nD) (t : Fin cfg0.N) (d) : (dat0 W c).before 25 t d = iblk0 W c 25 t :=
  before0_25_of W (dat0 W c) (A_eq0 W c 25) (after0_25 W c) t d
theorem before0_26 (c : Dev nD) (t : Fin cfg0.N) (d) : (dat0 W c).before 26 t d = iblk0 W c 26 t :=
  before0_26_of W (dat0 W c) (A_eq0 W c 26) (after0_26 W c) t d
theorem before0_27 (c : Dev nD) (t : Fin cfg0.N) (d) : (dat0 W c).before 27 t d = iblk0 W c 27 t :=
  before0_27_of W (dat0 W c) (A_eq0 W c 27) (after0_27 W c) t d
theorem before0_28 (c : Dev nD) (t : Fin cfg0.N) (d) : (dat0 W c).before 28 t d = iblk0 W c 28 t :=
  before0_28_of W (dat0 W c) (A_eq0 W c 28) (after0_28 W c) t d
theorem before0_29 (c : Dev nD) (t : Fin cfg0.N) (d) : (dat0 W c).before 29 t d = iblk0 W c 29 t :=
  before0_29_of W (dat0 W c) (A_eq0 W c 29) (after0_29 W c) t d
theorem before0_30 (c : Dev nD) (t : Fin cfg0.N) (d) : (dat0 W c).before 30 t d = iblk0 W c 30 t :=
  before0_30_of W (dat0 W c) (A_eq0 W c 30) (after0_30 W c) t d
theorem before0_31 (c : Dev nD) (t : Fin cfg0.N) (d) : (dat0 W c).before 31 t d = iblk0 W c 31 t :=
  before0_31_of W (dat0 W c) (A_eq0 W c 31) (after0_31 W c) t d
theorem before0_32 (c : Dev nD) (t : Fin cfg0.N) (d) : (dat0 W c).before 32 t d = iblk0 W c 32 t :=
  before0_32_of W (dat0 W c) (A_eq0 W c 32) (after0_32 W c) t d
theorem before0_33 (c : Dev nD) (t : Fin cfg0.N) (d) : (dat0 W c).before 33 t d = iblk0 W c 33 t :=
  before0_33_of W (dat0 W c) (A_eq0 W c 33) (after0_33 W c) t d
theorem before0_34 (c : Dev nD) (t : Fin cfg0.N) (d) : (dat0 W c).before 34 t d = iblk0 W c 34 t :=
  before0_34_of W (dat0 W c) (A_eq0 W c 34) (after0_34 W c) t d
theorem before0_35 (c : Dev nD) (t : Fin cfg0.N) (d) : (dat0 W c).before 35 t d = iblk0 W c 35 t :=
  before0_35_of W (dat0 W c) (A_eq0 W c 35) (after0_35 W c) t d
theorem before0_36 (c : Dev nD) (t : Fin cfg0.N) (d) : (dat0 W c).before 36 t d = iblk0 W c 36 t :=
  before0_36_of W (dat0 W c) (A_eq0 W c 36) (after0_36 W c) t d
theorem before0_37 (c : Dev nD) (t : Fin cfg0.N) (d) : (dat0 W c).before 37 t d = iblk0 W c 37 t :=
  before0_37_of W (dat0 W c) (A_eq0 W c 37) (after0_37 W c) t d
theorem before0_38 (c : Dev nD) (t : Fin cfg0.N) (d) : (dat0 W c).before 38 t d = iblk0 W c 38 t :=
  before0_38_of W (dat0 W c) (A_eq0 W c 38) (after0_38 W c) t d
theorem before0_39 (c : Dev nD) (t : Fin cfg0.N) (d) : (dat0 W c).before 39 t d = iblk0 W c 39 t :=
  before0_39_of W (dat0 W c) (A_eq0 W c 39) (after0_39 W c) t d
theorem before0_40 (c : Dev nD) (t : Fin cfg0.N) (d) : (dat0 W c).before 40 t d = iblk0 W c 40 t :=
  before0_40_of W (dat0 W c) (A_eq0 W c 40) (after0_40 W c) t d

/-! ## The body obligation, at a generic point -/

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d))
    ∗ (∃ d, owns (c : Thread nD τ) (st0_9 t) fullShare ((dat0 W c).before 9 t d))
    ∗ (∃ d, owns (c : Thread nD τ) (st0_10 t) fullShare ((dat0 W c).before 10 t d))
    ∗ (∃ d, owns (c : Thread nD τ) (st0_11 t) fullShare ((dat0 W c).before 11 t d))
    ∗ (∃ d, owns (c : Thread nD τ) (st0_12 t) fullShare ((dat0 W c).before 12 t d))
    ∗ (∃ d, owns (c : Thread nD τ) (st0_13 t) fullShare ((dat0 W c).before 13 t d))
    ∗ (∃ d, owns (c : Thread nD τ) (st0_14 t) fullShare ((dat0 W c).before 14 t d))
    ∗ (∃ d, owns (c : Thread nD τ) (st0_15 t) fullShare ((dat0 W c).before 15 t d))
    ∗ (∃ d, owns (c : Thread nD τ) (st0_16 t) fullShare ((dat0 W c).before 16 t d))
    ∗ (∃ d, owns (c : Thread nD τ) (st0_17 t) fullShare ((dat0 W c).before 17 t d))
    ∗ (∃ d, owns (c : Thread nD τ) (st0_18 t) fullShare ((dat0 W c).before 18 t d))
    ∗ (∃ d, owns (c : Thread nD τ) (st0_19 t) fullShare ((dat0 W c).before 19 t d))
    ∗ (∃ d, owns (c : Thread nD τ) (st0_20 t) fullShare ((dat0 W c).before 20 t d))
    ∗ (∃ d, owns (c : Thread nD τ) (st0_21 t) fullShare ((dat0 W c).before 21 t d))
    ∗ (∃ d, owns (c : Thread nD τ) (st0_22 t) fullShare ((dat0 W c).before 22 t d))
    ∗ (∃ d, owns (c : Thread nD τ) (st0_23 t) fullShare ((dat0 W c).before 23 t d))
    ∗ (∃ d, owns (c : Thread nD τ) (st0_24 t) fullShare ((dat0 W c).before 24 t d))
    ∗ (∃ d, owns (c : Thread nD τ) (st0_25 t) fullShare ((dat0 W c).before 25 t d))
    ∗ (∃ d, owns (c : Thread nD τ) (st0_26 t) fullShare ((dat0 W c).before 26 t d))
    ∗ (∃ d, owns (c : Thread nD τ) (st0_27 t) fullShare ((dat0 W c).before 27 t d))
    ∗ (∃ d, owns (c : Thread nD τ) (st0_28 t) fullShare ((dat0 W c).before 28 t d))
    ∗ (∃ d, owns (c : Thread nD τ) (st0_29 t) fullShare ((dat0 W c).before 29 t d))
    ∗ (∃ d, owns (c : Thread nD τ) (st0_30 t) fullShare ((dat0 W c).before 30 t d))
    ∗ (∃ d, owns (c : Thread nD τ) (st0_31 t) fullShare ((dat0 W c).before 31 t d))
    ∗ (∃ d, owns (c : Thread nD τ) (st0_32 t) fullShare ((dat0 W c).before 32 t d))
    ∗ (∃ d, owns (c : Thread nD τ) (st0_33 t) fullShare ((dat0 W c).before 33 t d))
    ∗ (∃ d, owns (c : Thread nD τ) (st0_34 t) fullShare ((dat0 W c).before 34 t d))
    ∗ (∃ d, owns (c : Thread nD τ) (st0_35 t) fullShare ((dat0 W c).before 35 t d))
    ∗ (∃ d, owns (c : Thread nD τ) (st0_36 t) fullShare ((dat0 W c).before 36 t d))
    ∗ (∃ d, owns (c : Thread nD τ) (st0_37 t) fullShare ((dat0 W c).before 37 t d))
    ∗ (∃ d, owns (c : Thread nD τ) (st0_38 t) fullShare ((dat0 W c).before 38 t d))
    ∗ (∃ d, owns (c : Thread nD τ) (st0_39 t) fullShare ((dat0 W c).before 39 t d))
    ∗ (∃ d, owns (c : Thread nD τ) (st0_40 t) fullShare ((dat0 W c).before 40 t d))
    ∗ (∃ d, owns (c : Thread nD τ) (st0_41 t) fullShare ((dat0 W c).before 41 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t)
    ∗ owns (c : Thread nD τ) (st0_7 t) fullShare ((dat0 W c).after 7 t)
    ∗ owns (c : Thread nD τ) (st0_8 t) fullShare ((dat0 W c).after 8 t)
    ∗ owns (c : Thread nD τ) (st0_9 t) fullShare ((dat0 W c).after 9 t)
    ∗ owns (c : Thread nD τ) (st0_10 t) fullShare ((dat0 W c).after 10 t)
    ∗ owns (c : Thread nD τ) (st0_11 t) fullShare ((dat0 W c).after 11 t)
    ∗ owns (c : Thread nD τ) (st0_12 t) fullShare ((dat0 W c).after 12 t)
    ∗ owns (c : Thread nD τ) (st0_13 t) fullShare ((dat0 W c).after 13 t)
    ∗ owns (c : Thread nD τ) (st0_14 t) fullShare ((dat0 W c).after 14 t)
    ∗ owns (c : Thread nD τ) (st0_15 t) fullShare ((dat0 W c).after 15 t)
    ∗ owns (c : Thread nD τ) (st0_16 t) fullShare ((dat0 W c).after 16 t)
    ∗ owns (c : Thread nD τ) (st0_17 t) fullShare ((dat0 W c).after 17 t)
    ∗ owns (c : Thread nD τ) (st0_18 t) fullShare ((dat0 W c).after 18 t)
    ∗ owns (c : Thread nD τ) (st0_19 t) fullShare ((dat0 W c).after 19 t)
    ∗ owns (c : Thread nD τ) (st0_20 t) fullShare ((dat0 W c).after 20 t)
    ∗ owns (c : Thread nD τ) (st0_21 t) fullShare ((dat0 W c).after 21 t)
    ∗ owns (c : Thread nD τ) (st0_22 t) fullShare ((dat0 W c).after 22 t)
    ∗ owns (c : Thread nD τ) (st0_23 t) fullShare ((dat0 W c).after 23 t)
    ∗ owns (c : Thread nD τ) (st0_24 t) fullShare ((dat0 W c).after 24 t)
    ∗ owns (c : Thread nD τ) (st0_25 t) fullShare ((dat0 W c).after 25 t)
    ∗ owns (c : Thread nD τ) (st0_26 t) fullShare ((dat0 W c).after 26 t)
    ∗ owns (c : Thread nD τ) (st0_27 t) fullShare ((dat0 W c).after 27 t)
    ∗ owns (c : Thread nD τ) (st0_28 t) fullShare ((dat0 W c).after 28 t)
    ∗ owns (c : Thread nD τ) (st0_29 t) fullShare ((dat0 W c).after 29 t)
    ∗ owns (c : Thread nD τ) (st0_30 t) fullShare ((dat0 W c).after 30 t)
    ∗ owns (c : Thread nD τ) (st0_31 t) fullShare ((dat0 W c).after 31 t)
    ∗ owns (c : Thread nD τ) (st0_32 t) fullShare ((dat0 W c).after 32 t)
    ∗ owns (c : Thread nD τ) (st0_33 t) fullShare ((dat0 W c).after 33 t)
    ∗ owns (c : Thread nD τ) (st0_34 t) fullShare ((dat0 W c).after 34 t)
    ∗ owns (c : Thread nD τ) (st0_35 t) fullShare ((dat0 W c).after 35 t)
    ∗ owns (c : Thread nD τ) (st0_36 t) fullShare ((dat0 W c).after 36 t)
    ∗ owns (c : Thread nD τ) (st0_37 t) fullShare ((dat0 W c).after 37 t)
    ∗ owns (c : Thread nD τ) (st0_38 t) fullShare ((dat0 W c).after 38 t)
    ∗ owns (c : Thread nD τ) (st0_39 t) fullShare ((dat0 W c).after 39 t)
    ∗ owns (c : Thread nD τ) (st0_40 t) fullShare ((dat0 W c).after 40 t)
    ∗ owns (c : Thread nD τ) (st0_41 t) fullShare ((dat0 W c).after 41 t))

set_option maxHeartbeats 8000000 in
/-- The body at any point: the inputs' buffers hold their blocks, so the body's triple applies. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t) (iblk0 W c 11 t) (iblk0 W c 12 t) (iblk0 W c 13 t) (iblk0 W c 14 t) (iblk0 W c 15 t) (iblk0 W c 16 t) (iblk0 W c 17 t) (iblk0 W c 18 t) (iblk0 W c 19 t) (iblk0 W c 20 t) (iblk0 W c 21 t) (iblk0 W c 22 t) (iblk0 W c 23 t) (iblk0 W c 24 t) (iblk0 W c 25 t) (iblk0 W c 26 t) (iblk0 W c 27 t) (iblk0 W c 28 t) (iblk0 W c 29 t) (iblk0 W c 30 t) (iblk0 W c 31 t) (iblk0 W c 32 t) (iblk0 W c 33 t) (iblk0 W c 34 t) (iblk0 W c 35 t) (iblk0 W c 36 t) (iblk0 W c 37 t) (iblk0 W c 38 t) (iblk0 W c 39 t) (iblk0 W c 40 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexists _; iexact H41
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  iexact H41

/-- The body table's row at point `t`. -/
theorem defs₀_row0 (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Gen

end
-- ==== Proof.KernelIdeal.Region1.lean ====
/- The region of pallas_call 1 of `KernelIdeal`: what each staging buffer holds before and after the body,
   the body's triple, and the pipeline's body obligation, at any entry contents `W`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

theorem before1_0_of {c : Dev nD} (dat : Dat τ (Elt F) Unit ℕ (UR sig nD τ) ℕ cfg1 c) (hA : dat.A 0 = W c (Proc.devRef .tc (Pipeline.arrRef spec1 0)))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = W c (Proc.devRef .tc (Pipeline.arrRef spec1 1)))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = W c (Proc.devRef .tc (Pipeline.arrRef spec1 2)))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = W c (Proc.devRef .tc (Pipeline.arrRef spec1 3)))
    (hafter : ∀ t, dat.after 3 t = iblk1 W c 3 t) (t : Fin cfg1.N) (d) : dat.before 3 t d = iblk1 W c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S200x10000 := Rect.unit (s := S200x10000) ![0, 0] S200x10000.size inb_S200x10000_S200x10000_0_0
abbrev r1_1 : Rect S10000x512 := Rect.unit (s := S10000x512) ![0, 0] S10000x512.size inb_S10000x512_S10000x512_0_0
abbrev r1_2 : Rect S512x256 := Rect.unit (s := S512x256) ![0, 0] S512x256.size inb_S512x256_S512x256_0_0
abbrev r1_3 : Rect S1x256 := Rect.unit (s := S1x256) ![0, 0] S1x256.size inb_S1x256_S1x256_0_0
abbrev r1_4 : Rect S200x256 := Rect.unit (s := S200x256) ![0, 0] S200x256.size inb_S200x256_S200x256_0_0

/-! ## What the body leaves in each output window's buffer -/

/-- The output's staging buffer after the body, from the input blocks. -/
def out1_4 (x0 : Vec F S200x10000 .f32) (x1 : Vec F S10000x512 .f32) (x2 : Vec F S512x256 .f32) (x3 : Vec F S1x256 .f32) : Vec F S200x256 .f32 :=
  View.canon [⟨r1_4, k1_pay1 (View.ld x0 r1_0) (View.ld x1 r1_1) (View.ld x2 r1_2) (View.ld x3 r1_3)⟩]

theorem cover1_4 (p0 : Vec F S200x256 .f32) (y : S200x256.Idx) :
    ∃ pc ∈ ([⟨r1_4, p0⟩] : List (View.Piece (Elt F) S200x256 .f32)), y ∈ pc.1.set :=
  View.cover_of_tiled [⟨r1_4, p0⟩] S200x256.size (by rfl) y

/-! ## The body's triple -/

set_option maxHeartbeats 1000000 in
/-- The body on whole staging buffers: the inputs' stay, the output's ends at the body's value of them. -/
theorem sound_kernel1 (c : Dev nD) (E : Set ℕ) (i : grid1.Coords) (arg1 : Memref sig .tc .vmem S200x10000 .f32) (harg1 : arg1.IsWhole) (arg2 : Memref sig .tc .vmem S10000x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S200x256 .f32) (harg5 : arg5.IsWhole)
    (x0 : Vec F S200x10000 .f32) (x1 : Vec F S10000x512 .f32) (x2 : Vec F S512x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__g1_body i arg1 harg1 arg2 harg2 arg3 harg3 arg4 harg4 arg5 harg5) K := by
  simp only [cc1__g1_body_eq_skeleton]; unfold cc1__g1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`, entered at the contents `W`: each input's buffer keeps its block,
    the output's holds the body's value of the input blocks. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => out1_4 (iblk1 W c 0 t) (iblk1 W c 1 t) (iblk1 W c 2 t) (iblk1 W c 3 t)
  Φ _ := Pipeline.ΦA spec1 c
  q _ := fullShare
  owed _ := 0

/-- The proof data's arrays are the entry contents. -/
theorem A_eq1 (c : Dev nD) (w : Fin cfg1.W) : (dat1 W c).A w = W c (Proc.devRef .tc (Pipeline.arrRef spec1 w)) := by
  dsimp only [dat1]

/-- What the body leaves, window by window. -/
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = out1_4 (iblk1 W c 0 t) (iblk1 W c 1 t) (iblk1 W c 2 t) (iblk1 W c 3 t) := by dsimp only [dat1]

/-- Each input's staging buffer holds its block when the body is called. -/
theorem before1_0 (c : Dev nD) (t : Fin cfg1.N) (d) : (dat1 W c).before 0 t d = iblk1 W c 0 t :=
  before1_0_of W (dat1 W c) (A_eq1 W c 0) (after1_0 W c) t d
theorem before1_1 (c : Dev nD) (t : Fin cfg1.N) (d) : (dat1 W c).before 1 t d = iblk1 W c 1 t :=
  before1_1_of W (dat1 W c) (A_eq1 W c 1) (after1_1 W c) t d
theorem before1_2 (c : Dev nD) (t : Fin cfg1.N) (d) : (dat1 W c).before 2 t d = iblk1 W c 2 t :=
  before1_2_of W (dat1 W c) (A_eq1 W c 2) (after1_2 W c) t d
theorem before1_3 (c : Dev nD) (t : Fin cfg1.N) (d) : (dat1 W c).before 3 t d = iblk1 W c 3 t :=
  before1_3_of W (dat1 W c) (A_eq1 W c 3) (after1_3 W c) t d

/-! ## The body obligation, at a generic point -/

/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t))

set_option maxHeartbeats 8000000 in
/-- The body at any point: the inputs' buffers hold their blocks, so the body's triple applies. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3]
  rw [show (dat1 W c).Φ t.succ = (dat1 W c).Φ t.castSucc from rfl,
    show (dat1 W c).owesAt () t.succ = (dat1 W c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 W c 0 t) (iblk1 W c 1 t) (iblk1 W c 2 t) (iblk1 W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`. -/
theorem defs₀_row1 (t : Fin cfg1.N) :
    defs₀ (F := F) .tc cfg1.body (cfg1.bodyArgs t (cfg1.slots t)) = bodyAt1 t := by
  unfold defs₀; rw [Defs.onTc_tc]

set_option maxHeartbeats 8000000 in
/-- The library's body obligation, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.KernelIdeal.Gen

end
-- ==== Proof.KernelIdeal.Region2.lean ====
/- The region of pallas_call 2 of `KernelIdeal`: what each staging buffer holds before and after the body,
   the body's triple, and the pipeline's body obligation, at any entry contents `W`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

theorem before2_0_of {c : Dev nD} (dat : Dat τ (Elt F) Unit ℕ (UR sig nD τ) ℕ cfg2 c) (hA : dat.A 0 = W c (Proc.devRef .tc (Pipeline.arrRef spec2 0)))
    (hafter : ∀ t, dat.after 0 t = iblk2 W c 0 t) (t : Fin cfg2.N) (d) : dat.before 0 t d = iblk2 W c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = W c (Proc.devRef .tc (Pipeline.arrRef spec2 1)))
    (hafter : ∀ t, dat.after 1 t = iblk2 W c 1 t) (t : Fin cfg2.N) (d) : dat.before 1 t d = iblk2 W c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = W c (Proc.devRef .tc (Pipeline.arrRef spec2 2)))
    (hafter : ∀ t, dat.after 2 t = iblk2 W c 2 t) (t : Fin cfg2.N) (d) : dat.before 2 t d = iblk2 W c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = W c (Proc.devRef .tc (Pipeline.arrRef spec2 3)))
    (hafter : ∀ t, dat.after 3 t = iblk2 W c 3 t) (t : Fin cfg2.N) (d) : dat.before 3 t d = iblk2 W c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S400x10000 := Rect.unit (s := S400x10000) ![0, 0] S400x10000.size inb_S400x10000_S400x10000_0_0
abbrev r2_1 : Rect S10000x256 := Rect.unit (s := S10000x256) ![0, 0] S10000x256.size inb_S10000x256_S10000x256_0_0
abbrev r2_2 : Rect S256x257 := Rect.unit (s := S256x257) ![0, 0] S256x257.size inb_S256x257_S256x257_0_0
abbrev r2_3 : Rect S1x257 := Rect.unit (s := S1x257) ![0, 0] S1x257.size inb_S1x257_S1x257_0_0
abbrev r2_4 : Rect S400x128 := Rect.unit (s := S400x128) ![0, 0] S400x128.size inb_S400x128_S400x128_0_0

/-! ## What the body leaves in each output window's buffer -/

/-- The output's staging buffer after the body, from the input blocks. -/
def out2_4 (x0 : Vec F S400x10000 .f32) (x1 : Vec F S10000x256 .f32) (x2 : Vec F S256x257 .f32) (x3 : Vec F S1x257 .f32) : Vec F S400x128 .f32 :=
  View.canon [⟨r2_4, k2_pay1 (View.ld x0 r2_0) (View.ld x1 r2_1) (View.ld x2 r2_2) (View.ld x3 r2_3)⟩]

theorem cover2_4 (p0 : Vec F S400x128 .f32) (y : S400x128.Idx) :
    ∃ pc ∈ ([⟨r2_4, p0⟩] : List (View.Piece (Elt F) S400x128 .f32)), y ∈ pc.1.set :=
  View.cover_of_tiled [⟨r2_4, p0⟩] S400x128.size (by rfl) y

/-! ## The body's triple -/

set_option maxHeartbeats 1000000 in
/-- The body on whole staging buffers: the inputs' stay, the output's ends at the body's value of them. -/
theorem sound_kernel2 (c : Dev nD) (E : Set ℕ) (i : grid2.Coords) (arg1 : Memref sig .tc .vmem S400x10000 .f32) (harg1 : arg1.IsWhole) (arg2 : Memref sig .tc .vmem S10000x256 .f32) (harg2 : arg2.IsWhole) (arg3 : Memref sig .tc .vmem S256x257 .f32) (harg3 : arg3.IsWhole) (arg4 : Memref sig .tc .vmem S1x257 .f32) (harg4 : arg4.IsWhole) (arg5 : Memref sig .tc .vmem S400x128 .f32) (harg5 : arg5.IsWhole)
    (x0 : Vec F S400x10000 .f32) (x1 : Vec F S10000x256 .f32) (x2 : Vec F S256x257 .f32) (x3 : Vec F S1x257 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__g2_body i arg1 harg1 arg2 harg2 arg3 harg3 arg4 harg4 arg5 harg5) K := by
  simp only [cc2__g2_body_eq_skeleton]; unfold cc2__g2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`, entered at the contents `W`: each input's buffer keeps its block,
    the output's holds the body's value of the input blocks. -/
def dat2 (c : Dev nD) : Dat τ (Elt F) Unit ℕ (UR sig nD τ) ℕ cfg2 c where
  A w := W c (Proc.devRef .tc (Pipeline.arrRef spec2 w))
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => out2_4 (iblk2 W c 0 t) (iblk2 W c 1 t) (iblk2 W c 2 t) (iblk2 W c 3 t)
  Φ _ := Pipeline.ΦA spec2 c
  q _ := fullShare
  owed _ := 0

/-- The proof data's arrays are the entry contents. -/
theorem A_eq2 (c : Dev nD) (w : Fin cfg2.W) : (dat2 W c).A w = W c (Proc.devRef .tc (Pipeline.arrRef spec2 w)) := by
  dsimp only [dat2]

/-- What the body leaves, window by window. -/
theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = out2_4 (iblk2 W c 0 t) (iblk2 W c 1 t) (iblk2 W c 2 t) (iblk2 W c 3 t) := by dsimp only [dat2]

/-- Each input's staging buffer holds its block when the body is called. -/
theorem before2_0 (c : Dev nD) (t : Fin cfg2.N) (d) : (dat2 W c).before 0 t d = iblk2 W c 0 t :=
  before2_0_of W (dat2 W c) (A_eq2 W c 0) (after2_0 W c) t d
theorem before2_1 (c : Dev nD) (t : Fin cfg2.N) (d) : (dat2 W c).before 1 t d = iblk2 W c 1 t :=
  before2_1_of W (dat2 W c) (A_eq2 W c 1) (after2_1 W c) t d
theorem before2_2 (c : Dev nD) (t : Fin cfg2.N) (d) : (dat2 W c).before 2 t d = iblk2 W c 2 t :=
  before2_2_of W (dat2 W c) (A_eq2 W c 2) (after2_2 W c) t d
theorem before2_3 (c : Dev nD) (t : Fin cfg2.N) (d) : (dat2 W c).before 3 t d = iblk2 W c 3 t :=
  before2_3_of W (dat2 W c) (A_eq2 W c 3) (after2_3 W c) t d

/-! ## The body obligation, at a generic point -/

/-- What the body is called with at point `t`, -/
def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d)))

/-- and what it returns. -/
def bodyPost2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare ((dat2 W c).after 3 t)
    ∗ owns (c : Thread nD τ) (st2_4 t) fullShare ((dat2 W c).after 4 t))

set_option maxHeartbeats 8000000 in
/-- The body at any point: the inputs' buffers hold their blocks, so the body's triple applies. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3]
  rw [show (dat2 W c).Φ t.succ = (dat2 W c).Φ t.castSucc from rfl,
    show (dat2 W c).owesAt () t.succ = (dat2 W c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 W c 0 t) (iblk2 W c 1 t) (iblk2 W c 2 t) (iblk2 W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`. -/
theorem defs₀_row2 (t : Fin cfg2.N) :
    defs₀ (F := F) .tc cfg2.body (cfg2.bodyArgs t (cfg2.slots t)) = bodyAt2 t := by
  unfold defs₀; rw [Defs.onTc_tc]

set_option maxHeartbeats 8000000 in
/-- The library's body obligation, at every point. -/
theorem body_obligation2 (c : Dev nD) : BodyObligation (dat2 (F := F) W c) (defs₀ (F := F)) Variants.none () Set.univ := fun t => by
  rw [bigSep_W2, bigSep_W2, defs₀_row2]
  exact triple_restated (sound_body2 W c t) rfl .rfl fun _ => .rfl

end Cert.KernelIdeal.Gen

end
-- ==== Proof.KernelIdeal.Region3.lean ====
/- The region of pallas_call 3 of `KernelIdeal`: the six scratch words it carries over the 25 blocks, and the body's
   triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the scratch carries -/

/-- The six words the last call carries from block to block: the running maximum and sum of the log-sum-exp,
    the best score and its position, the greatest label and the score at it. -/
structure Acc (F : FTy → Type) where
  m : Vec F S1x1 .f32
  l : Vec F S1x1 .f32
  bs : Vec F S1x1 .f32
  bi : Vec F S1x1 .i32
  lm : Vec F S1x1 .f32
  tg : Vec F S1x1 .f32

/-- What the first block stores into them. -/
def accInit : Acc F := ⟨k3_pay10, k3_pay11, k3_pay12, k3_pay13, k3_pay14, k3_pay15⟩

/-- Whether the block's greatest score exceeds the best so far. -/
abbrev hitBest (a b d : FVec F S400x1 .f32) (bs : Vec F S1x1 .f32) : Prop :=
  Scalar.cmpi .ne (Scalar.extui (Scalar.cmpf .ogt (k3_pay22 a b d) (k3_pay1 bs))) 0#32 = 1#1

/-- Whether the block's greatest label exceeds the greatest so far. -/
abbrev hitLab (x7 : Vec F S400x1 .f32) (lm : Vec F S1x1 .f32) : Prop :=
  Scalar.cmpi .ne (Scalar.extui (Scalar.cmpf .ogt (k3_pay5 x7) (k3_pay6 lm))) 0#32 = 1#1

/-- The words after a block whose scores are `a / max(sqrt b · sqrt d, 1e-8)` and whose labels are `x7`. -/
def accStep' (n : BitVec 32) (a b d : FVec F S400x1 .f32) (x7 : Vec F S400x1 .f32) (s : Acc F) : Acc F where
  m := k3_pay26 a b d s.m
  l := k3_pay25 a b d s.m s.l
  bs := if hitBest a b d s.bs then k3_pay2 (k3_pay22 a b d) else s.bs
  bi := if hitBest a b d s.bs then k3_pay3 n (extractAt ![0, 0, 0] (k3_pay23 a b d) inpos_S1x1x1_p0_0_0) else s.bi
  lm := if hitLab x7 s.lm then k3_pay7 x7 else s.lm
  tg := if hitLab x7 s.lm then k3_pay8 (k3_pay21 a b d) (iota .tc S400x1 32 [0] iota_S400x1_d0_w32) x7 else s.tg

/-- The words after the block at grid coordinates `i`, from the input blocks. -/
def accStep (i : grid3.Coords) (x0 : Vec F S400x10000 .f32) (x1 : Vec F S10000x128 .f32) (x2 : Vec F S128x64 .f32) (x3 : Vec F S1x64 .f32) (x4 : Vec F S64x9 .f32) (x5 : Vec F S9x1 .f32) (x6 : Vec F S1x1 .f32) (x7 : Vec F S400x1 .f32) (s : Acc F) : Acc F :=
  accStep' (BitVec.ofNat 32 (i 0).val) (k3_pay18 x0 x1 x2 x3 x4 x5 x6) (k3_pay19 x4 x5 x6) (k3_pay20 x0 x1 x2 x3) x7 s

/-! ## The body's triple -/

/-- The body's first branch is taken. -/
abbrev isFirst (i : grid3.Coords) : Prop :=
  Scalar.cmpi .ne (Scalar.extui (Scalar.cmpi .eq (BitVec.ofNat 32 (i 0).val) 0#32)) 0#32 = 1#1

/-- What the last block stores into the loss's buffer, from the words it ends with. -/
def lossOut (s : Acc F) : Vec F S1x1 .f32 := k3_pay9 s.m s.l s.tg

/-- A load through the whole shape reads the contents. -/
theorem readAt_whole {κ : Kind} {sp : Space} {S : Shape} {e : EltTy} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- A store through the whole shape leaves its payload. -/
theorem read_writes_whole {κ : Kind} {sp : Space} {S : Shape} {e : EltTy} (v : View sig κ sp S e) {off : Fin S.rank → Nat} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb (Val := Elt F) v f (Rect.whole S) w L y
  rw [Rect.emb_whole_apply] at e
  exact e

theorem zero2 : (![0, 0] : Fin 2 → ℕ) = fun _ => 0 := by decide

set_option maxHeartbeats 8000000 in
/-- The body on whole buffers: the inputs' stay, the scratch words step, and at the last block the two outputs
    are stored from the words. -/
theorem sound_kernel3 (c : Dev nD) (E : Set ℕ) (i : grid3.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x9 .f32) (harg5 : arg5.IsWhole) (arg6 : Memref sig .tc .vmem S9x1 .f32) (harg6 : arg6.IsWhole) (arg7 : Memref sig .tc .vmem S1x1 .f32) (harg7 : arg7.IsWhole) (arg8 : Memref sig .tc .vmem S400x1 .f32) (harg8 : arg8.IsWhole) (arg9 : Memref sig .tc .vmem S1x1 .f32) (harg9 : arg9.IsWhole) (arg10 : Memref sig .tc .vmem S1x1 .i32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .i32) (harg14 : arg14.IsWhole) (arg15 : Memref sig .tc .vmem S1x1 .f32) (harg15 : arg15.IsWhole) (arg16 : Memref sig .tc .vmem S1x1 .f32) (harg16 : arg16.IsWhole)
    (x0 : Vec F S400x10000 .f32) (x1 : Vec F S10000x128 .f32) (x2 : Vec F S128x64 .f32) (x3 : Vec F S1x64 .f32) (x4 : Vec F S64x9 .f32) (x5 : Vec F S9x1 .f32) (x6 : Vec F S1x1 .f32) (x7 : Vec F S400x1 .f32) (y8 : Vec F S1x1 .f32) (y9 : Vec F S1x1 .i32) (s : Acc F) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare s.m ∗ owns (c : Thread nD τ) arg12 fullShare s.l ∗ owns (c : Thread nD τ) arg13 fullShare s.bs ∗ owns (c : Thread nD τ) arg14 fullShare s.bi ∗ owns (c : Thread nD τ) arg15 fullShare s.lm ∗ owns (c : Thread nD τ) arg16 fullShare s.tg
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (if k3_cond4 i = 1#1 then lossOut (accStep i x0 x1 x2 x3 x4 x5 x6 x7 (if isFirst i then accInit else s)) else y8) ∗ owns (c : Thread nD τ) arg10 fullShare (if k3_cond4 i = 1#1 then (accStep i x0 x1 x2 x3 x4 x5 x6 x7 (if isFirst i then accInit else s)).bi else y9) ∗ owns (c : Thread nD τ) arg11 fullShare (accStep i x0 x1 x2 x3 x4 x5 x6 x7 (if isFirst i then accInit else s)).m ∗ owns (c : Thread nD τ) arg12 fullShare (accStep i x0 x1 x2 x3 x4 x5 x6 x7 (if isFirst i then accInit else s)).l ∗ owns (c : Thread nD τ) arg13 fullShare (accStep i x0 x1 x2 x3 x4 x5 x6 x7 (if isFirst i then accInit else s)).bs ∗ owns (c : Thread nD τ) arg14 fullShare (accStep i x0 x1 x2 x3 x4 x5 x6 x7 (if isFirst i then accInit else s)).bi ∗ owns (c : Thread nD τ) arg15 fullShare (accStep i x0 x1 x2 x3 x4 x5 x6 x7 (if isFirst i then accInit else s)).lm ∗ owns (c : Thread nD τ) arg16 fullShare (accStep i x0 x1 x2 x3 x4 x5 x6 x7 (if isFirst i then accInit else s)).tg) -∗ K ⟨⟩))
      ⊢ wp frame (wpE (defs₀ (F := F)) Variants.none c none) E (cc3__g3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3__g3_body_eq_skeleton]; unfold cc3__g3_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%g3, %hg3, G3⟩, ⟨%g4, %hg4, G4⟩, ⟨%g5, %hg5, G5⟩, Hk⟩
  subst hf0 hf1 hf2 hf3 hf4 hf5 hf6 hf7 hf8 hf9
  obtain ⟨sm, sl, sbs, sbi, slm, stg⟩ := s
  dsimp only at hg0 hg1 hg2 hg3 hg4 hg5
  subst hg0 hg1 hg2 hg3 hg4 hg5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  isplitl [H9]
  · iexists _; isplitr
    swap; · iexact H9
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  isplitl [G0]
  · iexists _; isplitr
    swap; · iexact G0
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  isplitl [G1]
  · iexists _; isplitr
    swap; · iexact G1
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  isplitl [G2]
  · iexists _; isplitr
    swap; · iexact G2
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  isplitl [G3]
  · iexists _; isplitr
    swap; · iexact G3
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  isplitl [G4]
  · iexists _; isplitr
    swap; · iexact G4
    ipureintro
    dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
    simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
    by_cases h1 : Scalar.cmpi .ne (Scalar.extui (Scalar.cmpi .eq (BitVec.ofNat 32 (i 0).val) 0#32)) 0#32 = 1#1
    all_goals
      simp only [h1, ↓reduceDIte, ↓reduceIte, read_writes_whole (S := S1x1) _ zero2]
      try (split_ifs <;> first | with_reducible rfl | (simp only [read_writes_whole (S := S1x1) _ zero2]; done))
  iexists _; isplitr
  swap; · iexact G5
  ipureintro
  dsimp only [sound_kernel3.sl.G0_1, sound_kernel3.sl.G1_1, sound_kernel3.sl.r_3, sound_kernel3.sl.r_4, sound_kernel3.sl.v106, sound_kernel3.sl.v107, sound_kernel3.sl.v110, sound_kernel3.sl.v113, sound_kernel3.sl.v2, sound_kernel3.sl.v40, sound_kernel3.sl.v52, sound_kernel3.sl.v79, sound_kernel3.sl.v98, sound_kernel3.sl.v60, sound_kernel3.sl.v63, sound_kernel3.sl.r, sound_kernel3.sl.r_1, sound_kernel3.sl.r_2, sound_kernel3.sl.v1, sound_kernel3.sl.v0, accStep, accStep', accInit, lossOut, isFirst, hitBest, hitLab]
  simp only [readAt_whole (S := S400x10000) _ zero2, readAt_whole (S := S10000x128) _ zero2, readAt_whole (S := S128x64) _ zero2, readAt_whole (S := S1x64) _ zero2, readAt_whole (S := S64x9) _ zero2, readAt_whole (S := S9x1) _ zero2, readAt_whole (S := S1x1) _ zero2, readAt_whole (S := S400x1) _ zero2, View.readCov_unit_zero (S := S1x1) _ zero2]
  by_cases h1 : Scalar.cmpi .ne (Scalar.extui (Scalar.cmpi .eq (BitVec.ofNat 32 (i 0).val) 0#32)) 0#32 = 1#1
  all_goals
    simp only [h1, ↓reduceDIte, ↓reduceIte, read_writes_whole (S := S1x1) _ zero2]
    try (split_ifs <;> first | with_reducible rfl | (simp only [read_writes_whole (S := S1x1) _ zero2]; done))

end Cert.KernelIdeal.Gen

end
-- ==== Proof.KernelIdeal.Dat3.lean ====
/- The region of pallas_call 3 of `KernelIdeal`: the pipeline's proof data at any entry contents `W`, and its body
   obligation. -/
module

public import proofs.«01_k».proof.Proof.KernelIdeal.Region3
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pipeline's proof data -/

variable (W : Dev nD → Valuation τ sig (Elt F))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

theorem before3_0_of {c : Dev nD} (dat : Dat τ (Elt F) Unit ℕ (UR sig nD τ) ℕ cfg3 c) (hA : dat.A 0 = W c (Proc.devRef .tc (Pipeline.arrRef spec3 0)))
    (hafter : ∀ t, dat.after 0 t = iblk3 W c 0 t) (t : Fin cfg3.N) (d) : dat.before 0 t d = iblk3 W c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = W c (Proc.devRef .tc (Pipeline.arrRef spec3 1)))
    (hafter : ∀ t, dat.after 1 t = iblk3 W c 1 t) (t : Fin cfg3.N) (d) : dat.before 1 t d = iblk3 W c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = W c (Proc.devRef .tc (Pipeline.arrRef spec3 2)))
    (hafter : ∀ t, dat.after 2 t = iblk3 W c 2 t) (t : Fin cfg3.N) (d) : dat.before 2 t d = iblk3 W c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = W c (Proc.devRef .tc (Pipeline.arrRef spec3 3)))
    (hafter : ∀ t, dat.after 3 t = iblk3 W c 3 t) (t : Fin cfg3.N) (d) : dat.before 3 t d = iblk3 W c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = W c (Proc.devRef .tc (Pipeline.arrRef spec3 4)))
    (hafter : ∀ t, dat.after 4 t = iblk3 W c 4 t) (t : Fin cfg3.N) (d) : dat.before 4 t d = iblk3 W c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = W c (Proc.devRef .tc (Pipeline.arrRef spec3 5)))
    (hafter : ∀ t, dat.after 5 t = iblk3 W c 5 t) (t : Fin cfg3.N) (d) : dat.before 5 t d = iblk3 W c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = W c (Proc.devRef .tc (Pipeline.arrRef spec3 6)))
    (hafter : ∀ t, dat.after 6 t = iblk3 W c 6 t) (t : Fin cfg3.N) (d) : dat.before 6 t d = iblk3 W c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = W c (Proc.devRef .tc (Pipeline.arrRef spec3 7)))
    (hafter : ∀ t, dat.after 7 t = iblk3 W c 7 t) (t : Fin cfg3.N) (d) : dat.before 7 t d = iblk3 W c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- The scratch words after the first `n` blocks. -/
def accAt (c : Dev nD) : ℕ → Acc F
  | 0 => accInit
  | n + 1 => if h : n < cfg3.N then accStep (grid3.coords ⟨n, h⟩) (iblk3 W c 0 ⟨n, h⟩) (iblk3 W c 1 ⟨n, h⟩) (iblk3 W c 2 ⟨n, h⟩) (iblk3 W c 3 ⟨n, h⟩) (iblk3 W c 4 ⟨n, h⟩) (iblk3 W c 5 ⟨n, h⟩) (iblk3 W c 6 ⟨n, h⟩) (iblk3 W c 7 ⟨n, h⟩) (accAt c n) else accAt c n

theorem accAt_succ (c : Dev nD) (t : Fin cfg3.N) :
    accAt W c (t.val + 1) = accStep (grid3.coords t) (iblk3 W c 0 t) (iblk3 W c 1 t) (iblk3 W c 2 t) (iblk3 W c 3 t) (iblk3 W c 4 t) (iblk3 W c 5 t) (iblk3 W c 6 t) (iblk3 W c 7 t) (accAt W c t.val) := by
  rw [accAt, dif_pos t.isLt]

/-- The scratch words' buffers at `s`. -/
def scratch3 (c : Dev nD) (s : Acc F) : sProp 𝕄 :=
  iprop(owns (c : Thread nD τ) (Memref.whole cc3_scratch0) fullShare s.m ∗ owns (c : Thread nD τ) (Memref.whole cc3_scratch1) fullShare s.l
    ∗ owns (c : Thread nD τ) (Memref.whole cc3_scratch2) fullShare s.bs ∗ owns (c : Thread nD τ) (Memref.whole cc3_scratch3) fullShare s.bi
    ∗ owns (c : Thread nD τ) (Memref.whole cc3_scratch4) fullShare s.lm ∗ owns (c : Thread nD τ) (Memref.whole cc3_scratch5) fullShare s.tg)

/-- The invariant before block `n`: the scratch words are those of the first `n` blocks (anything at all before the
    first, which overwrites them). -/
def Phi3 (c : Dev nD) (n : ℕ) : sProp 𝕄 :=
  iprop(∃ s : Acc F, ⌜n ≠ 0 → s = accAt W c n⌝ ∗ scratch3 c s
    ∗ Pipeline.scopedRestBut (Ix := Unit) (Name := ℕ) (U := UR sig nD τ) (Lvl := ℕ) (Val := Elt F) spec3 c [cc3_scratch0, cc3_scratch1, cc3_scratch2, cc3_scratch3, cc3_scratch4, cc3_scratch5]
    ∗ ∃ r, prngReg c r)

/-- The proof data of the pipeline on core `c`, entered at the contents `W`. -/
def dat3 (c : Dev nD) : Dat τ (Elt F) Unit ℕ (UR sig nD τ) ℕ cfg3 c where
  A w := W c (Proc.devRef .tc (Pipeline.arrRef spec3 w))
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => iblk3 W c 6 t
    | ⟨7, _⟩ => iblk3 W c 7 t
    | ⟨8, _⟩ => lossOut (accAt W c (t.val + 1))
    | ⟨9, _⟩ => (accAt W c (t.val + 1)).bi
  Φ t := Phi3 W c t.val
  q _ := fullShare
  owed _ := 0

theorem A_eq3 (c : Dev nD) (w : Fin cfg3.W) : (dat3 W c).A w = W c (Proc.devRef .tc (Pipeline.arrRef spec3 w)) := by
  dsimp only [dat3]

theorem after3_0 (c : Dev nD) (t : Fin cfg3.N) : (dat3 W c).after 0 t = iblk3 W c 0 t := by dsimp only [dat3]
theorem after3_1 (c : Dev nD) (t : Fin cfg3.N) : (dat3 W c).after 1 t = iblk3 W c 1 t := by dsimp only [dat3]
theorem after3_2 (c : Dev nD) (t : Fin cfg3.N) : (dat3 W c).after 2 t = iblk3 W c 2 t := by dsimp only [dat3]
theorem after3_3 (c : Dev nD) (t : Fin cfg3.N) : (dat3 W c).after 3 t = iblk3 W c 3 t := by dsimp only [dat3]
theorem after3_4 (c : Dev nD) (t : Fin cfg3.N) : (dat3 W c).after 4 t = iblk3 W c 4 t := by dsimp only [dat3]
theorem after3_5 (c : Dev nD) (t : Fin cfg3.N) : (dat3 W c).after 5 t = iblk3 W c 5 t := by dsimp only [dat3]
theorem after3_6 (c : Dev nD) (t : Fin cfg3.N) : (dat3 W c).after 6 t = iblk3 W c 6 t := by dsimp only [dat3]
theorem after3_7 (c : Dev nD) (t : Fin cfg3.N) : (dat3 W c).after 7 t = iblk3 W c 7 t := by dsimp only [dat3]
theorem after3_8 (c : Dev nD) (t : Fin cfg3.N) : (dat3 W c).after 8 t = lossOut (accAt W c (t.val + 1)) := by dsimp only [dat3]
theorem after3_9 (c : Dev nD) (t : Fin cfg3.N) : (dat3 W c).after 9 t = (accAt W c (t.val + 1)).bi := by dsimp only [dat3]

theorem before3_0 (c : Dev nD) (t : Fin cfg3.N) (d) : (dat3 W c).before 0 t d = iblk3 W c 0 t :=
  before3_0_of W (dat3 W c) (A_eq3 W c 0) (after3_0 W c) t d
theorem before3_1 (c : Dev nD) (t : Fin cfg3.N) (d) : (dat3 W c).before 1 t d = iblk3 W c 1 t :=
  before3_1_of W (dat3 W c) (A_eq3 W c 1) (after3_1 W c) t d
theorem before3_2 (c : Dev nD) (t : Fin cfg3.N) (d) : (dat3 W c).before 2 t d = iblk3 W c 2 t :=
  before3_2_of W (dat3 W c) (A_eq3 W c 2) (after3_2 W c) t d
theorem before3_3 (c : Dev nD) (t : Fin cfg3.N) (d) : (dat3 W c).before 3 t d = iblk3 W c 3 t :=
  before3_3_of W (dat3 W c) (A_eq3 W c 3) (after3_3 W c) t d
theorem before3_4 (c : Dev nD) (t : Fin cfg3.N) (d) : (dat3 W c).before 4 t d = iblk3 W c 4 t :=
  before3_4_of W (dat3 W c) (A_eq3 W c 4) (after3_4 W c) t d
theorem before3_5 (c : Dev nD) (t : Fin cfg3.N) (d) : (dat3 W c).before 5 t d = iblk3 W c 5 t :=
  before3_5_of W (dat3 W c) (A_eq3 W c 5) (after3_5 W c) t d
theorem before3_6 (c : Dev nD) (t : Fin cfg3.N) (d) : (dat3 W c).before 6 t d = iblk3 W c 6 t :=
  before3_6_of W (dat3 W c) (A_eq3 W c 6) (after3_6 W c) t d
theorem before3_7 (c : Dev nD) (t : Fin cfg3.N) (d) : (dat3 W c).before 7 t d = iblk3 W c 7 t :=
  before3_7_of W (dat3 W c) (A_eq3 W c 7) (after3_7 W c) t d

/-- The first block is the one at the grid's first point, -/
theorem isFirst_iff : ∀ t : Fin cfg3.N, isFirst (grid3.coords t) ↔ t.val = 0 :=
  (by decide : ∀ t : Fin grid3.N, isFirst (grid3.coords t) ↔ t.val = 0)
/-- and the last one the outputs are stored at. -/
theorem cond4_iff : ∀ t : Fin cfg3.N, k3_cond4 (grid3.coords t) = 1#1 ↔ t.val = 24 :=
  (by decide : ∀ t : Fin grid3.N, k3_cond4 (grid3.coords t) = 1#1 ↔ t.val = 24)

/-! ## The body obligation, at a generic point -/

/-- What the body is called with at point `t`, -/
def bodyPre3 (c : Dev nD) (t : Fin cfg3.N) : sProp 𝕄 :=
  iprop((dat3 W c).Φ t.castSucc ∗ (dat3 W c).owesAt () t.castSucc
    ∗ (∃ d, owns (c : Thread nD τ) (st3_0 t) fullShare ((dat3 W c).before 0 t d))
    ∗ (∃ d, owns (c : Thread nD τ) (st3_1 t) fullShare ((dat3 W c).before 1 t d))
    ∗ (∃ d, owns (c : Thread nD τ) (st3_2 t) fullShare ((dat3 W c).before 2 t d))
    ∗ (∃ d, owns (c : Thread nD τ) (st3_3 t) fullShare ((dat3 W c).before 3 t d))
    ∗ (∃ d, owns (c : Thread nD τ) (st3_4 t) fullShare ((dat3 W c).before 4 t d))
    ∗ (∃ d, owns (c : Thread nD τ) (st3_5 t) fullShare ((dat3 W c).before 5 t d))
    ∗ (∃ d, owns (c : Thread nD τ) (st3_6 t) fullShare ((dat3 W c).before 6 t d))
    ∗ (∃ d, owns (c : Thread nD τ) (st3_7 t) fullShare ((dat3 W c).before 7 t d))
    ∗ (∃ d, owns (c : Thread nD τ) (st3_8 t) fullShare ((dat3 W c).before 8 t d))
    ∗ (∃ d, owns (c : Thread nD τ) (st3_9 t) fullShare ((dat3 W c).before 9 t d)))

/-- and what it returns: at the last point the outputs stored, before it as found. -/
def bodyPost3 (c : Dev nD) (t : Fin cfg3.N) : sProp 𝕄 :=
  iprop((dat3 W c).Φ t.succ ∗ (dat3 W c).owesAt () t.succ
    ∗ owns (c : Thread nD τ) (st3_0 t) fullShare ((dat3 W c).after 0 t)
    ∗ owns (c : Thread nD τ) (st3_1 t) fullShare ((dat3 W c).after 1 t)
    ∗ owns (c : Thread nD τ) (st3_2 t) fullShare ((dat3 W c).after 2 t)
    ∗ owns (c : Thread nD τ) (st3_3 t) fullShare ((dat3 W c).after 3 t)
    ∗ owns (c : Thread nD τ) (st3_4 t) fullShare ((dat3 W c).after 4 t)
    ∗ owns (c : Thread nD τ) (st3_5 t) fullShare ((dat3 W c).after 5 t)
    ∗ owns (c : Thread nD τ) (st3_6 t) fullShare ((dat3 W c).after 6 t)
    ∗ owns (c : Thread nD τ) (st3_7 t) fullShare ((dat3 W c).after 7 t)
    ∗ (if t.val = 24 then owns (c : Thread nD τ) (st3_8 t) fullShare ((dat3 W c).after 8 t) else iprop(∃ d, owns (c : Thread nD τ) (st3_8 t) fullShare ((dat3 W c).before 8 t d)))
    ∗ (if t.val = 24 then owns (c : Thread nD τ) (st3_9 t) fullShare ((dat3 W c).after 9 t) else iprop(∃ d, owns (c : Thread nD τ) (st3_9 t) fullShare ((dat3 W c).before 9 t d))))

set_option maxHeartbeats 8000000 in
/-- The body at any point: the inputs' buffers hold their blocks, so the body's triple applies. -/
theorem sound_body3 (c : Dev nD) (t : Fin cfg3.N) :
    bodyPre3 W c t ⊢ wp frame (wpE (defs₀ (F := F)) Variants.none c none) Set.univ (bodyAt3 t) (fun _ => bodyPost3 W c t) := by
  unfold bodyPre3 bodyPost3 bodyAt3
  simp only [before3_0, before3_1, before3_2, before3_3, before3_4, before3_5, before3_6, before3_7]
  rw [show (dat3 W c).Φ t.castSucc = Phi3 W c t.val from rfl, show (dat3 W c).Φ t.succ = Phi3 W c (t.val + 1) from rfl,
    show (dat3 W c).owesAt () t.succ = (dat3 W c).owesAt () t.castSucc from rfl,
    after3_0, after3_1, after3_2, after3_3, after3_4, after3_5, after3_6, after3_7, after3_8, after3_9]
  unfold Phi3 scratch3
  iintro ⟨⟨%s, %hs, ⟨G0, G1, G2, G3, G4, G5⟩, Hrest, Hprng⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hacc : (if isFirst (grid3.coords t) then accInit else s) = accAt W c t.val := by
    by_cases h : t.val = 0
    · rw [if_pos ((isFirst_iff t).mpr h), h]; rfl
    · rw [if_neg (fun h' => h ((isFirst_iff t).mp h')), hs h]
  iapply (sound_kernel3 c Set.univ (grid3.coords t) _ _ _ _ _ _ _ _ _ _ _ _ _ _ _ _ _ _ _ _ _ _ _ _ _ _ _ _ _ _ _ _ (iblk3 W c 0 t) (iblk3 W c 1 t) (iblk3 W c 2 t) (iblk3 W c 3 t) (iblk3 W c 4 t) (iblk3 W c 5 t) (iblk3 W c 6 t) (iblk3 W c 7 t) ((dat3 W c).before 8 t d8) ((dat3 W c).before 9 t d9) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G0]; · iexact G0
  isplitl [G1]; · iexact G1
  isplitl [G2]; · iexact G2
  isplitl [G3]; · iexact G3
  isplitl [G4]; · iexact G4
  isplitl [G5]; · iexact G5
  iintro ⟨H0, H1, H2, H3, H4, H5, H6, H7, H8, H9, G0, G1, G2, G3, G4, G5⟩
  rw [hacc, ← accAt_succ]
  isplitl [G0 G1 G2 G3 G4 G5 Hrest Hprng]
  · iexists (accAt W c (t.val + 1))
    isplitr; · ipureintro; exact fun _ => rfl
    isplitl [G0 G1 G2 G3 G4 G5]
    · isplitl [G0]; · iexact G0
      isplitl [G1]; · iexact G1
      isplitl [G2]; · iexact G2
      isplitl [G3]; · iexact G3
      isplitl [G4]; · iexact G4
      iexact G5
    isplitl [Hrest]; · iexact Hrest
    iexact Hprng
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h24 : t.val = 24
  · simp only [if_pos h24, if_pos ((cond4_iff t).mpr h24)]
    isplitl [H8]; · iexact H8
    iexact H9
  · simp only [if_neg h24, if_neg (fun h' => h24 ((cond4_iff t).mp h'))]
    isplitl [H8]; · iexists d8; iexact H8
    iexists d9; iexact H9

/-- The body table's row at point `t`. -/
theorem defs₀_row3 (t : Fin cfg3.N) :
    defs₀ (F := F) .tc cfg3.body (cfg3.bodyArgs t (cfg3.slots t)) = bodyAt3 t := by
  unfold defs₀; rw [Defs.onTc_tc]

set_option maxHeartbeats 8000000 in
/-- The library's body obligation, at every point. -/
theorem body_obligation3 (c : Dev nD) : BodyObligation (dat3 (F := F) W c) (defs₀ (F := F)) Variants.none () Set.univ := fun t => by
  rw [bigSep_W3, bigSep_W3, defs₀_row3]
  by_cases h24 : t.val = 24
  · have i8 : cfg3.idle 8 (cfg3.grid.coords t) = false := by
      show (!(k3_cond4 (grid3.coords t) == 1#1)) = false
      rw [(cond4_iff t).mpr h24]; rfl
    have i8' : idle3 8 (grid3.coords t) = false := i8
    have i9' : idle3 9 (grid3.coords t) = false := i8
    have h := sound_body3 W c t
    unfold bodyPost3 at h
    simp only [if_pos h24] at h
    simp only [i8', i9']
    exact triple_restated h rfl .rfl fun _ => .rfl
  · have hc : k3_cond4 (grid3.coords t) ≠ 1#1 := fun h' => h24 ((cond4_iff t).mp h')
    have i8 : cfg3.idle 8 (cfg3.grid.coords t) = true := by
      show (!(k3_cond4 (grid3.coords t) == 1#1)) = true
      rw [beq_eq_false_iff_ne.mpr hc]; rfl
    have i8' : idle3 8 (grid3.coords t) = true := i8
    have i9' : idle3 9 (grid3.coords t) = true := i8
    have hm : ¬ t.val % 25 = 24 := by have := t.isLt; have : cfg3.N = 25 := N_3; omega
    have f8 : (cfg3.win 8).flush t = false := Bool.eq_false_iff.mpr fun h => hm ((flush3_8 t).mp h)
    have f9 : (cfg3.win 9).flush t = false := Bool.eq_false_iff.mpr fun h => hm ((flush3_9 t).mp h)
    have h := sound_body3 W c t
    unfold bodyPost3 at h
    simp only [if_neg h24] at h
    simp only [i8', i9', f8, f9]
    exact triple_restated h rfl .rfl fun _ => .rfl

end Cert.KernelIdeal.Gen

end
-- ==== Proof.KernelIdeal.Run.lean ====
/- The whole run of `KernelIdeal`: the four regions and the five stretches of host operations chained, every unscoped
   buffer read off at the end. -/
module

public import proofs.«01_k».proof.Proof.KernelIdeal.Region0
public import proofs.«01_k».proof.Proof.KernelIdeal.Region1
public import proofs.«01_k».proof.Proof.KernelIdeal.Region2
public import proofs.«01_k».proof.Proof.KernelIdeal.Dat3
public import proofs.«01_k».proof.Proof.Gen.KernelIdeal.Regions
public import Idealize.ShloMosaic.Lib.Pipeline.RegionArraysS

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core `c`'s buffers when region 0 is entered. -/
def X1 (c : Dev nD) : Valuation τ sig (Elt F) := StableHlo.after hostOps0 (V0 m c)
/-- Core `c`'s buffers when region 0 is left, -/
def Y1 (c : Dev nD) : Valuation τ sig (Elt F) := Pipeline.afterRegion (dat0 (X1 m) c) (X1 m c)
/-- and after the host operations that follow it. -/
def X2 (c : Dev nD) : Valuation τ sig (Elt F) := StableHlo.after hostOps1 (Y1 m c)
/-- Core `c`'s buffers when region 1 is left, -/
def Y2 (c : Dev nD) : Valuation τ sig (Elt F) := Pipeline.afterRegion (dat1 (X2 m) c) (X2 m c)
/-- and after the host operations that follow it. -/
def X3 (c : Dev nD) : Valuation τ sig (Elt F) := StableHlo.after hostOps2 (Y2 m c)
/-- Core `c`'s buffers when region 2 is left, -/
def Y3 (c : Dev nD) : Valuation τ sig (Elt F) := Pipeline.afterRegion (dat2 (X3 m) c) (X3 m c)
/-- and after the host operations that follow it. -/
def X4 (c : Dev nD) : Valuation τ sig (Elt F) := StableHlo.after hostOps3 (Y3 m c)
/-- Core `c`'s buffers when region 3 is left, -/
def Y4 (c : Dev nD) : Valuation τ sig (Elt F) := Pipeline.afterRegion (dat3 (X4 m) c) (X4 m c)
/-- and after the host operations that follow it. -/
def X5 (c : Dev nD) : Valuation τ sig (Elt F) := StableHlo.after hostOps4 (Y4 m c)

/-- The four pipelines' proof data, each entered at the contents the items before it leave. -/
def pdats : (p : Fin 4) → (c : Dev nD) → Dat τ (Elt F) Unit ℕ (UR sig nD τ) ℕ (cfgs p) c
  | ⟨0, _⟩ => dat0 (X1 m)
  | ⟨1, _⟩ => dat1 (X2 m)
  | ⟨2, _⟩ => dat2 (X3 m)
  | ⟨3, _⟩ => dat3 (X4 m)

/-! ## The level assignment and what rides along -/

/-- One level, on the TensorCores' cells. -/
def lev (g : GSem nD τ sig) : Finset Unit := if g.1.2 = .tc then {()} else ∅

/-- What rides beside the buffers: the core owes nothing, and its generator register is at something. -/
def rest (c : Dev nD) : sProp 𝕄 :=
  iprop((∃ Wd, owes (c : Thread nD τ) (0 : CellTallies nD τ sig Unit) Wd) ∗ (∃ r, prngReg c r) ∗ emp)

theorem levelCut (p : Fin 4) :
    Pipeline.LevelCut (pcfgs (F := F)) adm () lev (fun _ _ => (0 : ℕ)) p (fun _ => (0 : CellTallies nD τ sig Unit)) (fun _ => 0) where
  hι c w s := by unfold lev; rw [if_pos rfl]; exact Finset.mem_singleton_self _
  hιb c w s := le_refl _
  hD c g i h := absurd h (lt_irrefl _)

/-- Region 0's record. -/
def reg0 : RegionSeg (pcfgs (F := F)) adm (pdats m) () defs₀ Variants.none lev (fun _ _ => (0 : ℕ)) 0 :=
  RegionSeg.ofHeldIn (pcfgs (F := F)) adm (pdats m) () defs₀ Variants.none lev (fun _ _ => (0 : ℕ)) 0 (fun _ => 0) (Pipeline.ucRefs τ sig)
    (fun c => iprop(∃ r, prngReg c r)) (fun c => iprop(∃ r, prngReg c r)) launch0.toP rfl
    (fun c => (body_obligation0 (X1 m) c).loose)
    (fun _ _ => rfl) (fun _ => rfl) (fun c => (dat0 (X1 m) c).share_full fun _ => rfl)
    (fun c => .rfl) (fun c => .rfl) (fun _ => 0) (levelCut 0) (fun _ => iprop(emp)) (X1 m) (fun c w => A_eq0 (X1 m) c w)

theorem arrs0 : Pipeline.arrRefs (τ := τ) (pcfgs (F := F) 0).spec ⊆ Pipeline.ucRefs τ sig :=
  Pipeline.arrRefs_sub_ucRefs _ (by decide : ∀ w, (Pipeline.arrRef spec0 w).isScoped = false)

/-- Region 1's record. -/
def reg1 : RegionSeg (pcfgs (F := F)) adm (pdats m) () defs₀ Variants.none lev (fun _ _ => (0 : ℕ)) 1 :=
  RegionSeg.ofHeldIn (pcfgs (F := F)) adm (pdats m) () defs₀ Variants.none lev (fun _ _ => (0 : ℕ)) 1 (fun _ => 0) (Pipeline.ucRefs τ sig)
    (fun c => iprop(∃ r, prngReg c r)) (fun c => iprop(∃ r, prngReg c r)) launch1.toP rfl
    (fun c => (body_obligation1 (X2 m) c).loose)
    (fun _ _ => rfl) (fun _ => rfl) (fun c => (dat1 (X2 m) c).share_full fun _ => rfl)
    (fun c => .rfl) (fun c => .rfl) (fun _ => 0) (levelCut 1) (fun _ => iprop(emp)) (X2 m) (fun c w => A_eq1 (X2 m) c w)

theorem arrs1 : Pipeline.arrRefs (τ := τ) (pcfgs (F := F) 1).spec ⊆ Pipeline.ucRefs τ sig :=
  Pipeline.arrRefs_sub_ucRefs _ (by decide : ∀ w, (Pipeline.arrRef spec1 w).isScoped = false)

/-- Region 2's record. -/
def reg2 : RegionSeg (pcfgs (F := F)) adm (pdats m) () defs₀ Variants.none lev (fun _ _ => (0 : ℕ)) 2 :=
  RegionSeg.ofHeldIn (pcfgs (F := F)) adm (pdats m) () defs₀ Variants.none lev (fun _ _ => (0 : ℕ)) 2 (fun _ => 0) (Pipeline.ucRefs τ sig)
    (fun c => iprop(∃ r, prngReg c r)) (fun c => iprop(∃ r, prngReg c r)) launch2.toP rfl
    (fun c => (body_obligation2 (X3 m) c).loose)
    (fun _ _ => rfl) (fun _ => rfl) (fun c => (dat2 (X3 m) c).share_full fun _ => rfl)
    (fun c => .rfl) (fun c => .rfl) (fun _ => 0) (levelCut 2) (fun _ => iprop(emp)) (X3 m) (fun c w => A_eq2 (X3 m) c w)

theorem arrs2 : Pipeline.arrRefs (τ := τ) (pcfgs (F := F) 2).spec ⊆ Pipeline.ucRefs τ sig :=
  Pipeline.arrRefs_sub_ucRefs _ (by decide : ∀ w, (Pipeline.arrRef spec2 w).isScoped = false)

/-- Region 3's invariant before its first block, from the scratch at anything; -/
theorem phi3_in (W : Dev nD → Valuation τ sig (Elt F)) (c : Dev nD) :
    iprop(Pipeline.scopedRest (Ix := Unit) (Name := ℕ) (U := UR sig nD τ) (Lvl := ℕ) (Val := Elt F) spec3 c ∗ ∃ r, prngReg c r) ⊢ Phi3 W c 0 := by
  rw [scopedRest3_split]
  unfold Phi3 scratch3
  simp only [owns_whole]
  iintro ⟨⟨⟨⟨%f0, G0⟩, ⟨%f1, G1⟩, ⟨%f2, G2⟩, ⟨%f3, G3⟩, ⟨%f4, G4⟩, ⟨%f5, G5⟩⟩, Hrest⟩, Hp⟩
  iexists (⟨f0, f1, f2, f3, f4, f5⟩ : Acc F)
  isplitr; · ipureintro; exact fun h => absurd rfl h
  isplitl [G0 G1 G2 G3 G4 G5]
  · isplitl [G0]; · iexact G0
    isplitl [G1]; · iexact G1
    isplitl [G2]; · iexact G2
    isplitl [G3]; · iexact G3
    isplitl [G4]; · iexact G4
    iexact G5
  isplitl [Hrest]; · iexact Hrest
  iexact Hp

/-- and what it leaves, the scratch forgotten. -/
theorem phi3_out (W : Dev nD → Valuation τ sig (Elt F)) (c : Dev nD) (n : ℕ) :
    Phi3 W c n ⊢ iprop(Pipeline.scopedRest (Ix := Unit) (Name := ℕ) (U := UR sig nD τ) (Lvl := ℕ) (Val := Elt F) spec3 c ∗ ∃ r, prngReg c r) := by
  rw [scopedRest3_split]
  unfold Phi3 scratch3
  simp only [owns_whole]
  iintro ⟨%s, -, ⟨G0, G1, G2, G3, G4, G5⟩, Hrest, Hp⟩
  isplitr [Hp]
  · isplitr [Hrest]
    · isplitl [G0]; · iexists _; iexact G0
      isplitl [G1]; · iexists _; iexact G1
      isplitl [G2]; · iexists _; iexact G2
      isplitl [G3]; · iexists _; iexact G3
      isplitl [G4]; · iexists _; iexact G4
      iexists _; iexact G5
    iexact Hrest
  iexact Hp

/-- Region 3's record. -/
def reg3 : RegionSeg (pcfgs (F := F)) adm (pdats m) () defs₀ Variants.none lev (fun _ _ => (0 : ℕ)) 3 :=
  RegionSeg.ofHeldIn (pcfgs (F := F)) adm (pdats m) () defs₀ Variants.none lev (fun _ _ => (0 : ℕ)) 3 (fun _ => 0) (Pipeline.ucRefs τ sig)
    (fun c => iprop(∃ r, prngReg c r)) (fun c => iprop(∃ r, prngReg c r)) launch3.toP rfl
    (fun c => (body_obligation3 (X4 m) c).loose)
    (fun _ _ => rfl) (fun _ => rfl) (fun c => (dat3 (X4 m) c).share_full fun _ => rfl)
    (phi3_in (X4 m)) (fun c => phi3_out (X4 m) c _) (fun _ => 0) (levelCut 3) (fun _ => iprop(emp)) (X4 m) (fun c w => A_eq3 (X4 m) c w)

theorem arrs3 : Pipeline.arrRefs (τ := τ) (pcfgs (F := F) 3).spec ⊆ Pipeline.ucRefs τ sig :=
  Pipeline.arrRefs_sub_ucRefs _ (by decide : ∀ w, (Pipeline.arrRef spec3 w).isScoped = false)

theorem reg0_pre (c : Dev nD) : iprop(StableHlo.held (c : Thread nD τ) (Pipeline.ucRefs τ sig) (X1 m c) ∗ rest c) ⊢ (reg0 m).pre c := by
  unfold reg0 rest
  refine BIBase.Entails.trans ?_ (RegionSeg.ofHeldIn_pre (arrs0 (F := F)) c)
  exact .rfl
theorem reg0_post (c : Dev nD) : (reg0 m).post c ⊢ iprop(StableHlo.held (c : Thread nD τ) (Pipeline.ucRefs τ sig) (Y1 m c) ∗ rest c) := by
  unfold reg0 rest
  exact RegionSeg.ofHeldIn_post (arrs0 (F := F)) c
theorem reg1_pre (c : Dev nD) : iprop(StableHlo.held (c : Thread nD τ) (Pipeline.ucRefs τ sig) (X2 m c) ∗ rest c) ⊢ (reg1 m).pre c := by
  unfold reg1 rest
  refine BIBase.Entails.trans ?_ (RegionSeg.ofHeldIn_pre (arrs1 (F := F)) c)
  exact .rfl
theorem reg1_post (c : Dev nD) : (reg1 m).post c ⊢ iprop(StableHlo.held (c : Thread nD τ) (Pipeline.ucRefs τ sig) (Y2 m c) ∗ rest c) := by
  unfold reg1 rest
  exact RegionSeg.ofHeldIn_post (arrs1 (F := F)) c
theorem reg2_pre (c : Dev nD) : iprop(StableHlo.held (c : Thread nD τ) (Pipeline.ucRefs τ sig) (X3 m c) ∗ rest c) ⊢ (reg2 m).pre c := by
  unfold reg2 rest
  refine BIBase.Entails.trans ?_ (RegionSeg.ofHeldIn_pre (arrs2 (F := F)) c)
  exact .rfl
theorem reg2_post (c : Dev nD) : (reg2 m).post c ⊢ iprop(StableHlo.held (c : Thread nD τ) (Pipeline.ucRefs τ sig) (Y3 m c) ∗ rest c) := by
  unfold reg2 rest
  exact RegionSeg.ofHeldIn_post (arrs2 (F := F)) c
theorem reg3_pre (c : Dev nD) : iprop(StableHlo.held (c : Thread nD τ) (Pipeline.ucRefs τ sig) (X4 m c) ∗ rest c) ⊢ (reg3 m).pre c := by
  unfold reg3 rest
  refine BIBase.Entails.trans ?_ (RegionSeg.ofHeldIn_pre (arrs3 (F := F)) c)
  exact .rfl
theorem reg3_post (c : Dev nD) : (reg3 m).post c ⊢ iprop(StableHlo.held (c : Thread nD τ) (Pipeline.ucRefs τ sig) (Y4 m c) ∗ rest c) := by
  unfold reg3 rest
  exact RegionSeg.ofHeldIn_post (arrs3 (F := F)) c
/-- The host operations `hostOps0`. -/
def host0 : HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
/-- The host operations `hostOps1`. -/
def host1 : HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Y1 m) rest
/-- The host operations `hostOps2`. -/
def host2 : HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Y2 m) rest
/-- The host operations `hostOps3`. -/
def host3 : HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (Y3 m) rest
/-- The host operations `hostOps4`. -/
def host4 : HostSeg (Ix := Unit) (Name := ℕ) (U := UR sig nD τ) (Lvl := ℕ) (pcfgs (F := F)) defs₀ Variants.none lev (fun _ _ => (0 : ℕ)) :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (Y4 m) rest

/-- @main's items. -/
abbrev items : List (Seg (pcfgs (F := F)) adm (pdats m) () defs₀ Variants.none lev (fun _ _ => (0 : ℕ))) :=
  [.host (host0 m), .region (reg0 m), .host (host1 m), .region (reg1 m), .host (host2 m), .region (reg2 m), .host (host3 m), .region (reg3 m), .host (host4 m)]

set_option maxHeartbeats 400000 in
set_option backward.isDefEq.respectTransparency.types false in
/-- The run: every execution of @main from `m` ends, with every unscoped buffer at `X5` and every counter at zero. -/
theorem run_all (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = X5 m c (Proc.devRef .tc b)) ∧ r.2.sem = fun _ => 0) := by
  refine Pipeline.θ_run_regions_kit_dev_sems (pcfgs (F := F)) adm (pdats m) () cellOf_inj emb₁ defs₀ Variants.none lev (fun _ _ => (0 : ℕ)) m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, Seg.pipes_host, Seg.pipes_region, Seg.pipes_nil]; decide)
    (fun _ => 0) (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (X5 m c))
    (hch := fun c => ⟨.rfl,
      reg0_pre m c, reg0_post m c,
      reg1_pre m c, reg1_post m c,
      reg2_pre m c, reg2_post m c,
      reg3_pre m c, reg3_post m c,
      sep_mono .rfl (by unfold rest; iintro ⟨Ho, -, -⟩; iexact Ho)⟩)
    (hinit := ?_)
    (QY := fun c s => ∀ b : Ref sig .tc, b.isScoped = false → s.mem ((c.tc : Thread nD τ).loc b) = X5 m c (Proc.devRef .tc b))
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine BIBase.Entails.trans sep_elim_left (BIBase.Entails.trans ?_ fupd_intro)
    refine bigSep_mono fun c _ => ?_
    rw [← Pipeline.unscopedBufs_held (Ix := Unit) (Name := ℕ) (U := UR sig nD τ) (Lvl := ℕ) c (V0 m c)]
    unfold rest
    change BIBase.Entails (PROP := sProp 𝕄) _ _
    iintro ⟨Hb, -, Ho, -, Hp, -⟩
    isplitl [Hb]; · iexact Hb
    isplitl [Ho]; · iexists _; iexact Ho
    isplitl [Hp]; · iexists _; iexact Hp
    iempintro
  · unfold StableHlo.held
    iintro ⟨Hh, HSI⟩
    ihave Hr := (pointsTo_read_all (Pipeline.ucRefs τ sig) (fun b => ((c : Thread nD τ).1, b)) (X5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    iexact HSI

/-! ## What a region and the host operations leave unchanged -/

theorem Y1_of (c : Dev nD) (r : Ref sig .tc) (h : r ∉ ([main_v64] : List (Ref sig .tc))) : Y1 m c (Proc.devRef .tc r) = X1 m c (Proc.devRef .tc r) :=
  Pipeline.afterRegion_keeps (dat0 (X1 m) c) (X1 m c) launch0.win.arr_inj (A_eq0 (X1 m) c) r fun w e => by
    subst e
    exact (by decide : ∀ w : Fin cfg0.W, Pipeline.arrRef spec0 w ∉ ([main_v64] : List (Ref sig .tc)) → (cfg0.win w).isOut = false) w h
theorem Y2_of (c : Dev nD) (r : Ref sig .tc) (h : r ∉ ([main_v67] : List (Ref sig .tc))) : Y2 m c (Proc.devRef .tc r) = X2 m c (Proc.devRef .tc r) :=
  Pipeline.afterRegion_keeps (dat1 (X2 m) c) (X2 m c) launch1.win.arr_inj (A_eq1 (X2 m) c) r fun w e => by
    subst e
    exact (by decide : ∀ w : Fin cfg1.W, Pipeline.arrRef spec1 w ∉ ([main_v67] : List (Ref sig .tc)) → (cfg1.win w).isOut = false) w h
theorem Y3_of (c : Dev nD) (r : Ref sig .tc) (h : r ∉ ([main_v69] : List (Ref sig .tc))) : Y3 m c (Proc.devRef .tc r) = X3 m c (Proc.devRef .tc r) :=
  Pipeline.afterRegion_keeps (dat2 (X3 m) c) (X3 m c) launch2.win.arr_inj (A_eq2 (X3 m) c) r fun w e => by
    subst e
    exact (by decide : ∀ w : Fin cfg2.W, Pipeline.arrRef spec2 w ∉ ([main_v69] : List (Ref sig .tc)) → (cfg2.win w).isOut = false) w h
theorem Y4_of (c : Dev nD) (r : Ref sig .tc) (h : r ∉ ([main_v73_0, main_v73_1] : List (Ref sig .tc))) : Y4 m c (Proc.devRef .tc r) = X4 m c (Proc.devRef .tc r) :=
  Pipeline.afterRegion_keeps (dat3 (X4 m) c) (X4 m c) launch3.win.arr_inj (A_eq3 (X4 m) c) r fun w e => by
    subst e
    exact (by decide : ∀ w : Fin cfg3.W, Pipeline.arrRef spec3 w ∉ ([main_v73_0, main_v73_1] : List (Ref sig .tc)) → (cfg3.win w).isOut = false) w h
theorem X1_of (c : Dev nD) (r : Ref sig .tc) (h : r ∉ hostOps0_W) : X1 m c (Proc.devRef .tc r) = V0 m c (Proc.devRef .tc r) :=
  StableHlo.after_of_writes_sub hostOps0 _ hostOps0_writes h
theorem X2_of (c : Dev nD) (r : Ref sig .tc) (h : r ∉ hostOps1_W) : X2 m c (Proc.devRef .tc r) = Y1 m c (Proc.devRef .tc r) :=
  StableHlo.after_of_writes_sub hostOps1 _ hostOps1_writes h
theorem X3_of (c : Dev nD) (r : Ref sig .tc) (h : r ∉ hostOps2_W) : X3 m c (Proc.devRef .tc r) = Y2 m c (Proc.devRef .tc r) :=
  StableHlo.after_of_writes_sub hostOps2 _ hostOps2_writes h
theorem X4_of (c : Dev nD) (r : Ref sig .tc) (h : r ∉ hostOps3_W) : X4 m c (Proc.devRef .tc r) = Y3 m c (Proc.devRef .tc r) :=
  StableHlo.after_of_writes_sub hostOps3 _ hostOps3_writes h
theorem X5_of' (c : Dev nD) (r : Ref sig .tc) (h : r ∉ hostOps4_W) : X5 m c (Proc.devRef .tc r) = Y4 m c (Proc.devRef .tc r) :=
  StableHlo.after_of_writes_sub hostOps4 _ hostOps4_writes h

/-- The references some item writes. -/
abbrev written : List (Ref sig .tc) :=
  hostOps0_W ++ hostOps1_W ++ hostOps2_W ++ hostOps3_W ++ hostOps4_W ++ [main_v64, main_v67, main_v69, main_v73_0, main_v73_1]

/-- A buffer no item writes ends as launched. -/
theorem X5_of (c : Dev nD) (r : Ref sig .tc) (h : r ∉ written) : X5 m c (Proc.devRef .tc r) = m ((c.tc : Thread nD τ).loc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [X5_of' m c r h4, Y4_of m c r (by simp [e, f]), X4_of m c r h3, Y3_of m c r (by simp [d]), X3_of m c r h2, Y2_of m c r (by simp [b]),
    X2_of m c r h1, Y1_of m c r (by simp [a]), X1_of m c r h0]

/-- The arguments of a final state are as launched. -/
theorem args_kept (s : MemSt nD τ sig (Elt F)) (c : Dev nD)
    (h : ∀ b : Ref sig .tc, b.isScoped = false → s.mem ((c.tc : Thread nD τ).loc b) = X5 m c (Proc.devRef .tc b)) :
    s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28) ∧ s.mem ((c.tc : Thread nD τ).loc main_arg29) = m ((c.tc : Thread nD τ).loc main_arg29) ∧ s.mem ((c.tc : Thread nD τ).loc main_arg30) = m ((c.tc : Thread nD τ).loc main_arg30) ∧ s.mem ((c.tc : Thread nD τ).loc main_arg31) = m ((c.tc : Thread nD τ).loc main_arg31) ∧ s.mem ((c.tc : Thread nD τ).loc main_arg32) = m ((c.tc : Thread nD τ).loc main_arg32) ∧ s.mem ((c.tc : Thread nD τ).loc main_arg33) = m ((c.tc : Thread nD τ).loc main_arg33) ∧ s.mem ((c.tc : Thread nD τ).loc main_arg34) = m ((c.tc : Thread nD τ).loc main_arg34) ∧ s.mem ((c.tc : Thread nD τ).loc main_arg35) = m ((c.tc : Thread nD τ).loc main_arg35) := by
  have k : ∀ b : Ref sig .tc, b.isScoped = false ∧ b ∉ written → s.mem ((c.tc : Thread nD τ).loc b) = m ((c.tc : Thread nD τ).loc b) :=
    fun b hb => (h b hb.1).trans (X5_of m c b hb.2)
  refine ⟨k main_arg0 ?_, k main_arg1 ?_, k main_arg2 ?_, k main_arg3 ?_, k main_arg4 ?_, k main_arg5 ?_, k main_arg6 ?_, k main_arg7 ?_, k main_arg8 ?_, k main_arg9 ?_, k main_arg10 ?_, k main_arg11 ?_, k main_arg12 ?_, k main_arg13 ?_, k main_arg14 ?_, k main_arg15 ?_, k main_arg16 ?_, k main_arg17 ?_, k main_arg18 ?_, k main_arg19 ?_, k main_arg20 ?_, k main_arg21 ?_, k main_arg22 ?_, k main_arg23 ?_, k main_arg24 ?_, k main_arg25 ?_, k main_arg26 ?_, k main_arg27 ?_, k main_arg28 ?_, k main_arg29 ?_, k main_arg30 ?_, k main_arg31 ?_, k main_arg32 ?_, k main_arg33 ?_, k main_arg34 ?_, k main_arg35 ?_⟩ <;> decide

end Cert.KernelIdeal.Gen

end
-- ==== Proof.Frames.lean ====
/- The three frames: each program ends with its arguments as launched and every counter at zero. -/
module

public import proofs.«01_k».proof.Defs
public import proofs.«01_k».proof.Proof.Kernel.Run
public import proofs.«01_k».proof.Proof.KernelIdeal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel over words: every argument of every device is kept, and every counter is zero. -/
theorem frame_kernel : Cert.quiescent_Kernel (hKernel := Cert.Kernel.Gen.facts) := by
  intro m g _
  exact (θ_run Cert.Kernel.defs _ _).mono (fun r h => ⟨fun c => Cert.Kernel.Gen.args_kept m r.2 c (h.1 c), h.2⟩)
    (Cert.Kernel.Gen.run_all (F := Bits) m g)

/-- The kernel over the extended reals, the same. -/
theorem frame_kernelIdeal : Cert.quiescent_KernelIdeal (hKernelIdeal := Cert.KernelIdeal.Gen.facts) := by
  intro m g _
  exact (θ_run Cert.KernelIdeal.defs _ _).mono (fun r h => ⟨fun c => Cert.KernelIdeal.Gen.args_kept m r.2 c (h.1 c), h.2⟩)
    (Cert.KernelIdeal.Gen.run_all (F := Ideal) m g)

/-- The reference: no operation writes an argument, and the program declares no semaphore. -/
theorem frame_referenceIdeal : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems (by decide) r.2⟩)
    (Cert.ReferenceIdeal.Value.run (F := Ideal) m g)

end Cert.Proof

end
-- ==== Proof.V.Spec.lean ====
/- The problem's mathematics over the extended reals, on arrays read as functions of their coordinates. -/
module

public import Idealize.ShloMosaic.PureOps.Ideal
public import Idealize.ShloMosaic.Lib.Pointwise

@[expose] public section

noncomputable section

namespace Cert.Proof

open Idealize.ShloMosaic

/-- A graph layer before its activation: `(E X) W + b`. -/
def dense {n j k m : Nat} (E : Fin n → Fin j → EReal) (X : Fin j → Fin k → EReal) (W : Fin k → Fin m → EReal)
    (b : Fin m → EReal) : Fin n → Fin m → EReal :=
  fun r l => ∑ x, (∑ y, E r y * X y x) * W x l + b l

/-- The layer with its activation. -/
def layer {n j k m : Nat} (E : Fin n → Fin j → EReal) (X : Fin j → Fin k → EReal) (W : Fin k → Fin m → EReal)
    (b : Fin m → EReal) : Fin n → Fin m → EReal :=
  fun r l => max (dense E X W b r l) 0

/-- Entry `p` of a row of 257 with one column of padding on either side. -/
def padAt (y : Fin 257 → EReal) (p : Nat) : EReal :=
  if h : 1 ≤ p ∧ p - 1 < 257 then y ⟨p - 1, h.2⟩ else ⊥

/-- The greatest of five neighbours, at every second column. -/
def pool5 (y : Fin 257 → EReal) (t : Fin 128) : EReal :=
  max (max (max (max (padAt y (t.val * 2)) (padAt y (t.val * 2 + 1))) (padAt y (t.val * 2 + 2)))
    (padAt y (t.val * 2 + 3))) (padAt y (t.val * 2 + 4))

/-- Row `r`'s similarity with the vector `y`: the cosine, its denominator kept above a small constant. -/
def simOf {n : Nat} (X : Fin n → Fin 64 → EReal) (y : Fin 64 → EReal) (r : Fin n) : EReal :=
  Ideal.div (∑ l, X r l * y l)
    (max (Ideal.sqrt (∑ l, X r l * X r l) * Ideal.sqrt (∑ l, y l * y l)) (Ideal.ofBits .f32 0x322BCC77#32))

/-- Entry `p` of a row of 64 with one zero on either side. -/
def padZ (x : Fin 64 → EReal) (p : Nat) : EReal :=
  if h : 1 ≤ p ∧ p - 1 < 64 then x ⟨p - 1, h.2⟩ else 0

/-- The convolution of width 3. -/
def conv3 {i o : Nat} (w : Fin o → Fin i → Fin 3 → EReal) (b : Fin o → EReal) (x : Fin i → Fin 64 → EReal) :
    Fin o → Fin 64 → EReal :=
  fun c h => (∑ a, w c a 0 * padZ (x a) h.val) + (∑ a, w c a 1 * padZ (x a) (h.val + 1))
    + (∑ a, w c a 2 * padZ (x a) (h.val + 2)) + b c

/-- The convolution of width 1. -/
def conv1 {i o : Nat} (w : Fin o → Fin i → Fin 1 → EReal) (b : Fin o → EReal) (x : Fin i → Fin 64 → EReal) :
    Fin o → Fin 64 → EReal :=
  fun c h => (∑ a, w c a 0 * x a h) + b c

/-- A residual block. -/
def resblock {i o : Nat} (w1 : Fin o → Fin i → Fin 3 → EReal) (b1 : Fin o → EReal) (w2 : Fin o → Fin o → Fin 3 → EReal)
    (b2 : Fin o → EReal) (ws : Fin o → Fin i → Fin 1 → EReal) (bs : Fin o → EReal) (x : Fin i → Fin 64 → EReal) :
    Fin o → Fin 64 → EReal :=
  fun c h => max (conv3 w2 b2 (fun a l => max (conv3 w1 b1 x a l) 0) c h + conv1 ws bs x c h) 0

/-- The last stage of the branch: the nine channels' 64 values read as 64 rows of nine, times `w`, plus `b`. -/
def fcOf (y : Fin 9 → Fin 64 → EReal) (w : Fin 9 → EReal) (b : EReal) (l : Fin 64) : EReal :=
  (∑ x : Fin 9, y ⟨(l.val * 9 + x.val) / 64, by omega⟩ ⟨(l.val * 9 + x.val) % 64, by omega⟩ * w x) + b

end Cert.Proof

end
-- ==== Proof.V.KerG1.lean ====
/- The first two graph layers' blocks and arrays in the kernel. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- The first layer's block. -/
theorem k1_apply (x0 : FVec Ideal S200x10000 .f32) (x1 : FVec Ideal S10000x512 .f32) (x2 : FVec Ideal S512x256 .f32)
    (x3 : FVec Ideal S1x256 .f32) (r : Fin 200) (l : Fin 256) :
    k1_pay1 (F := Ideal) x0 x1 x2 x3 (ix2 r l)
      = layer (fun r y => x0 (ix2 r y)) (fun y x => x1 (ix2 y x)) (fun x l => x2 (ix2 x l)) (fun l => x3 (ix2 0 l)) r l := by
  unfold layer dense
  pointwise [k1_pay1]

/-- Where the first layer's windows sit at each point. -/
theorem idx1 : ∀ t : Fin cfg1.N, win1_0.index t = ![t.val, 0] ∧ win1_1.index t = ![0, 0] ∧ win1_2.index t = ![0, 0]
    ∧ win1_3.index t = ![0, 0] ∧ win1_4.index t = ![t.val, 0] :=
  (by decide +kernel : ∀ t : Fin grid1.N, _)

variable (W : Dev nD → Valuation τ sig (Elt Ideal))

set_option maxHeartbeats 4000000 in
/-- The first layer's array after its region. -/
theorem arr1 (c : Dev nD) :
    (dat1 W c).arrAt 4 cfg1.N = fun i : S10000x256.Idx =>
      layer (fun (r : Fin 10000) (y : Fin 10000) => (W c (Proc.devRef .tc main_arg0) (ix2 r y) : EReal))
        (fun (y : Fin 10000) (x : Fin 512) => W c (Proc.devRef .tc main_arg3) (ix2 y x))
        (fun (x : Fin 512) (l : Fin 256) => W c (Proc.devRef .tc main_arg4) (ix2 x l))
        (fun l : Fin 256 => W c (Proc.devRef .tc main_v66) (ix2 (0 : Fin 1) l)) (i 0) (i 1) := by
  refine (dat1 W c).arrAt_eq_of_covers 4 _ (by decide +kernel) fun t hf y => ?_
  blk_simp
  rw [after1_4]
  unfold out1_4
  rw [View.canon_unit_zero (by decide)]
  rw [show ∀ X : Vec Ideal S200x10000 .f32, View.ld X r1_0 = X from fun X => View.ld_unit_zero (by decide) _ X,
    show ∀ X : Vec Ideal S10000x512 .f32, View.ld X r1_1 = X from fun X => View.ld_unit_zero (by decide) _ X,
    show ∀ X : Vec Ideal S512x256 .f32, View.ld X r1_2 = X from fun X => View.ld_unit_zero (by decide) _ X,
    show ∀ X : Vec Ideal S1x256 .f32, View.ld X r1_3 = X from fun X => View.ld_unit_zero (by decide) _ X]
  have hy : y = ix2 (y 0) (y 1) := eq_ix2 (n0 := 200) (n1 := 256) y
  refine (congrArg _ hy).trans ((k1_apply _ _ _ _ (y 0) (y 1)).trans ?_)
  unfold layer dense
  refine congrArg (fun a : EReal => max a 0) (congrArg₂ (fun a b : EReal => a + b)
    (Finset.sum_congr rfl fun x _ => congrArg₂ (fun a b : EReal => a * b)
      (Finset.sum_congr rfl fun k _ => congrArg₂ (fun a b : EReal => a * b) ?_ ?_) ?_) ?_)
  all_goals blk_ext [iblk1, idx1 t]

end Cert.Proof

end
-- ==== Proof.V.KerG2.lean ====
/- The second graph layer, pooled: its block and its array in the kernel. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- With nothing below zero, padding by zeros and padding by the bottom element pool alike. -/
theorem max5_zero (a b c d e : EReal) (hc : 0 ≤ c) :
    max (max (max (max (max a 0) (max b 0)) (max c 0)) (max d 0)) (max e 0) = max (max (max (max a b) c) d) e := by
  rw [max_eq_left hc]
  apply le_antisymm
  · have hM : 0 ≤ max (max (max (max a b) c) d) e := hc.trans (by simp)
    exact max_le (max_le (max_le (max_le (max_le (by simp) hM) (max_le (by simp) hM)) (by simp)) (max_le (by simp) hM))
      (max_le (by simp) hM)
  · exact max_le (max_le (max_le (max_le (by simp) (by simp)) (by simp)) (by simp)) (by simp)

/-- An entry of a row of numbers not below zero, with a zero column on either side. -/
theorem padAt_zero (y : Fin 257 → EReal) (hy : ∀ i, 0 ≤ y i) (p : Nat) :
    (if h : p < 1 then 0 else if h : p - 1 < 257 then y ⟨p - 1, h⟩ else 0) = max (padAt y p) 0 := by
  unfold padAt
  by_cases h1 : p < 1
  · rw [dif_pos h1, dif_neg (by omega)]; simp
  · rw [dif_neg h1]
    by_cases h2 : p - 1 < 257
    · rw [dif_pos h2, dif_pos ⟨by omega, h2⟩, max_eq_left (hy _)]
    · rw [dif_neg h2, dif_neg (by omega)]; simp

/-- The selection matrix's entries. -/
theorem sel_apply (x : Fin 255) (l : Fin 128) :
    (FloatOps.sitofp (F := Ideal) .f32 (BitVec.setWidth 32
      (IntOp.cmpi .eq (BitVec.ofNat 32 x.val) (IntOp.muli (2#32) (BitVec.ofNat 32 l.val)))) : EReal)
      = if x.val = l.val * 2 then 1 else 0 := by
  have hx := x.isLt
  have hl := l.isLt
  have e : IntOp.muli (2#32) (BitVec.ofNat 32 l.val) = BitVec.ofNat 32 (l.val * 2) := by
    show (2#32) * BitVec.ofNat 32 l.val = _
    apply BitVec.eq_of_toNat_eq
    simp only [BitVec.toNat_mul, BitVec.toNat_ofNat]
    omega
  rw [e]
  have e2 : IntOp.cmpi .eq (BitVec.ofNat 32 x.val) (BitVec.ofNat 32 (l.val * 2)) = if x.val = l.val * 2 then 1#1 else 0#1 := by
    unfold IntOp.cmpi
    by_cases h : x.val = l.val * 2
    · simp [h]
    · rw [if_neg h]
      have : ¬ (BitVec.ofNat 32 x.val = BitVec.ofNat 32 (l.val * 2)) := fun hh => h (by
        have := congrArg BitVec.toNat hh
        simp only [BitVec.toNat_ofNat] at this
        omega)
      rw [show (BitVec.ofNat 32 x.val == BitVec.ofNat 32 (l.val * 2)) = false from beq_eq_false_iff_ne.mpr this]; rfl
  rw [e2]
  by_cases h : x.val = l.val * 2
  · rw [if_pos h, if_pos h]; show (((BitVec.setWidth 32 1#1).toInt : ℝ) : EReal) = 1
    rw [show (BitVec.setWidth 32 1#1).toInt = 1 by decide]; simp
  · rw [if_neg h, if_neg h]; show (((BitVec.setWidth 32 0#1).toInt : ℝ) : EReal) = 0
    rw [show (BitVec.setWidth 32 0#1).toInt = 0 by decide]; simp

set_option maxHeartbeats 1000000 in
/-- The second layer's block, pooled. -/
theorem k2_apply (x0 : FVec Ideal S400x10000 .f32) (x1 : FVec Ideal S10000x256 .f32) (x2 : FVec Ideal S256x257 .f32)
    (x3 : FVec Ideal S1x257 .f32) (r : Fin 400) (l : Fin 128) :
    k2_pay1 (F := Ideal) x0 x1 x2 x3 (ix2 r l)
      = pool5 (layer (fun r y => x0 (ix2 r y)) (fun y x => x1 (ix2 y x)) (fun x l => x2 (ix2 x l))
          (fun l => x3 (ix2 0 l)) r) l := by
  pointwise [k2_pay1]
  set g : Fin 257 → EReal := layer (fun r y => x0 (ix2 r y)) (fun y x => x1 (ix2 y x)) (fun x l => x2 (ix2 x l))
          (fun l => x3 (ix2 0 l)) r with hg
  have hg0 : ∀ i, 0 ≤ g i := fun i => le_max_right _ _
  have hgv : ∀ i, max (∑ x_1, (∑ x, x0 (ix2 r x) * x1 (ix2 x x_1)) * x2 (ix2 x_1 i) + x3 (ix2 0 i)) 0 = g i := fun i => rfl
  set kp : Nat → EReal := fun p => if h : p < 1 then 0 else if h : p - 1 < 257 then g ⟨p - 1, h⟩ else 0 with hkp
  have hk1 : ∀ p (hp : p < 257), kp (p + 1) = g ⟨p, hp⟩ := fun p hp => by
    simp only [hkp]; rw [dif_neg (by omega), dif_pos (show p + 1 - 1 < 257 by omega)]; rfl
  refine (Finset.sum_congr rfl (g := fun x : Fin 255 => max (max (max (max (kp x.val) (kp (x.val + 1))) (kp (2 + x.val)))
    (kp (3 + x.val))) (kp (4 + x.val)) * (if x.val = l.val * 2 then 1 else 0)) fun x _ => ?_).trans ?_
  · refine congrArg₂ (fun a b : EReal => a * b) ?_ (sel_apply x l)
    refine congrArg₂ max (congrArg₂ max (congrArg₂ max (congrArg₂ max rfl ?_) rfl) rfl) rfl
    rw [hk1 x.val (by omega), dif_pos (show x.val < 257 by omega)]
    exact hgv _
  · refine (Finset.sum_eq_single (⟨l.val * 2, by omega⟩ : Fin 255) ?_ ?_).trans ?_
    · intro x _ hx
      rw [if_neg (fun h => hx (Fin.ext h)), mul_zero]
    · intro h; exact absurd (Finset.mem_univ _) h
    · have hc : 0 ≤ padAt g (2 + l.val * 2) := by
        unfold padAt; rw [dif_pos ⟨by omega, by omega⟩]; exact hg0 _
      have hz : ∀ p, kp p = max (padAt g p) 0 := padAt_zero g hg0
      simp only [hz, if_true, mul_one]
      rw [max5_zero _ _ _ _ _ hc, Nat.add_comm 2, Nat.add_comm 3, Nat.add_comm 4]
      rfl

/-- Where the second layer's windows sit at each point. -/
theorem idx2 : ∀ t : Fin cfg2.N, win2_0.index t = ![t.val, 0] ∧ win2_1.index t = ![0, 0] ∧ win2_2.index t = ![0, 0]
    ∧ win2_3.index t = ![0, 0] ∧ win2_4.index t = ![t.val, 0] :=
  (by decide +kernel : ∀ t : Fin grid2.N, _)

variable (W : Dev nD → Valuation τ sig (Elt Ideal))

set_option maxHeartbeats 4000000 in
/-- The pooled array after its region. -/
theorem arr2 (c : Dev nD) :
    (dat2 W c).arrAt 4 cfg2.N = fun i : S10000x128.Idx =>
      pool5 (layer (fun (r : Fin 10000) (y : Fin 10000) => (W c (Proc.devRef .tc main_arg0) (ix2 r y) : EReal))
        (fun (y : Fin 10000) (x : Fin 256) => W c (Proc.devRef .tc main_v67) (ix2 y x))
        (fun (x : Fin 256) (l : Fin 257) => W c (Proc.devRef .tc main_arg6) (ix2 x l))
        (fun l : Fin 257 => W c (Proc.devRef .tc main_v68) (ix2 (0 : Fin 1) l)) (i 0)) (i 1) := by
  refine (dat2 W c).arrAt_eq_of_covers 4 _ (by decide +kernel) fun t hf y => ?_
  blk_simp
  rw [after2_4]
  unfold out2_4
  rw [View.canon_unit_zero (by decide)]
  rw [show ∀ X : Vec Ideal S400x10000 .f32, View.ld X r2_0 = X from fun X => View.ld_unit_zero (by decide) _ X,
    show ∀ X : Vec Ideal S10000x256 .f32, View.ld X r2_1 = X from fun X => View.ld_unit_zero (by decide) _ X,
    show ∀ X : Vec Ideal S256x257 .f32, View.ld X r2_2 = X from fun X => View.ld_unit_zero (by decide) _ X,
    show ∀ X : Vec Ideal S1x257 .f32, View.ld X r2_3 = X from fun X => View.ld_unit_zero (by decide) _ X]
  have hy : y = ix2 (y 0) (y 1) := eq_ix2 (n0 := 400) (n1 := 128) y
  refine (congrArg _ hy).trans ((k2_apply _ _ _ _ (y 0) (y 1)).trans ?_)
  have e1 : (y 1 : Fin 128) = ((win2_4.blk t).view.emb y 1 : Fin 128) := by
    apply Fin.ext; blk_simp [idx2 t]
  rw [← e1]
  refine congrArg (fun f : Fin 257 → EReal => pool5 f (y 1)) (funext fun l => ?_)
  unfold layer dense
  refine congrArg (fun a : EReal => max a 0) (congrArg₂ (fun a b : EReal => a + b)
    (Finset.sum_congr rfl fun x _ => congrArg₂ (fun a b : EReal => a * b)
      (Finset.sum_congr rfl fun k _ => congrArg₂ (fun a b : EReal => a * b) ?_ ?_) ?_) ?_)
  all_goals blk_ext [iblk2, idx2 t]

end Cert.Proof

end
-- ==== Proof.V.KerY.lean ====
/- The convolution branch of the kernel, block by block. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- An entry of a row with one zero on either side, read by cases. -/
theorem padZ_ite (f : Fin 64 → EReal) (p : Nat) :
    (if h : p < 1 then 0 else if h : p - 1 < 64 then f ⟨p - 1, h⟩ else 0) = padZ f p := by
  unfold padZ
  by_cases h1 : p < 1
  · rw [dif_pos h1, dif_neg (by omega)]
  · rw [dif_neg h1]
    by_cases h2 : p - 1 < 64
    · rw [dif_pos h2, dif_pos ⟨by omega, h2⟩]
    · rw [dif_neg h2, dif_neg (by omega)]

/-- Two adjacent entries, an outer one first. -/
theorem padZ_mid (f : Fin 64 → EReal) (h : Fin 64) : padZ f (h.val + 1) = f h := by
  unfold padZ; rw [dif_pos ⟨by omega, by omega⟩]; rfl

/-- The convolution of width 3 from 1 to 3 channels. -/
def cv13 (w0 w1 w2 : FVec Ideal S3x1 .f32) (b : FVec Ideal S3x1 .f32) (x : FVec Ideal S1x64 .f32) : FVec Ideal S3x64 .f32 :=
  addf (addf (addf (matmul dot_S3x1_S1x64_S3x64_1_0_0_1_n_n none w0 (extractStridedSlice S1x64 ![0, 0] (concatenate S1x66 1 [⟨S1x1, broadcast S1x1 (Scalar.ofBits .f32 0x00000000#32)⟩, ⟨S1x64, x⟩, ⟨S1x1, broadcast S1x1 (Scalar.ofBits .f32 0x00000000#32)⟩] concatenates_S1x1_S1x64_S1x1_S1x66_d1) slices_S1x66_o0_0_S1x64) (constant S3x64 .f32 0x00000000#32))
    (matmul dot_S3x1_S1x64_S3x64_1_0_0_1_n_n none w1 (extractStridedSlice S1x64 ![0, 1] (concatenate S1x66 1 [⟨S1x1, broadcast S1x1 (Scalar.ofBits .f32 0x00000000#32)⟩, ⟨S1x64, x⟩, ⟨S1x1, broadcast S1x1 (Scalar.ofBits .f32 0x00000000#32)⟩] concatenates_S1x1_S1x64_S1x1_S1x66_d1) slices_S1x66_o0_1_S1x64) (constant S3x64 .f32 0x00000000#32)))
    (matmul dot_S3x1_S1x64_S3x64_1_0_0_1_n_n none w2 (extractStridedSlice S1x64 ![0, 2] (concatenate S1x66 1 [⟨S1x1, broadcast S1x1 (Scalar.ofBits .f32 0x00000000#32)⟩, ⟨S1x64, x⟩, ⟨S1x1, broadcast S1x1 (Scalar.ofBits .f32 0x00000000#32)⟩] concatenates_S1x1_S1x64_S1x1_S1x66_d1) slices_S1x66_o0_2_S1x64) (constant S3x64 .f32 0x00000000#32))) (broadcastTo S3x64 b broadcasts_S3x1_S3x64)

/-- It is the convolution of the specification. -/
theorem cv13_apply (w0 w1 w2 : FVec Ideal S3x1 .f32) (b : FVec Ideal S3x1 .f32) (x : FVec Ideal S1x64 .f32) (W : Fin 3 → Fin 1 → Fin 3 → EReal)
    (B : Fin 3 → EReal) (X : Fin 1 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 3) (l : Fin 64) : cv13 w0 w1 w2 b x (ix2 c l) = conv3 W B X c l := by
  pointwise [cv13]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · obtain rfl : z = 0 := Subsingleton.elim _ _; exact padZ_ite _ _
  · obtain rfl : z = 0 := Subsingleton.elim _ _; exact (padZ_mid _ _).symm
  · obtain rfl : z = 0 := Subsingleton.elim _ _; rw [Nat.add_comm l.val 2]; exact padZ_ite _ _

/-- The convolution of width 3 from 3 to 3 channels. -/
def cv33 (w0 w1 w2 : FVec Ideal S3x3 .f32) (b : FVec Ideal S3x1 .f32) (x : FVec Ideal S3x64 .f32) : FVec Ideal S3x64 .f32 :=
  addf (addf (addf (matmul dot_S3x3_S3x64_S3x64_1_0_0_1_n_n none w0 (extractStridedSlice S3x64 ![0, 0] (concatenate S3x66 1 [⟨S3x1, broadcast S3x1 (Scalar.ofBits .f32 0x00000000#32)⟩, ⟨S3x64, x⟩, ⟨S3x1, broadcast S3x1 (Scalar.ofBits .f32 0x00000000#32)⟩] concatenates_S3x1_S3x64_S3x1_S3x66_d1) slices_S3x66_o0_0_S3x64) (constant S3x64 .f32 0x00000000#32))
    (matmul dot_S3x3_S3x64_S3x64_1_0_0_1_n_n none w1 (extractStridedSlice S3x64 ![0, 1] (concatenate S3x66 1 [⟨S3x1, broadcast S3x1 (Scalar.ofBits .f32 0x00000000#32)⟩, ⟨S3x64, x⟩, ⟨S3x1, broadcast S3x1 (Scalar.ofBits .f32 0x00000000#32)⟩] concatenates_S3x1_S3x64_S3x1_S3x66_d1) slices_S3x66_o0_1_S3x64) (constant S3x64 .f32 0x00000000#32)))
    (matmul dot_S3x3_S3x64_S3x64_1_0_0_1_n_n none w2 (extractStridedSlice S3x64 ![0, 2] (concatenate S3x66 1 [⟨S3x1, broadcast S3x1 (Scalar.ofBits .f32 0x00000000#32)⟩, ⟨S3x64, x⟩, ⟨S3x1, broadcast S3x1 (Scalar.ofBits .f32 0x00000000#32)⟩] concatenates_S3x1_S3x64_S3x1_S3x66_d1) slices_S3x66_o0_2_S3x64) (constant S3x64 .f32 0x00000000#32))) (broadcastTo S3x64 b broadcasts_S3x1_S3x64)

/-- It is the convolution of the specification. -/
theorem cv33_apply (w0 w1 w2 : FVec Ideal S3x3 .f32) (b : FVec Ideal S3x1 .f32) (x : FVec Ideal S3x64 .f32) (W : Fin 3 → Fin 3 → Fin 3 → EReal)
    (B : Fin 3 → EReal) (X : Fin 3 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 3) (l : Fin 64) : cv33 w0 w1 w2 b x (ix2 c l) = conv3 W B X c l := by
  pointwise [cv33]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- A block from 1 to 3 channels. -/
def blk13 (u0 u1 u2 : FVec Ideal S3x1 .f32) (b : FVec Ideal S3x1 .f32) (w0 w1 w2 : FVec Ideal S3x3 .f32) (d : FVec Ideal S3x1 .f32) (s : FVec Ideal S3x1 .f32) (e : FVec Ideal S3x1 .f32)
    (x : FVec Ideal S1x64 .f32) : FVec Ideal S3x64 .f32 :=
  maximumf (addf (cv33 w0 w1 w2 d (maximumf (cv13 u0 u1 u2 b x) (broadcast S3x64 (Scalar.ofBits .f32 0x00000000#32))))
    (addf (matmul dot_S3x1_S1x64_S3x64_1_0_0_1_n_n none s x (constant S3x64 .f32 0x00000000#32)) (broadcastTo S3x64 e broadcasts_S3x1_S3x64)))
    (broadcast S3x64 (Scalar.ofBits .f32 0x00000000#32))

/-- The block from 1 to 3 channels is that of the specification. -/
theorem blk13_apply (u0 u1 u2 : FVec Ideal S3x1 .f32) (b : FVec Ideal S3x1 .f32) (w0 w1 w2 : FVec Ideal S3x3 .f32) (d : FVec Ideal S3x1 .f32) (s : FVec Ideal S3x1 .f32) (e : FVec Ideal S3x1 .f32)
    (x : FVec Ideal S1x64 .f32) (U : Fin 3 → Fin 1 → Fin 3 → EReal) (B : Fin 3 → EReal) (W : Fin 3 → Fin 3 → Fin 3 → EReal)
    (D : Fin 3 → EReal) (S : Fin 3 → Fin 1 → Fin 1 → EReal) (E : Fin 3 → EReal) (X : Fin 1 → Fin 64 → EReal)
    (hu0 : ∀ o i, u0 (ix2 o i) = U o i 0) (hu1 : ∀ o i, u1 (ix2 o i) = U o i 1) (hu2 : ∀ o i, u2 (ix2 o i) = U o i 2)
    (hb : ∀ o, b (ix2 o 0) = B o) (hw0 : ∀ o i, w0 (ix2 o i) = W o i 0) (hw1 : ∀ o i, w1 (ix2 o i) = W o i 1)
    (hw2 : ∀ o i, w2 (ix2 o i) = W o i 2) (hd : ∀ o, d (ix2 o 0) = D o) (hs : ∀ o i, s (ix2 o i) = S o i 0)
    (he : ∀ o, e (ix2 o 0) = E o) (hx : ∀ a l, x (ix2 a l) = X a l) (c : Fin 3) (l : Fin 64) :
    blk13 u0 u1 u2 b w0 w1 w2 d s e x (ix2 c l) = resblock U B W D S E X c l := by
  have hc := cv13_apply u0 u1 u2 b x U B X hu0 hu1 hu2 hb hx
  have hk := cv33_apply w0 w1 w2 d (maximumf (cv13 u0 u1 u2 b x) (broadcast S3x64 (Scalar.ofBits .f32 0x00000000#32))) W D
    (fun a l => max (conv3 U B X a l) 0) hw0 hw1 hw2 hd
    (fun a l => by
      generalize cv13 u0 u1 u2 b x = Y at hc ⊢
      pointwise
      rw [hc])
  unfold blk13
  generalize cv33 w0 w1 w2 d (maximumf (cv13 u0 u1 u2 b x) (broadcast S3x64 (Scalar.ofBits .f32 0x00000000#32))) = Y at hk ⊢
  pointwise
  simp only [hk, hs, he, hx]
  rfl

/-- The convolution of width 3 from 3 to 5 channels. -/
def cv35 (w0 w1 w2 : FVec Ideal S5x3 .f32) (b : FVec Ideal S5x1 .f32) (x : FVec Ideal S3x64 .f32) : FVec Ideal S5x64 .f32 :=
  addf (addf (addf (matmul dot_S5x3_S3x64_S5x64_1_0_0_1_n_n none w0 (extractStridedSlice S3x64 ![0, 0] (concatenate S3x66 1 [⟨S3x1, broadcast S3x1 (Scalar.ofBits .f32 0x00000000#32)⟩, ⟨S3x64, x⟩, ⟨S3x1, broadcast S3x1 (Scalar.ofBits .f32 0x00000000#32)⟩] concatenates_S3x1_S3x64_S3x1_S3x66_d1) slices_S3x66_o0_0_S3x64) (constant S5x64 .f32 0x00000000#32))
    (matmul dot_S5x3_S3x64_S5x64_1_0_0_1_n_n none w1 (extractStridedSlice S3x64 ![0, 1] (concatenate S3x66 1 [⟨S3x1, broadcast S3x1 (Scalar.ofBits .f32 0x00000000#32)⟩, ⟨S3x64, x⟩, ⟨S3x1, broadcast S3x1 (Scalar.ofBits .f32 0x00000000#32)⟩] concatenates_S3x1_S3x64_S3x1_S3x66_d1) slices_S3x66_o0_1_S3x64) (constant S5x64 .f32 0x00000000#32)))
    (matmul dot_S5x3_S3x64_S5x64_1_0_0_1_n_n none w2 (extractStridedSlice S3x64 ![0, 2] (concatenate S3x66 1 [⟨S3x1, broadcast S3x1 (Scalar.ofBits .f32 0x00000000#32)⟩, ⟨S3x64, x⟩, ⟨S3x1, broadcast S3x1 (Scalar.ofBits .f32 0x00000000#32)⟩] concatenates_S3x1_S3x64_S3x1_S3x66_d1) slices_S3x66_o0_2_S3x64) (constant S5x64 .f32 0x00000000#32))) (broadcastTo S5x64 b broadcasts_S5x1_S5x64)

/-- It is the convolution of the specification. -/
theorem cv35_apply (w0 w1 w2 : FVec Ideal S5x3 .f32) (b : FVec Ideal S5x1 .f32) (x : FVec Ideal S3x64 .f32) (W : Fin 5 → Fin 3 → Fin 3 → EReal)
    (B : Fin 5 → EReal) (X : Fin 3 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 5) (l : Fin 64) : cv35 w0 w1 w2 b x (ix2 c l) = conv3 W B X c l := by
  pointwise [cv35]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- The convolution of width 3 from 5 to 5 channels. -/
def cv55 (w0 w1 w2 : FVec Ideal S5x5 .f32) (b : FVec Ideal S5x1 .f32) (x : FVec Ideal S5x64 .f32) : FVec Ideal S5x64 .f32 :=
  addf (addf (addf (matmul dot_S5x5_S5x64_S5x64_1_0_0_1_n_n none w0 (extractStridedSlice S5x64 ![0, 0] (concatenate S5x66 1 [⟨S5x1, broadcast S5x1 (Scalar.ofBits .f32 0x00000000#32)⟩, ⟨S5x64, x⟩, ⟨S5x1, broadcast S5x1 (Scalar.ofBits .f32 0x00000000#32)⟩] concatenates_S5x1_S5x64_S5x1_S5x66_d1) slices_S5x66_o0_0_S5x64) (constant S5x64 .f32 0x00000000#32))
    (matmul dot_S5x5_S5x64_S5x64_1_0_0_1_n_n none w1 (extractStridedSlice S5x64 ![0, 1] (concatenate S5x66 1 [⟨S5x1, broadcast S5x1 (Scalar.ofBits .f32 0x00000000#32)⟩, ⟨S5x64, x⟩, ⟨S5x1, broadcast S5x1 (Scalar.ofBits .f32 0x00000000#32)⟩] concatenates_S5x1_S5x64_S5x1_S5x66_d1) slices_S5x66_o0_1_S5x64) (constant S5x64 .f32 0x00000000#32)))
    (matmul dot_S5x5_S5x64_S5x64_1_0_0_1_n_n none w2 (extractStridedSlice S5x64 ![0, 2] (concatenate S5x66 1 [⟨S5x1, broadcast S5x1 (Scalar.ofBits .f32 0x00000000#32)⟩, ⟨S5x64, x⟩, ⟨S5x1, broadcast S5x1 (Scalar.ofBits .f32 0x00000000#32)⟩] concatenates_S5x1_S5x64_S5x1_S5x66_d1) slices_S5x66_o0_2_S5x64) (constant S5x64 .f32 0x00000000#32))) (broadcastTo S5x64 b broadcasts_S5x1_S5x64)

/-- It is the convolution of the specification. -/
theorem cv55_apply (w0 w1 w2 : FVec Ideal S5x5 .f32) (b : FVec Ideal S5x1 .f32) (x : FVec Ideal S5x64 .f32) (W : Fin 5 → Fin 5 → Fin 3 → EReal)
    (B : Fin 5 → EReal) (X : Fin 5 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 5) (l : Fin 64) : cv55 w0 w1 w2 b x (ix2 c l) = conv3 W B X c l := by
  pointwise [cv55]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- A block from 3 to 5 channels. -/
def blk35 (u0 u1 u2 : FVec Ideal S5x3 .f32) (b : FVec Ideal S5x1 .f32) (w0 w1 w2 : FVec Ideal S5x5 .f32) (d : FVec Ideal S5x1 .f32) (s : FVec Ideal S5x3 .f32) (e : FVec Ideal S5x1 .f32)
    (x : FVec Ideal S3x64 .f32) : FVec Ideal S5x64 .f32 :=
  maximumf (addf (cv55 w0 w1 w2 d (maximumf (cv35 u0 u1 u2 b x) (broadcast S5x64 (Scalar.ofBits .f32 0x00000000#32))))
    (addf (matmul dot_S5x3_S3x64_S5x64_1_0_0_1_n_n none s x (constant S5x64 .f32 0x00000000#32)) (broadcastTo S5x64 e broadcasts_S5x1_S5x64)))
    (broadcast S5x64 (Scalar.ofBits .f32 0x00000000#32))

/-- The block from 3 to 5 channels is that of the specification. -/
theorem blk35_apply (u0 u1 u2 : FVec Ideal S5x3 .f32) (b : FVec Ideal S5x1 .f32) (w0 w1 w2 : FVec Ideal S5x5 .f32) (d : FVec Ideal S5x1 .f32) (s : FVec Ideal S5x3 .f32) (e : FVec Ideal S5x1 .f32)
    (x : FVec Ideal S3x64 .f32) (U : Fin 5 → Fin 3 → Fin 3 → EReal) (B : Fin 5 → EReal) (W : Fin 5 → Fin 5 → Fin 3 → EReal)
    (D : Fin 5 → EReal) (S : Fin 5 → Fin 3 → Fin 1 → EReal) (E : Fin 5 → EReal) (X : Fin 3 → Fin 64 → EReal)
    (hu0 : ∀ o i, u0 (ix2 o i) = U o i 0) (hu1 : ∀ o i, u1 (ix2 o i) = U o i 1) (hu2 : ∀ o i, u2 (ix2 o i) = U o i 2)
    (hb : ∀ o, b (ix2 o 0) = B o) (hw0 : ∀ o i, w0 (ix2 o i) = W o i 0) (hw1 : ∀ o i, w1 (ix2 o i) = W o i 1)
    (hw2 : ∀ o i, w2 (ix2 o i) = W o i 2) (hd : ∀ o, d (ix2 o 0) = D o) (hs : ∀ o i, s (ix2 o i) = S o i 0)
    (he : ∀ o, e (ix2 o 0) = E o) (hx : ∀ a l, x (ix2 a l) = X a l) (c : Fin 5) (l : Fin 64) :
    blk35 u0 u1 u2 b w0 w1 w2 d s e x (ix2 c l) = resblock U B W D S E X c l := by
  have hc := cv35_apply u0 u1 u2 b x U B X hu0 hu1 hu2 hb hx
  have hk := cv55_apply w0 w1 w2 d (maximumf (cv35 u0 u1 u2 b x) (broadcast S5x64 (Scalar.ofBits .f32 0x00000000#32))) W D
    (fun a l => max (conv3 U B X a l) 0) hw0 hw1 hw2 hd
    (fun a l => by
      generalize cv35 u0 u1 u2 b x = Y at hc ⊢
      pointwise
      rw [hc])
  unfold blk35
  generalize cv55 w0 w1 w2 d (maximumf (cv35 u0 u1 u2 b x) (broadcast S5x64 (Scalar.ofBits .f32 0x00000000#32))) = Y at hk ⊢
  pointwise
  simp only [hk, hs, he, hx]
  rfl

/-- The convolution of width 3 from 5 to 7 channels. -/
def cv57 (w0 w1 w2 : FVec Ideal S7x5 .f32) (b : FVec Ideal S7x1 .f32) (x : FVec Ideal S5x64 .f32) : FVec Ideal S7x64 .f32 :=
  addf (addf (addf (matmul dot_S7x5_S5x64_S7x64_1_0_0_1_n_n none w0 (extractStridedSlice S5x64 ![0, 0] (concatenate S5x66 1 [⟨S5x1, broadcast S5x1 (Scalar.ofBits .f32 0x00000000#32)⟩, ⟨S5x64, x⟩, ⟨S5x1, broadcast S5x1 (Scalar.ofBits .f32 0x00000000#32)⟩] concatenates_S5x1_S5x64_S5x1_S5x66_d1) slices_S5x66_o0_0_S5x64) (constant S7x64 .f32 0x00000000#32))
    (matmul dot_S7x5_S5x64_S7x64_1_0_0_1_n_n none w1 (extractStridedSlice S5x64 ![0, 1] (concatenate S5x66 1 [⟨S5x1, broadcast S5x1 (Scalar.ofBits .f32 0x00000000#32)⟩, ⟨S5x64, x⟩, ⟨S5x1, broadcast S5x1 (Scalar.ofBits .f32 0x00000000#32)⟩] concatenates_S5x1_S5x64_S5x1_S5x66_d1) slices_S5x66_o0_1_S5x64) (constant S7x64 .f32 0x00000000#32)))
    (matmul dot_S7x5_S5x64_S7x64_1_0_0_1_n_n none w2 (extractStridedSlice S5x64 ![0, 2] (concatenate S5x66 1 [⟨S5x1, broadcast S5x1 (Scalar.ofBits .f32 0x00000000#32)⟩, ⟨S5x64, x⟩, ⟨S5x1, broadcast S5x1 (Scalar.ofBits .f32 0x00000000#32)⟩] concatenates_S5x1_S5x64_S5x1_S5x66_d1) slices_S5x66_o0_2_S5x64) (constant S7x64 .f32 0x00000000#32))) (broadcastTo S7x64 b broadcasts_S7x1_S7x64)

/-- It is the convolution of the specification. -/
theorem cv57_apply (w0 w1 w2 : FVec Ideal S7x5 .f32) (b : FVec Ideal S7x1 .f32) (x : FVec Ideal S5x64 .f32) (W : Fin 7 → Fin 5 → Fin 3 → EReal)
    (B : Fin 7 → EReal) (X : Fin 5 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 7) (l : Fin 64) : cv57 w0 w1 w2 b x (ix2 c l) = conv3 W B X c l := by
  pointwise [cv57]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- The convolution of width 3 from 7 to 7 channels. -/
def cv77 (w0 w1 w2 : FVec Ideal S7x7 .f32) (b : FVec Ideal S7x1 .f32) (x : FVec Ideal S7x64 .f32) : FVec Ideal S7x64 .f32 :=
  addf (addf (addf (matmul dot_S7x7_S7x64_S7x64_1_0_0_1_n_n none w0 (extractStridedSlice S7x64 ![0, 0] (concatenate S7x66 1 [⟨S7x1, broadcast S7x1 (Scalar.ofBits .f32 0x00000000#32)⟩, ⟨S7x64, x⟩, ⟨S7x1, broadcast S7x1 (Scalar.ofBits .f32 0x00000000#32)⟩] concatenates_S7x1_S7x64_S7x1_S7x66_d1) slices_S7x66_o0_0_S7x64) (constant S7x64 .f32 0x00000000#32))
    (matmul dot_S7x7_S7x64_S7x64_1_0_0_1_n_n none w1 (extractStridedSlice S7x64 ![0, 1] (concatenate S7x66 1 [⟨S7x1, broadcast S7x1 (Scalar.ofBits .f32 0x00000000#32)⟩, ⟨S7x64, x⟩, ⟨S7x1, broadcast S7x1 (Scalar.ofBits .f32 0x00000000#32)⟩] concatenates_S7x1_S7x64_S7x1_S7x66_d1) slices_S7x66_o0_1_S7x64) (constant S7x64 .f32 0x00000000#32)))
    (matmul dot_S7x7_S7x64_S7x64_1_0_0_1_n_n none w2 (extractStridedSlice S7x64 ![0, 2] (concatenate S7x66 1 [⟨S7x1, broadcast S7x1 (Scalar.ofBits .f32 0x00000000#32)⟩, ⟨S7x64, x⟩, ⟨S7x1, broadcast S7x1 (Scalar.ofBits .f32 0x00000000#32)⟩] concatenates_S7x1_S7x64_S7x1_S7x66_d1) slices_S7x66_o0_2_S7x64) (constant S7x64 .f32 0x00000000#32))) (broadcastTo S7x64 b broadcasts_S7x1_S7x64)

/-- It is the convolution of the specification. -/
theorem cv77_apply (w0 w1 w2 : FVec Ideal S7x7 .f32) (b : FVec Ideal S7x1 .f32) (x : FVec Ideal S7x64 .f32) (W : Fin 7 → Fin 7 → Fin 3 → EReal)
    (B : Fin 7 → EReal) (X : Fin 7 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 7) (l : Fin 64) : cv77 w0 w1 w2 b x (ix2 c l) = conv3 W B X c l := by
  pointwise [cv77]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- A block from 5 to 7 channels. -/
def blk57 (u0 u1 u2 : FVec Ideal S7x5 .f32) (b : FVec Ideal S7x1 .f32) (w0 w1 w2 : FVec Ideal S7x7 .f32) (d : FVec Ideal S7x1 .f32) (s : FVec Ideal S7x5 .f32) (e : FVec Ideal S7x1 .f32)
    (x : FVec Ideal S5x64 .f32) : FVec Ideal S7x64 .f32 :=
  maximumf (addf (cv77 w0 w1 w2 d (maximumf (cv57 u0 u1 u2 b x) (broadcast S7x64 (Scalar.ofBits .f32 0x00000000#32))))
    (addf (matmul dot_S7x5_S5x64_S7x64_1_0_0_1_n_n none s x (constant S7x64 .f32 0x00000000#32)) (broadcastTo S7x64 e broadcasts_S7x1_S7x64)))
    (broadcast S7x64 (Scalar.ofBits .f32 0x00000000#32))

/-- The block from 5 to 7 channels is that of the specification. -/
theorem blk57_apply (u0 u1 u2 : FVec Ideal S7x5 .f32) (b : FVec Ideal S7x1 .f32) (w0 w1 w2 : FVec Ideal S7x7 .f32) (d : FVec Ideal S7x1 .f32) (s : FVec Ideal S7x5 .f32) (e : FVec Ideal S7x1 .f32)
    (x : FVec Ideal S5x64 .f32) (U : Fin 7 → Fin 5 → Fin 3 → EReal) (B : Fin 7 → EReal) (W : Fin 7 → Fin 7 → Fin 3 → EReal)
    (D : Fin 7 → EReal) (S : Fin 7 → Fin 5 → Fin 1 → EReal) (E : Fin 7 → EReal) (X : Fin 5 → Fin 64 → EReal)
    (hu0 : ∀ o i, u0 (ix2 o i) = U o i 0) (hu1 : ∀ o i, u1 (ix2 o i) = U o i 1) (hu2 : ∀ o i, u2 (ix2 o i) = U o i 2)
    (hb : ∀ o, b (ix2 o 0) = B o) (hw0 : ∀ o i, w0 (ix2 o i) = W o i 0) (hw1 : ∀ o i, w1 (ix2 o i) = W o i 1)
    (hw2 : ∀ o i, w2 (ix2 o i) = W o i 2) (hd : ∀ o, d (ix2 o 0) = D o) (hs : ∀ o i, s (ix2 o i) = S o i 0)
    (he : ∀ o, e (ix2 o 0) = E o) (hx : ∀ a l, x (ix2 a l) = X a l) (c : Fin 7) (l : Fin 64) :
    blk57 u0 u1 u2 b w0 w1 w2 d s e x (ix2 c l) = resblock U B W D S E X c l := by
  have hc := cv57_apply u0 u1 u2 b x U B X hu0 hu1 hu2 hb hx
  have hk := cv77_apply w0 w1 w2 d (maximumf (cv57 u0 u1 u2 b x) (broadcast S7x64 (Scalar.ofBits .f32 0x00000000#32))) W D
    (fun a l => max (conv3 U B X a l) 0) hw0 hw1 hw2 hd
    (fun a l => by
      generalize cv57 u0 u1 u2 b x = Y at hc ⊢
      pointwise
      rw [hc])
  unfold blk57
  generalize cv77 w0 w1 w2 d (maximumf (cv57 u0 u1 u2 b x) (broadcast S7x64 (Scalar.ofBits .f32 0x00000000#32))) = Y at hk ⊢
  pointwise
  simp only [hk, hs, he, hx]
  rfl

/-- The convolution of width 3 from 7 to 9 channels. -/
def cv79 (w0 w1 w2 : FVec Ideal S9x7 .f32) (b : FVec Ideal S9x1 .f32) (x : FVec Ideal S7x64 .f32) : FVec Ideal S9x64 .f32 :=
  addf (addf (addf (matmul dot_S9x7_S7x64_S9x64_1_0_0_1_n_n none w0 (extractStridedSlice S7x64 ![0, 0] (concatenate S7x66 1 [⟨S7x1, broadcast S7x1 (Scalar.ofBits .f32 0x00000000#32)⟩, ⟨S7x64, x⟩, ⟨S7x1, broadcast S7x1 (Scalar.ofBits .f32 0x00000000#32)⟩] concatenates_S7x1_S7x64_S7x1_S7x66_d1) slices_S7x66_o0_0_S7x64) (constant S9x64 .f32 0x00000000#32))
    (matmul dot_S9x7_S7x64_S9x64_1_0_0_1_n_n none w1 (extractStridedSlice S7x64 ![0, 1] (concatenate S7x66 1 [⟨S7x1, broadcast S7x1 (Scalar.ofBits .f32 0x00000000#32)⟩, ⟨S7x64, x⟩, ⟨S7x1, broadcast S7x1 (Scalar.ofBits .f32 0x00000000#32)⟩] concatenates_S7x1_S7x64_S7x1_S7x66_d1) slices_S7x66_o0_1_S7x64) (constant S9x64 .f32 0x00000000#32)))
    (matmul dot_S9x7_S7x64_S9x64_1_0_0_1_n_n none w2 (extractStridedSlice S7x64 ![0, 2] (concatenate S7x66 1 [⟨S7x1, broadcast S7x1 (Scalar.ofBits .f32 0x00000000#32)⟩, ⟨S7x64, x⟩, ⟨S7x1, broadcast S7x1 (Scalar.ofBits .f32 0x00000000#32)⟩] concatenates_S7x1_S7x64_S7x1_S7x66_d1) slices_S7x66_o0_2_S7x64) (constant S9x64 .f32 0x00000000#32))) (broadcastTo S9x64 b broadcasts_S9x1_S9x64)

/-- It is the convolution of the specification. -/
theorem cv79_apply (w0 w1 w2 : FVec Ideal S9x7 .f32) (b : FVec Ideal S9x1 .f32) (x : FVec Ideal S7x64 .f32) (W : Fin 9 → Fin 7 → Fin 3 → EReal)
    (B : Fin 9 → EReal) (X : Fin 7 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 9) (l : Fin 64) : cv79 w0 w1 w2 b x (ix2 c l) = conv3 W B X c l := by
  pointwise [cv79]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- The convolution of width 3 from 9 to 9 channels. -/
def cv99 (w0 w1 w2 : FVec Ideal S9x9 .f32) (b : FVec Ideal S9x1 .f32) (x : FVec Ideal S9x64 .f32) : FVec Ideal S9x64 .f32 :=
  addf (addf (addf (matmul dot_S9x9_S9x64_S9x64_1_0_0_1_n_n none w0 (extractStridedSlice S9x64 ![0, 0] (concatenate S9x66 1 [⟨S9x1, broadcast S9x1 (Scalar.ofBits .f32 0x00000000#32)⟩, ⟨S9x64, x⟩, ⟨S9x1, broadcast S9x1 (Scalar.ofBits .f32 0x00000000#32)⟩] concatenates_S9x1_S9x64_S9x1_S9x66_d1) slices_S9x66_o0_0_S9x64) (constant S9x64 .f32 0x00000000#32))
    (matmul dot_S9x9_S9x64_S9x64_1_0_0_1_n_n none w1 (extractStridedSlice S9x64 ![0, 1] (concatenate S9x66 1 [⟨S9x1, broadcast S9x1 (Scalar.ofBits .f32 0x00000000#32)⟩, ⟨S9x64, x⟩, ⟨S9x1, broadcast S9x1 (Scalar.ofBits .f32 0x00000000#32)⟩] concatenates_S9x1_S9x64_S9x1_S9x66_d1) slices_S9x66_o0_1_S9x64) (constant S9x64 .f32 0x00000000#32)))
    (matmul dot_S9x9_S9x64_S9x64_1_0_0_1_n_n none w2 (extractStridedSlice S9x64 ![0, 2] (concatenate S9x66 1 [⟨S9x1, broadcast S9x1 (Scalar.ofBits .f32 0x00000000#32)⟩, ⟨S9x64, x⟩, ⟨S9x1, broadcast S9x1 (Scalar.ofBits .f32 0x00000000#32)⟩] concatenates_S9x1_S9x64_S9x1_S9x66_d1) slices_S9x66_o0_2_S9x64) (constant S9x64 .f32 0x00000000#32))) (broadcastTo S9x64 b broadcasts_S9x1_S9x64)

/-- It is the convolution of the specification. -/
theorem cv99_apply (w0 w1 w2 : FVec Ideal S9x9 .f32) (b : FVec Ideal S9x1 .f32) (x : FVec Ideal S9x64 .f32) (W : Fin 9 → Fin 9 → Fin 3 → EReal)
    (B : Fin 9 → EReal) (X : Fin 9 → Fin 64 → EReal) (h0 : ∀ o i, w0 (ix2 o i) = W o i 0) (h1 : ∀ o i, w1 (ix2 o i) = W o i 1)
    (h2 : ∀ o i, w2 (ix2 o i) = W o i 2) (hb : ∀ o, b (ix2 o 0) = B o) (hx : ∀ a l, x (ix2 a l) = X a l)
    (c : Fin 9) (l : Fin 64) : cv99 w0 w1 w2 b x (ix2 c l) = conv3 W B X c l := by
  pointwise [cv99]
  simp only [h0, h1, h2, hb, hx]
  refine congrArg₂ (fun a b : EReal => a + b) (congrArg₂ (fun a b : EReal => a + b)
    (congrArg₂ (fun a b : EReal => a + b) ?_ ?_) ?_) rfl
  all_goals refine Finset.sum_congr rfl fun z _ => congrArg₂ (fun a b : EReal => a * b) rfl ?_
  · exact padZ_ite _ _
  · exact (padZ_mid _ _).symm
  · rw [Nat.add_comm l.val 2]; exact padZ_ite _ _

/-- A block from 7 to 9 channels. -/
def blk79 (u0 u1 u2 : FVec Ideal S9x7 .f32) (b : FVec Ideal S9x1 .f32) (w0 w1 w2 : FVec Ideal S9x9 .f32) (d : FVec Ideal S9x1 .f32) (s : FVec Ideal S9x7 .f32) (e : FVec Ideal S9x1 .f32)
    (x : FVec Ideal S7x64 .f32) : FVec Ideal S9x64 .f32 :=
  maximumf (addf (cv99 w0 w1 w2 d (maximumf (cv79 u0 u1 u2 b x) (broadcast S9x64 (Scalar.ofBits .f32 0x00000000#32))))
    (addf (matmul dot_S9x7_S7x64_S9x64_1_0_0_1_n_n none s x (constant S9x64 .f32 0x00000000#32)) (broadcastTo S9x64 e broadcasts_S9x1_S9x64)))
    (broadcast S9x64 (Scalar.ofBits .f32 0x00000000#32))

/-- The block from 7 to 9 channels is that of the specification. -/
theorem blk79_apply (u0 u1 u2 : FVec Ideal S9x7 .f32) (b : FVec Ideal S9x1 .f32) (w0 w1 w2 : FVec Ideal S9x9 .f32) (d : FVec Ideal S9x1 .f32) (s : FVec Ideal S9x7 .f32) (e : FVec Ideal S9x1 .f32)
    (x : FVec Ideal S7x64 .f32) (U : Fin 9 → Fin 7 → Fin 3 → EReal) (B : Fin 9 → EReal) (W : Fin 9 → Fin 9 → Fin 3 → EReal)
    (D : Fin 9 → EReal) (S : Fin 9 → Fin 7 → Fin 1 → EReal) (E : Fin 9 → EReal) (X : Fin 7 → Fin 64 → EReal)
    (hu0 : ∀ o i, u0 (ix2 o i) = U o i 0) (hu1 : ∀ o i, u1 (ix2 o i) = U o i 1) (hu2 : ∀ o i, u2 (ix2 o i) = U o i 2)
    (hb : ∀ o, b (ix2 o 0) = B o) (hw0 : ∀ o i, w0 (ix2 o i) = W o i 0) (hw1 : ∀ o i, w1 (ix2 o i) = W o i 1)
    (hw2 : ∀ o i, w2 (ix2 o i) = W o i 2) (hd : ∀ o, d (ix2 o 0) = D o) (hs : ∀ o i, s (ix2 o i) = S o i 0)
    (he : ∀ o, e (ix2 o 0) = E o) (hx : ∀ a l, x (ix2 a l) = X a l) (c : Fin 9) (l : Fin 64) :
    blk79 u0 u1 u2 b w0 w1 w2 d s e x (ix2 c l) = resblock U B W D S E X c l := by
  have hc := cv79_apply u0 u1 u2 b x U B X hu0 hu1 hu2 hb hx
  have hk := cv99_apply w0 w1 w2 d (maximumf (cv79 u0 u1 u2 b x) (broadcast S9x64 (Scalar.ofBits .f32 0x00000000#32))) W D
    (fun a l => max (conv3 U B X a l) 0) hw0 hw1 hw2 hd
    (fun a l => by
      generalize cv79 u0 u1 u2 b x = Y at hc ⊢
      pointwise
      rw [hc])
  unfold blk79
  generalize cv99 w0 w1 w2 d (maximumf (cv79 u0 u1 u2 b x) (broadcast S9x64 (Scalar.ofBits .f32 0x00000000#32))) = Y at hk ⊢
  pointwise
  simp only [hk, hs, he, hx]
  rfl

end Cert.Proof

end
-- ==== Proof.V.KerYArr.lean ====
/- The convolution branch of the kernel: its blocks chained, and its array. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.KerY

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- A load of a whole shape reads it. -/
theorem ld_r0_11 (X : Vec Ideal S1x64 .f32) : View.ld X r0_11 = X := View.ld_unit_zero (by decide) _ X
theorem ld_r0_0 (X : Vec Ideal S3x1 .f32) : View.ld X r0_0 = X := View.ld_unit_zero (by decide) _ X
theorem ld_r0_1 (X : Vec Ideal S3x3 .f32) : View.ld X r0_1 = X := View.ld_unit_zero (by decide) _ X
theorem ld_r0_2 (X : Vec Ideal S5x3 .f32) : View.ld X r0_2 = X := View.ld_unit_zero (by decide) _ X
theorem ld_r0_3 (X : Vec Ideal S5x1 .f32) : View.ld X r0_3 = X := View.ld_unit_zero (by decide) _ X
theorem ld_r0_4 (X : Vec Ideal S5x5 .f32) : View.ld X r0_4 = X := View.ld_unit_zero (by decide) _ X
theorem ld_r0_5 (X : Vec Ideal S7x5 .f32) : View.ld X r0_5 = X := View.ld_unit_zero (by decide) _ X
theorem ld_r0_6 (X : Vec Ideal S7x1 .f32) : View.ld X r0_6 = X := View.ld_unit_zero (by decide) _ X
theorem ld_r0_7 (X : Vec Ideal S7x7 .f32) : View.ld X r0_7 = X := View.ld_unit_zero (by decide) _ X
theorem ld_r0_8 (X : Vec Ideal S9x7 .f32) : View.ld X r0_8 = X := View.ld_unit_zero (by decide) _ X
theorem ld_r0_9 (X : Vec Ideal S9x1 .f32) : View.ld X r0_9 = X := View.ld_unit_zero (by decide) _ X
theorem ld_r0_10 (X : Vec Ideal S9x9 .f32) : View.ld X r0_10 = X := View.ld_unit_zero (by decide) _ X

/-- The first block. -/
theorem st43 (u0 u1 u2 : FVec Ideal S3x1 .f32) (b : FVec Ideal S3x1 .f32) (w0 w1 w2 : FVec Ideal S3x3 .f32) (d : FVec Ideal S3x1 .f32) (s : FVec Ideal S3x1 .f32) (e : FVec Ideal S3x1 .f32) (x : FVec Ideal S1x64 .f32) :
    k0_pay43 (F := Ideal) w0 w1 w2 d s e x (k0_pay42 u0 u1 u2 b x) (FloatOps.ofBits .f32 0x00000000#32) = blk13 u0 u1 u2 b w0 w1 w2 d s e x := rfl

/-- The second block. -/
theorem st44 (u0 u1 u2 : FVec Ideal S5x3 .f32) (b : FVec Ideal S5x1 .f32) (w0 w1 w2 : FVec Ideal S5x5 .f32) (d : FVec Ideal S5x1 .f32) (s : FVec Ideal S5x3 .f32) (e : FVec Ideal S5x1 .f32) (w0' w1' w2' : FVec Ideal S3x3 .f32) (d' : FVec Ideal S3x1 .f32) (s' : FVec Ideal S3x1 .f32) (e' : FVec Ideal S3x1 .f32) (x0 : FVec Ideal S1x64 .f32) (v : FVec Ideal S3x64 .f32) :
    (maximumf (addf (addf (k0_pay44 (F := Ideal) w0' w1' w2' d' s' e' u0 u1 u2 b w0 w1 w2 x0 v (FloatOps.ofBits .f32 0x00000000#32)) (k0_pay45 (F := Ideal) d)) (addf (matmul dot_S5x3_S3x64_S5x64_1_0_0_1_n_n none s (k0_pay43 (F := Ideal) w0' w1' w2' d' s' e' x0 v (FloatOps.ofBits .f32 0x00000000#32)) (constant S5x64 .f32 0x00000000#32)) (broadcastTo S5x64 e broadcasts_S5x1_S5x64))) (broadcast S5x64 (Scalar.ofBits .f32 0x00000000#32))) = blk35 u0 u1 u2 b w0 w1 w2 d s e (k0_pay43 (F := Ideal) w0' w1' w2' d' s' e' x0 v (FloatOps.ofBits .f32 0x00000000#32)) := by
  unfold k0_pay44
  generalize (k0_pay43 (F := Ideal) w0' w1' w2' d' s' e' x0 v (FloatOps.ofBits .f32 0x00000000#32)) = Z
  rfl

/-- The third block. -/
theorem st46 (u0 u1 u2 : FVec Ideal S7x5 .f32) (b : FVec Ideal S7x1 .f32) (w0 w1 w2 : FVec Ideal S7x7 .f32) (d : FVec Ideal S7x1 .f32) (s : FVec Ideal S7x5 .f32) (e : FVec Ideal S7x1 .f32) (s' : FVec Ideal S5x3 .f32) (e' : FVec Ideal S5x1 .f32) (z : FVec Ideal S3x64 .f32) (p q : FVec Ideal S5x64 .f32) :
    k0_pay46 (F := Ideal) s' e' u0 u1 u2 b w0 w1 w2 d s e z p q = blk57 u0 u1 u2 b w0 w1 w2 d s e (maximumf (addf (addf p q) (addf (matmul dot_S5x3_S3x64_S5x64_1_0_0_1_n_n none  s' z (constant S5x64 .f32 0x00000000#32)) (broadcastTo S5x64  e' broadcasts_S5x1_S5x64))) (broadcast S5x64 (Scalar.ofBits .f32 0x00000000#32))) := by
  unfold k0_pay46
  generalize hX : (maximumf (addf (addf p q) (addf (matmul dot_S5x3_S3x64_S5x64_1_0_0_1_n_n none  s' z (constant S5x64 .f32 0x00000000#32)) (broadcastTo S5x64  e' broadcasts_S5x1_S5x64))) (broadcast S5x64 (Scalar.ofBits .f32 0x00000000#32))) = X
  have hX' : maximumf (addf (addf p q) (addf (matmul dot_S5x3_S3x64_S5x64_1_0_0_1_n_n none s' z (constant S5x64 .f32 0x00000000#32)) (broadcastTo S5x64 e' broadcasts_S5x1_S5x64))) (broadcast S5x64 (Scalar.ofBits .f32 0x00000000#32)) = X := hX
  rw [← hX']
  rfl

/-- The fourth block. -/
theorem st1 (u0 u1 u2 : FVec Ideal S9x7 .f32) (b : FVec Ideal S9x1 .f32) (w0 w1 w2 : FVec Ideal S9x9 .f32) (d : FVec Ideal S9x1 .f32) (s : FVec Ideal S9x7 .f32) (e : FVec Ideal S9x1 .f32) (a0 : FVec Ideal S5x3 .f32) (a1 : FVec Ideal S5x1 .f32) (a2 a3 a4 : FVec Ideal S7x5 .f32) (a5 : FVec Ideal S7x1 .f32) (a6 a7 a8 : FVec Ideal S7x7 .f32) (a9 : FVec Ideal S7x1 .f32) (a10 : FVec Ideal S7x5 .f32) (a11 : FVec Ideal S7x1 .f32)
    (z : FVec Ideal S3x64 .f32) (p q : FVec Ideal S5x64 .f32) :
    k0_pay1 (F := Ideal) u1 u2 b w0 w1 w2 d s e (k0_pay46 a0 a1 a2 a3 a4 a5 a6 a7 a8 a9 a10 a11 z p q)
      (k0_pay47 a0 a1 a2 a3 a4 a5 a6 a7 a8 a9 a10 a11 z p q) (k0_pay48 a0 a1 a2 a3 a4 a5 a6 a7 a8 a9 a10 a11 u0 z p q)
      (k0_pay49 a0 a1 a2 a3 a4 a5 a6 a7 a8 a9 a10 a11 z p q) (constant S9x64 .f32 0x00000000#32)
      = blk79 u0 u1 u2 b w0 w1 w2 d s e (k0_pay46 (F := Ideal) a0 a1 a2 a3 a4 a5 a6 a7 a8 a9 a10 a11 z p q) := by
  unfold k0_pay49 k0_pay48 k0_pay47
  generalize k0_pay46 (F := Ideal) a0 a1 a2 a3 a4 a5 a6 a7 a8 a9 a10 a11 z p q = X
  rfl

set_option maxHeartbeats 4000000 in
/-- What the region computes is the four blocks chained. -/
theorem out0_tower (x0 : FVec Ideal S1x64 .f32) (x1 : FVec Ideal S3x1 .f32) (x2 : FVec Ideal S3x1 .f32) (x3 : FVec Ideal S3x1 .f32) (x4 : FVec Ideal S3x1 .f32) (x5 : FVec Ideal S3x3 .f32) (x6 : FVec Ideal S3x3 .f32) (x7 : FVec Ideal S3x3 .f32) (x8 : FVec Ideal S3x1 .f32) (x9 : FVec Ideal S3x1 .f32) (x10 : FVec Ideal S3x1 .f32) (x11 : FVec Ideal S5x3 .f32) (x12 : FVec Ideal S5x3 .f32) (x13 : FVec Ideal S5x3 .f32) (x14 : FVec Ideal S5x1 .f32) (x15 : FVec Ideal S5x5 .f32) (x16 : FVec Ideal S5x5 .f32) (x17 : FVec Ideal S5x5 .f32) (x18 : FVec Ideal S5x1 .f32) (x19 : FVec Ideal S5x3 .f32) (x20 : FVec Ideal S5x1 .f32) (x21 : FVec Ideal S7x5 .f32) (x22 : FVec Ideal S7x5 .f32) (x23 : FVec Ideal S7x5 .f32) (x24 : FVec Ideal S7x1 .f32) (x25 : FVec Ideal S7x7 .f32) (x26 : FVec Ideal S7x7 .f32) (x27 : FVec Ideal S7x7 .f32) (x28 : FVec Ideal S7x1 .f32) (x29 : FVec Ideal S7x5 .f32) (x30 : FVec Ideal S7x1 .f32) (x31 : FVec Ideal S9x7 .f32) (x32 : FVec Ideal S9x7 .f32) (x33 : FVec Ideal S9x7 .f32) (x34 : FVec Ideal S9x1 .f32) (x35 : FVec Ideal S9x9 .f32) (x36 : FVec Ideal S9x9 .f32) (x37 : FVec Ideal S9x9 .f32) (x38 : FVec Ideal S9x1 .f32) (x39 : FVec Ideal S9x7 .f32) (x40 : FVec Ideal S9x1 .f32) :
    out0_41 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 = blk79 x31 x32 x33 x34 x35 x36 x37 x38 x39 x40 (blk57 x21 x22 x23 x24 x25 x26 x27 x28 x29 x30 (blk35 x11 x12 x13 x14 x15 x16 x17 x18 x19 x20 (blk13 x1 x2 x3 x4 x5 x6 x7 x8 x9 x10 x0))) := by
  unfold out0_41
  rw [View.canon_unit_zero (by decide)]
  simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, ld_r0_11, ld_r0_0, ld_r0_1, ld_r0_2, ld_r0_3, ld_r0_4, ld_r0_5, ld_r0_6, ld_r0_7, ld_r0_8, ld_r0_9, ld_r0_10]
  rw [st1, st46]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, shapeCast_self]
  refine congrArg _ (congrArg _ ?_)
  rw [← st43]
  exact st44 _ _ _ _ _ _ _ _ _ _ _ _ _ _ _ _ _ _

variable (W : Dev nD → Valuation τ sig (Elt Ideal))

/-- Input 0 is its whole array. -/
theorem in0_0 (c : Dev nD) (t : Fin cfg0.N) : iblk0 W c 0 t = (W c (Proc.devRef .tc main_arg1) : Vec Ideal S1x64 .f32) := by
  funext y
  blk_ext [iblk0, show win0_0.index t = ![0, 0] from (by decide +kernel : ∀ t : Fin grid0.N, win0_0.index t = ![0, 0]) t]

/-- Input 1 is its whole array. -/
theorem in0_1 (c : Dev nD) (t : Fin cfg0.N) : iblk0 W c 1 t = (W c (Proc.devRef .tc main_v1) : Vec Ideal S3x1 .f32) := by
  funext y
  blk_ext [iblk0, show win0_1.index t = ![0, 0] from (by decide +kernel : ∀ t : Fin grid0.N, win0_1.index t = ![0, 0]) t]

/-- Input 2 is its whole array. -/
theorem in0_2 (c : Dev nD) (t : Fin cfg0.N) : iblk0 W c 2 t = (W c (Proc.devRef .tc main_v3) : Vec Ideal S3x1 .f32) := by
  funext y
  blk_ext [iblk0, show win0_2.index t = ![0, 0] from (by decide +kernel : ∀ t : Fin grid0.N, win0_2.index t = ![0, 0]) t]

/-- Input 3 is its whole array. -/
theorem in0_3 (c : Dev nD) (t : Fin cfg0.N) : iblk0 W c 3 t = (W c (Proc.devRef .tc main_v5) : Vec Ideal S3x1 .f32) := by
  funext y
  blk_ext [iblk0, show win0_3.index t = ![0, 0] from (by decide +kernel : ∀ t : Fin grid0.N, win0_3.index t = ![0, 0]) t]

/-- Input 4 is its whole array. -/
theorem in0_4 (c : Dev nD) (t : Fin cfg0.N) : iblk0 W c 4 t = (W c (Proc.devRef .tc main_v6) : Vec Ideal S3x1 .f32) := by
  funext y
  blk_ext [iblk0, show win0_4.index t = ![0, 0] from (by decide +kernel : ∀ t : Fin grid0.N, win0_4.index t = ![0, 0]) t]

/-- Input 5 is its whole array. -/
theorem in0_5 (c : Dev nD) (t : Fin cfg0.N) : iblk0 W c 5 t = (W c (Proc.devRef .tc main_v8) : Vec Ideal S3x3 .f32) := by
  funext y
  blk_ext [iblk0, show win0_5.index t = ![0, 0] from (by decide +kernel : ∀ t : Fin grid0.N, win0_5.index t = ![0, 0]) t]

/-- Input 6 is its whole array. -/
theorem in0_6 (c : Dev nD) (t : Fin cfg0.N) : iblk0 W c 6 t = (W c (Proc.devRef .tc main_v10) : Vec Ideal S3x3 .f32) := by
  funext y
  blk_ext [iblk0, show win0_6.index t = ![0, 0] from (by decide +kernel : ∀ t : Fin grid0.N, win0_6.index t = ![0, 0]) t]

/-- Input 7 is its whole array. -/
theorem in0_7 (c : Dev nD) (t : Fin cfg0.N) : iblk0 W c 7 t = (W c (Proc.devRef .tc main_v12) : Vec Ideal S3x3 .f32) := by
  funext y
  blk_ext [iblk0, show win0_7.index t = ![0, 0] from (by decide +kernel : ∀ t : Fin grid0.N, win0_7.index t = ![0, 0]) t]

/-- Input 8 is its whole array. -/
theorem in0_8 (c : Dev nD) (t : Fin cfg0.N) : iblk0 W c 8 t = (W c (Proc.devRef .tc main_v13) : Vec Ideal S3x1 .f32) := by
  funext y
  blk_ext [iblk0, show win0_8.index t = ![0, 0] from (by decide +kernel : ∀ t : Fin grid0.N, win0_8.index t = ![0, 0]) t]

/-- Input 9 is its whole array. -/
theorem in0_9 (c : Dev nD) (t : Fin cfg0.N) : iblk0 W c 9 t = (W c (Proc.devRef .tc main_v14) : Vec Ideal S3x1 .f32) := by
  funext y
  blk_ext [iblk0, show win0_9.index t = ![0, 0] from (by decide +kernel : ∀ t : Fin grid0.N, win0_9.index t = ![0, 0]) t]

/-- Input 10 is its whole array. -/
theorem in0_10 (c : Dev nD) (t : Fin cfg0.N) : iblk0 W c 10 t = (W c (Proc.devRef .tc main_v15) : Vec Ideal S3x1 .f32) := by
  funext y
  blk_ext [iblk0, show win0_10.index t = ![0, 0] from (by decide +kernel : ∀ t : Fin grid0.N, win0_10.index t = ![0, 0]) t]

/-- Input 11 is its whole array. -/
theorem in0_11 (c : Dev nD) (t : Fin cfg0.N) : iblk0 W c 11 t = (W c (Proc.devRef .tc main_v17) : Vec Ideal S5x3 .f32) := by
  funext y
  blk_ext [iblk0, show win0_11.index t = ![0, 0] from (by decide +kernel : ∀ t : Fin grid0.N, win0_11.index t = ![0, 0]) t]

/-- Input 12 is its whole array. -/
theorem in0_12 (c : Dev nD) (t : Fin cfg0.N) : iblk0 W c 12 t = (W c (Proc.devRef .tc main_v19) : Vec Ideal S5x3 .f32) := by
  funext y
  blk_ext [iblk0, show win0_12.index t = ![0, 0] from (by decide +kernel : ∀ t : Fin grid0.N, win0_12.index t = ![0, 0]) t]

/-- Input 13 is its whole array. -/
theorem in0_13 (c : Dev nD) (t : Fin cfg0.N) : iblk0 W c 13 t = (W c (Proc.devRef .tc main_v21) : Vec Ideal S5x3 .f32) := by
  funext y
  blk_ext [iblk0, show win0_13.index t = ![0, 0] from (by decide +kernel : ∀ t : Fin grid0.N, win0_13.index t = ![0, 0]) t]

/-- Input 14 is its whole array. -/
theorem in0_14 (c : Dev nD) (t : Fin cfg0.N) : iblk0 W c 14 t = (W c (Proc.devRef .tc main_v22) : Vec Ideal S5x1 .f32) := by
  funext y
  blk_ext [iblk0, show win0_14.index t = ![0, 0] from (by decide +kernel : ∀ t : Fin grid0.N, win0_14.index t = ![0, 0]) t]

/-- Input 15 is its whole array. -/
theorem in0_15 (c : Dev nD) (t : Fin cfg0.N) : iblk0 W c 15 t = (W c (Proc.devRef .tc main_v24) : Vec Ideal S5x5 .f32) := by
  funext y
  blk_ext [iblk0, show win0_15.index t = ![0, 0] from (by decide +kernel : ∀ t : Fin grid0.N, win0_15.index t = ![0, 0]) t]

/-- Input 16 is its whole array. -/
theorem in0_16 (c : Dev nD) (t : Fin cfg0.N) : iblk0 W c 16 t = (W c (Proc.devRef .tc main_v26) : Vec Ideal S5x5 .f32) := by
  funext y
  blk_ext [iblk0, show win0_16.index t = ![0, 0] from (by decide +kernel : ∀ t : Fin grid0.N, win0_16.index t = ![0, 0]) t]

/-- Input 17 is its whole array. -/
theorem in0_17 (c : Dev nD) (t : Fin cfg0.N) : iblk0 W c 17 t = (W c (Proc.devRef .tc main_v28) : Vec Ideal S5x5 .f32) := by
  funext y
  blk_ext [iblk0, show win0_17.index t = ![0, 0] from (by decide +kernel : ∀ t : Fin grid0.N, win0_17.index t = ![0, 0]) t]

/-- Input 18 is its whole array. -/
theorem in0_18 (c : Dev nD) (t : Fin cfg0.N) : iblk0 W c 18 t = (W c (Proc.devRef .tc main_v29) : Vec Ideal S5x1 .f32) := by
  funext y
  blk_ext [iblk0, show win0_18.index t = ![0, 0] from (by decide +kernel : ∀ t : Fin grid0.N, win0_18.index t = ![0, 0]) t]

/-- Input 19 is its whole array. -/
theorem in0_19 (c : Dev nD) (t : Fin cfg0.N) : iblk0 W c 19 t = (W c (Proc.devRef .tc main_v30) : Vec Ideal S5x3 .f32) := by
  funext y
  blk_ext [iblk0, show win0_19.index t = ![0, 0] from (by decide +kernel : ∀ t : Fin grid0.N, win0_19.index t = ![0, 0]) t]

/-- Input 20 is its whole array. -/
theorem in0_20 (c : Dev nD) (t : Fin cfg0.N) : iblk0 W c 20 t = (W c (Proc.devRef .tc main_v31) : Vec Ideal S5x1 .f32) := by
  funext y
  blk_ext [iblk0, show win0_20.index t = ![0, 0] from (by decide +kernel : ∀ t : Fin grid0.N, win0_20.index t = ![0, 0]) t]

/-- Input 21 is its whole array. -/
theorem in0_21 (c : Dev nD) (t : Fin cfg0.N) : iblk0 W c 21 t = (W c (Proc.devRef .tc main_v33) : Vec Ideal S7x5 .f32) := by
  funext y
  blk_ext [iblk0, show win0_21.index t = ![0, 0] from (by decide +kernel : ∀ t : Fin grid0.N, win0_21.index t = ![0, 0]) t]

/-- Input 22 is its whole array. -/
theorem in0_22 (c : Dev nD) (t : Fin cfg0.N) : iblk0 W c 22 t = (W c (Proc.devRef .tc main_v35) : Vec Ideal S7x5 .f32) := by
  funext y
  blk_ext [iblk0, show win0_22.index t = ![0, 0] from (by decide +kernel : ∀ t : Fin grid0.N, win0_22.index t = ![0, 0]) t]

/-- Input 23 is its whole array. -/
theorem in0_23 (c : Dev nD) (t : Fin cfg0.N) : iblk0 W c 23 t = (W c (Proc.devRef .tc main_v37) : Vec Ideal S7x5 .f32) := by
  funext y
  blk_ext [iblk0, show win0_23.index t = ![0, 0] from (by decide +kernel : ∀ t : Fin grid0.N, win0_23.index t = ![0, 0]) t]

/-- Input 24 is its whole array. -/
theorem in0_24 (c : Dev nD) (t : Fin cfg0.N) : iblk0 W c 24 t = (W c (Proc.devRef .tc main_v38) : Vec Ideal S7x1 .f32) := by
  funext y
  blk_ext [iblk0, show win0_24.index t = ![0, 0] from (by decide +kernel : ∀ t : Fin grid0.N, win0_24.index t = ![0, 0]) t]

/-- Input 25 is its whole array. -/
theorem in0_25 (c : Dev nD) (t : Fin cfg0.N) : iblk0 W c 25 t = (W c (Proc.devRef .tc main_v40) : Vec Ideal S7x7 .f32) := by
  funext y
  blk_ext [iblk0, show win0_25.index t = ![0, 0] from (by decide +kernel : ∀ t : Fin grid0.N, win0_25.index t = ![0, 0]) t]

/-- Input 26 is its whole array. -/
theorem in0_26 (c : Dev nD) (t : Fin cfg0.N) : iblk0 W c 26 t = (W c (Proc.devRef .tc main_v42) : Vec Ideal S7x7 .f32) := by
  funext y
  blk_ext [iblk0, show win0_26.index t = ![0, 0] from (by decide +kernel : ∀ t : Fin grid0.N, win0_26.index t = ![0, 0]) t]

/-- Input 27 is its whole array. -/
theorem in0_27 (c : Dev nD) (t : Fin cfg0.N) : iblk0 W c 27 t = (W c (Proc.devRef .tc main_v44) : Vec Ideal S7x7 .f32) := by
  funext y
  blk_ext [iblk0, show win0_27.index t = ![0, 0] from (by decide +kernel : ∀ t : Fin grid0.N, win0_27.index t = ![0, 0]) t]

/-- Input 28 is its whole array. -/
theorem in0_28 (c : Dev nD) (t : Fin cfg0.N) : iblk0 W c 28 t = (W c (Proc.devRef .tc main_v45) : Vec Ideal S7x1 .f32) := by
  funext y
  blk_ext [iblk0, show win0_28.index t = ![0, 0] from (by decide +kernel : ∀ t : Fin grid0.N, win0_28.index t = ![0, 0]) t]

/-- Input 29 is its whole array. -/
theorem in0_29 (c : Dev nD) (t : Fin cfg0.N) : iblk0 W c 29 t = (W c (Proc.devRef .tc main_v46) : Vec Ideal S7x5 .f32) := by
  funext y
  blk_ext [iblk0, show win0_29.index t = ![0, 0] from (by decide +kernel : ∀ t : Fin grid0.N, win0_29.index t = ![0, 0]) t]

/-- Input 30 is its whole array. -/
theorem in0_30 (c : Dev nD) (t : Fin cfg0.N) : iblk0 W c 30 t = (W c (Proc.devRef .tc main_v47) : Vec Ideal S7x1 .f32) := by
  funext y
  blk_ext [iblk0, show win0_30.index t = ![0, 0] from (by decide +kernel : ∀ t : Fin grid0.N, win0_30.index t = ![0, 0]) t]

/-- Input 31 is its whole array. -/
theorem in0_31 (c : Dev nD) (t : Fin cfg0.N) : iblk0 W c 31 t = (W c (Proc.devRef .tc main_v49) : Vec Ideal S9x7 .f32) := by
  funext y
  blk_ext [iblk0, show win0_31.index t = ![0, 0] from (by decide +kernel : ∀ t : Fin grid0.N, win0_31.index t = ![0, 0]) t]

/-- Input 32 is its whole array. -/
theorem in0_32 (c : Dev nD) (t : Fin cfg0.N) : iblk0 W c 32 t = (W c (Proc.devRef .tc main_v51) : Vec Ideal S9x7 .f32) := by
  funext y
  blk_ext [iblk0, show win0_32.index t = ![0, 0] from (by decide +kernel : ∀ t : Fin grid0.N, win0_32.index t = ![0, 0]) t]

/-- Input 33 is its whole array. -/
theorem in0_33 (c : Dev nD) (t : Fin cfg0.N) : iblk0 W c 33 t = (W c (Proc.devRef .tc main_v53) : Vec Ideal S9x7 .f32) := by
  funext y
  blk_ext [iblk0, show win0_33.index t = ![0, 0] from (by decide +kernel : ∀ t : Fin grid0.N, win0_33.index t = ![0, 0]) t]

/-- Input 34 is its whole array. -/
theorem in0_34 (c : Dev nD) (t : Fin cfg0.N) : iblk0 W c 34 t = (W c (Proc.devRef .tc main_v54) : Vec Ideal S9x1 .f32) := by
  funext y
  blk_ext [iblk0, show win0_34.index t = ![0, 0] from (by decide +kernel : ∀ t : Fin grid0.N, win0_34.index t = ![0, 0]) t]

/-- Input 35 is its whole array. -/
theorem in0_35 (c : Dev nD) (t : Fin cfg0.N) : iblk0 W c 35 t = (W c (Proc.devRef .tc main_v56) : Vec Ideal S9x9 .f32) := by
  funext y
  blk_ext [iblk0, show win0_35.index t = ![0, 0] from (by decide +kernel : ∀ t : Fin grid0.N, win0_35.index t = ![0, 0]) t]

/-- Input 36 is its whole array. -/
theorem in0_36 (c : Dev nD) (t : Fin cfg0.N) : iblk0 W c 36 t = (W c (Proc.devRef .tc main_v58) : Vec Ideal S9x9 .f32) := by
  funext y
  blk_ext [iblk0, show win0_36.index t = ![0, 0] from (by decide +kernel : ∀ t : Fin grid0.N, win0_36.index t = ![0, 0]) t]

/-- Input 37 is its whole array. -/
theorem in0_37 (c : Dev nD) (t : Fin cfg0.N) : iblk0 W c 37 t = (W c (Proc.devRef .tc main_v60) : Vec Ideal S9x9 .f32) := by
  funext y
  blk_ext [iblk0, show win0_37.index t = ![0, 0] from (by decide +kernel : ∀ t : Fin grid0.N, win0_37.index t = ![0, 0]) t]

/-- Input 38 is its whole array. -/
theorem in0_38 (c : Dev nD) (t : Fin cfg0.N) : iblk0 W c 38 t = (W c (Proc.devRef .tc main_v61) : Vec Ideal S9x1 .f32) := by
  funext y
  blk_ext [iblk0, show win0_38.index t = ![0, 0] from (by decide +kernel : ∀ t : Fin grid0.N, win0_38.index t = ![0, 0]) t]

/-- Input 39 is its whole array. -/
theorem in0_39 (c : Dev nD) (t : Fin cfg0.N) : iblk0 W c 39 t = (W c (Proc.devRef .tc main_v62) : Vec Ideal S9x7 .f32) := by
  funext y
  blk_ext [iblk0, show win0_39.index t = ![0, 0] from (by decide +kernel : ∀ t : Fin grid0.N, win0_39.index t = ![0, 0]) t]

/-- Input 40 is its whole array. -/
theorem in0_40 (c : Dev nD) (t : Fin cfg0.N) : iblk0 W c 40 t = (W c (Proc.devRef .tc main_v63) : Vec Ideal S9x1 .f32) := by
  funext y
  blk_ext [iblk0, show win0_40.index t = ![0, 0] from (by decide +kernel : ∀ t : Fin grid0.N, win0_40.index t = ![0, 0]) t]

end Cert.Proof

end
-- ==== Proof.V.KerYOut.lean ====
/- The branch's array after its region. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.KerYArr

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

variable (W : Dev nD → Valuation τ sig (Elt Ideal))

/-- The block the region's only point leaves. -/
theorem after0_tower (c : Dev nD) (t : Fin cfg0.N) :
    (dat0 W c).after 41 t = blk79 (W c (Proc.devRef .tc main_v49)) (W c (Proc.devRef .tc main_v51)) (W c (Proc.devRef .tc main_v53)) (W c (Proc.devRef .tc main_v54)) (W c (Proc.devRef .tc main_v56)) (W c (Proc.devRef .tc main_v58)) (W c (Proc.devRef .tc main_v60)) (W c (Proc.devRef .tc main_v61)) (W c (Proc.devRef .tc main_v62)) (W c (Proc.devRef .tc main_v63)) (blk57 (W c (Proc.devRef .tc main_v33)) (W c (Proc.devRef .tc main_v35)) (W c (Proc.devRef .tc main_v37)) (W c (Proc.devRef .tc main_v38)) (W c (Proc.devRef .tc main_v40)) (W c (Proc.devRef .tc main_v42)) (W c (Proc.devRef .tc main_v44)) (W c (Proc.devRef .tc main_v45)) (W c (Proc.devRef .tc main_v46)) (W c (Proc.devRef .tc main_v47)) (blk35 (W c (Proc.devRef .tc main_v17)) (W c (Proc.devRef .tc main_v19)) (W c (Proc.devRef .tc main_v21)) (W c (Proc.devRef .tc main_v22)) (W c (Proc.devRef .tc main_v24)) (W c (Proc.devRef .tc main_v26)) (W c (Proc.devRef .tc main_v28)) (W c (Proc.devRef .tc main_v29)) (W c (Proc.devRef .tc main_v30)) (W c (Proc.devRef .tc main_v31)) (blk13 (W c (Proc.devRef .tc main_v1)) (W c (Proc.devRef .tc main_v3)) (W c (Proc.devRef .tc main_v5)) (W c (Proc.devRef .tc main_v6)) (W c (Proc.devRef .tc main_v8)) (W c (Proc.devRef .tc main_v10)) (W c (Proc.devRef .tc main_v12)) (W c (Proc.devRef .tc main_v13)) (W c (Proc.devRef .tc main_v14)) (W c (Proc.devRef .tc main_v15)) (W c (Proc.devRef .tc main_arg1))))) := by
  rw [after0_41, in0_0, in0_1, in0_2, in0_3, in0_4, in0_5, in0_6, in0_7, in0_8, in0_9, in0_10, in0_11, in0_12, in0_13, in0_14, in0_15, in0_16, in0_17, in0_18, in0_19, in0_20, in0_21, in0_22, in0_23, in0_24, in0_25, in0_26, in0_27, in0_28, in0_29, in0_30, in0_31, in0_32, in0_33, in0_34, in0_35, in0_36, in0_37, in0_38, in0_39, in0_40, out0_tower]

/-- The grid's only point. -/
def only0 : Fin cfg0.N := ⟨0, by decide⟩

set_option maxHeartbeats 4000000 in
/-- The branch's array after its region. -/
theorem arr0 (c : Dev nD) :
    (dat0 W c).arrAt 41 cfg0.N = blk79 (W c (Proc.devRef .tc main_v49)) (W c (Proc.devRef .tc main_v51)) (W c (Proc.devRef .tc main_v53)) (W c (Proc.devRef .tc main_v54)) (W c (Proc.devRef .tc main_v56)) (W c (Proc.devRef .tc main_v58)) (W c (Proc.devRef .tc main_v60)) (W c (Proc.devRef .tc main_v61)) (W c (Proc.devRef .tc main_v62)) (W c (Proc.devRef .tc main_v63)) (blk57 (W c (Proc.devRef .tc main_v33)) (W c (Proc.devRef .tc main_v35)) (W c (Proc.devRef .tc main_v37)) (W c (Proc.devRef .tc main_v38)) (W c (Proc.devRef .tc main_v40)) (W c (Proc.devRef .tc main_v42)) (W c (Proc.devRef .tc main_v44)) (W c (Proc.devRef .tc main_v45)) (W c (Proc.devRef .tc main_v46)) (W c (Proc.devRef .tc main_v47)) (blk35 (W c (Proc.devRef .tc main_v17)) (W c (Proc.devRef .tc main_v19)) (W c (Proc.devRef .tc main_v21)) (W c (Proc.devRef .tc main_v22)) (W c (Proc.devRef .tc main_v24)) (W c (Proc.devRef .tc main_v26)) (W c (Proc.devRef .tc main_v28)) (W c (Proc.devRef .tc main_v29)) (W c (Proc.devRef .tc main_v30)) (W c (Proc.devRef .tc main_v31)) (blk13 (W c (Proc.devRef .tc main_v1)) (W c (Proc.devRef .tc main_v3)) (W c (Proc.devRef .tc main_v5)) (W c (Proc.devRef .tc main_v6)) (W c (Proc.devRef .tc main_v8)) (W c (Proc.devRef .tc main_v10)) (W c (Proc.devRef .tc main_v12)) (W c (Proc.devRef .tc main_v13)) (W c (Proc.devRef .tc main_v14)) (W c (Proc.devRef .tc main_v15)) (W c (Proc.devRef .tc main_arg1))))) := by
  refine (dat0 W c).arrAt_eq_of_after_last 41 only0 (by decide +kernel) _ fun j => ?_
  have e := after0_tower W c only0
  revert e
  generalize (blk79 _ _ _ _ _ _ _ _ _ _ _) = X
  intro e
  blk_simp
  rw [e]

end Cert.Proof

end
-- ==== Proof.V.TopK.lean ====
/- The host's `top_k` with one position kept: the position of the first greatest element. -/
module

public import Idealize.ShloMosaic.PureOps.Ideal
public import Idealize.ShloMosaic.Lib.Pointwise
public import Idealize.ShloMosaic.Lib.SortFacts

@[expose] public section

set_option maxRecDepth 16384

noncomputable section

namespace Cert.Proof

open Idealize.ShloMosaic

/-- `k` is the first position at which `x` is greatest. -/
def IsFirstMax {n : Nat} (x : Fin n → EReal) (k : Fin n) : Prop :=
  ∀ k', x k' ≤ x k ∧ (k' < k → x k' < x k)

/-- There is one such position. -/
theorem IsFirstMax.unique {n : Nat} {x : Fin n → EReal} {k l : Fin n} (hk : IsFirstMax x k) (hl : IsFirstMax x l) :
    k = l := by
  rcases lt_trichotomy k l with h | h | h
  · exact absurd ((hl k).2 h) (not_lt.mpr (hk l).1)
  · exact h
  · exact absurd ((hk l).2 h) (not_lt.mpr (hl k).1)

/-- The head of the stable sort by "greater" of an increasing list is the first greatest element of the list. -/
theorem head_stableSort {n : Nat} (x : Fin n → EReal) (before : Fin n → Fin n → Bool)
    (hb : ∀ a b, before a b = true ↔ x b < x a) (l : List (Fin n)) (hl : l.Pairwise (· < ·)) (h : Fin n)
    (r : List (Fin n)) (e : stableSort before l = h :: r) : ∀ k ∈ l, x k ≤ x h ∧ (k < h → x k < x h) := by
  induction l generalizing h r with
  | nil => exact absurd e (by simp [stableSort])
  | cons a l ih =>
    have hl' := List.pairwise_cons.mp hl
    unfold stableSort at e
    cases hs : stableSort before l with
    | nil =>
      have : l = [] := List.eq_nil_of_length_eq_zero (by rw [← length_stableSort before l, hs]; rfl)
      subst this
      rw [hs] at e
      simp only [insertBefore, List.cons.injEq] at e
      obtain ⟨rfl, -⟩ := e
      intro k hk
      rw [List.mem_singleton.mp hk]
      exact ⟨le_rfl, fun h => absurd h (lt_irrefl _)⟩
    | cons b s =>
      have ihb := ih hl'.2 b s hs
      have hbl : b ∈ l := (perm_stableSort before l).mem_iff.mp (by rw [hs]; exact List.mem_cons_self)
      rw [hs] at e
      unfold insertBefore at e
      split at e
      · rename_i hba
        obtain ⟨rfl, -⟩ := List.cons.inj e
        have hlt := (hb _ _).mp hba
        intro k hk
        rcases List.mem_cons.mp hk with rfl | hk
        · exact ⟨hlt.le, fun _ => hlt⟩
        · exact ihb k hk
      · rename_i hba
        obtain ⟨rfl, -⟩ := List.cons.inj e
        have hle : x b ≤ x a := not_lt.mp fun h => hba ((hb _ _).mpr h)
        intro k hk
        rcases List.mem_cons.mp hk with rfl | hk
        · exact ⟨le_rfl, fun h => absurd h (lt_irrefl _)⟩
        · exact ⟨(ihb k hk).1.trans hle, fun h => absurd (hl'.1 k hk) (not_lt.mpr h.le)⟩

/-- The first position of the sort by "greater". -/
theorem sortedFrom_zero_isFirstMax {n : Nat} (x : Fin n → EReal) (before : Fin n → Fin n → Bool)
    (hb : ∀ a b, before a b = true ↔ x b < x a) (z : Fin n) (hz : z.val = 0) :
    IsFirstMax x (sortedFrom before z) := by
  have hlen := length_sortPositions n before
  cases hs : sortPositions n before with
  | nil => rw [hs] at hlen; exact absurd z.isLt (by have : n = 0 := hlen.symm; omega)
  | cons h r =>
    have : sortedFrom before z = h := by
      unfold sortedFrom
      have : ∀ (L : List (Fin n)) (i : Fin L.length), i.val = 0 → L = h :: r → L.get i = h := by
        intro L i hi hL
        subst hL
        rw [show i = ⟨0, by simp⟩ from Fin.ext hi]
        rfl
      exact this _ _ hz hs
    rw [this]
    intro k
    exact head_stableSort x before hb (List.finRange n) (List.pairwise_lt_finRange n) h r hs k (List.mem_finRange k)

/-- The host's `top_k` of one row, one position kept, over the extended reals: the word of the first greatest
    element's position. -/
theorem topK_row {n : Nat} (x : FVec Ideal (⟨2, ![1, n]⟩ : Shape) .f32) (h)
    (j : (⟨2, ![1, 1]⟩ : Shape).Idx) (k : Fin n) (hk : IsFirstMax (fun i => (x (ix2 (0 : Fin 1) i) : EReal)) k) :
    (Host.topK (⟨2, ![1, 1]⟩ : Shape) 1 (FloatOps.cmpfTotal (F := Ideal) .gt) x h).2 j = BitVec.ofNat 32 k.val := by
  have hn : 0 < n := lt_of_le_of_lt (Nat.zero_le _) k.isLt
  have hj : j = ix2 (0 : Fin 1) (0 : Fin 1) := by
    rw [eq_ix2 j]; congr 1 <;> exact Subsingleton.elim (α := Fin 1) _ _
  subst hj
  set before : Fin n → Fin n → Bool := fun a b =>
    FloatOps.cmpfTotal (F := Ideal) (φ := .f32) .gt (x (ix2 (0 : Fin 1) a)) (x (ix2 (0 : Fin 1) b)) == 1#1 with hbf
  have hb : ∀ a b, before a b = true ↔ x (ix2 (0 : Fin 1) b) < x (ix2 (0 : Fin 1) a) := by
    intro a b
    simp only [hbf, beq_iff_eq]
    change Ideal.cmp .ogt _ _ = 1#1 ↔ _
    unfold Ideal.cmp
    by_cases h : x (ix2 (0 : Fin 1) b) < x (ix2 (0 : Fin 1) a) <;> simp [h]
  have hz := sortedFrom_zero_isFirstMax (fun i => (x (ix2 (0 : Fin 1) i) : EReal)) before hb ⟨0, hn⟩ rfl
  rw [← hz.unique hk]
  have key : ∀ (y : (⟨2, ![1, n]⟩ : Shape).Idx), y 1 = (⟨0, hn⟩ : Fin n) →
      (Host.sort2 (⟨2, ![1, n]⟩ : Shape) 1 (fun l r : Ideal .f32 × BitVec 32 => FloatOps.cmpfTotal (F := Ideal) .gt l.1 r.1) x
        (fun i => if hd : 1 < 2 then iotaInDim (⟨2, ![1, n]⟩ : Shape) 32 ⟨1, hd⟩ i else 0#32)).2 y
        = BitVec.ofNat 32 (sortedFrom before ⟨0, hn⟩).val := by
    intro y hy
    have hal : ∀ q : Fin n, y.along (1 : Fin 2) q = ix2 (0 : Fin 1) q := by
      intro q; funext a
      match a with
      | ⟨0, _⟩ => exact Subsingleton.elim (α := Fin 1) _ _
      | ⟨1, _⟩ => rfl
    have e : (Host.sort2 (⟨2, ![1, n]⟩ : Shape) 1 (fun l r : Ideal .f32 × BitVec 32 => FloatOps.cmpfTotal (F := Ideal) .gt l.1 r.1) x
        (fun i => if hd : 1 < 2 then iotaInDim (⟨2, ![1, n]⟩ : Shape) 32 ⟨1, hd⟩ i else 0#32)).2 y
        = BitVec.ofNat 32 (sortedFrom (fun q q' : Fin n => FloatOps.cmpfTotal (F := Ideal) (φ := .f32) .gt
            (x (y.along (1 : Fin 2) q)) (x (y.along (1 : Fin 2) q')) == 1#1) (y 1)).val := rfl
    rw [e, hy]
    simp only [hal, hbf]
  exact key _ (Fin.ext rfl)

end Cert.Proof

end
-- ==== Proof.V.Online.lean ====
/- Greatest entries, their first positions and sums of exponentials, gathered block after block. -/
module

public import proofs.«01_k».proof.Proof.V.Spec
public import proofs.«01_k».proof.Proof.V.TopK
public import Idealize.ShloMosaic.PureOps.Ideal

@[expose] public section

noncomputable section

namespace Cert.Proof

open Idealize.ShloMosaic

/-- A first greatest position exists. -/
theorem exists_firstMax {n : Nat} (hn : 0 < n) (x : Fin n → EReal) : ∃ k, IsFirstMax x k := by
  classical
  obtain ⟨k₀, -, hk₀⟩ := Finset.exists_max_image Finset.univ x ⟨(⟨0, hn⟩ : Fin n), Finset.mem_univ _⟩
  have hne : (Finset.univ.filter fun k : Fin n => ∀ k', x k' ≤ x k).Nonempty :=
    ⟨k₀, by simp only [Finset.mem_filter, Finset.mem_univ, true_and]; exact fun k' => hk₀ k' (Finset.mem_univ _)⟩
  have hm := Finset.min'_mem _ hne
  simp only [Finset.mem_filter, Finset.mem_univ, true_and] at hm
  refine ⟨_, fun k' => ⟨hm k', fun hlt => ?_⟩⟩
  by_contra hge
  rw [not_lt] at hge
  exact absurd (Finset.min'_le _ k' (by
    simp only [Finset.mem_filter, Finset.mem_univ, true_and]; exact fun q => (hm q).trans hge)) (not_le.mpr hlt)

/-- `k` is the first greatest among the first `N` entries. -/
def FirstMax (x : ℕ → EReal) (N k : ℕ) : Prop :=
  k < N ∧ (∀ i < N, x i ≤ x k) ∧ ∀ i < k, x i < x k

/-- The greatest so far is `v`, and unless it is the bottom element its first position has the property `P`. -/
def Best (x : ℕ → EReal) (N : ℕ) (v : EReal) (P : ℕ → Prop) : Prop :=
  (v = ⊥ ∧ ∀ i < N, x i = ⊥) ∨ ∃ k, FirstMax x N k ∧ ⊥ < x k ∧ v = x k ∧ P k

/-- A block's first greatest entry exceeds the greatest so far: it is the new one. -/
theorem Best.new {x : ℕ → EReal} {N B : ℕ} {v : EReal} {P Q : ℕ → Prop} (h : Best x N v P) (j : Fin B)
    (hj : IsFirstMax (fun r : Fin B => x (N + r.val)) j) (hv : v < x (N + j.val)) (hq : Q (N + j.val)) :
    Best x (N + B) (x (N + j.val)) Q := by
  have hold : ∀ i < N, x i ≤ v := by
    rcases h with ⟨rfl, h⟩ | ⟨k, hk, -, rfl, -⟩
    · exact fun i hi => (h i hi).le
    · exact hk.2.1
  refine .inr ⟨N + j.val, ⟨by have := j.isLt; omega, fun i hi => ?_, fun i hi => ?_⟩, bot_le.trans_lt hv, rfl, hq⟩
  · rcases lt_or_ge i N with h1 | h1
    · exact (hold i h1).trans hv.le
    · have := (hj ⟨i - N, by omega⟩).1
      simpa only [Nat.add_sub_cancel' h1] using this
  · rcases lt_or_ge i N with h1 | h1
    · exact (hold i h1).trans_lt hv
    · have := (hj ⟨i - N, by have := j.isLt; omega⟩).2 (by rw [Fin.lt_def]; show i - N < j.val; omega)
      simpa only [Nat.add_sub_cancel' h1] using this

/-- It does not: the greatest so far stays. -/
theorem Best.old {x : ℕ → EReal} {N B : ℕ} {v : EReal} {P : ℕ → Prop} (h : Best x N v P) (j : Fin B)
    (hj : IsFirstMax (fun r : Fin B => x (N + r.val)) j) (hv : x (N + j.val) ≤ v) : Best x (N + B) v P := by
  have hnew : ∀ i, N ≤ i → i < N + B → x i ≤ v := fun i h1 h2 => by
    have := (hj ⟨i - N, by omega⟩).1
    simp only [Nat.add_sub_cancel' h1] at this
    exact this.trans hv
  rcases h with ⟨rfl, h⟩ | ⟨k, hk, hb, rfl, hp⟩
  · refine .inl ⟨rfl, fun i hi => ?_⟩
    rcases lt_or_ge i N with h1 | h1
    · exact h i h1
    · exact le_bot_iff.mp (hnew i h1 hi)
  · refine .inr ⟨k, ⟨by have := hk.1; omega, fun i hi => ?_, hk.2.2⟩, hb, rfl, hp⟩
    rcases lt_or_ge i N with h1 | h1
    · exact hk.2.1 i h1
    · exact hnew i h1 hi

/-- The exponential of a real number. -/
theorem exp_real (r : ℝ) : Ideal.exp (r : EReal) = (Real.exp r : EReal) := rfl

/-- A sum of real numbers, in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A sum of exponentials moved from one real offset to another. -/
theorem exp_shift {ι : Type} (S : Finset ι) (ρ : ι → ℝ) (a b : ℝ) :
    (∑ i ∈ S, Ideal.exp ((ρ i : EReal) - (a : EReal))) * Ideal.exp ((a : EReal) - (b : EReal))
      = ∑ i ∈ S, Ideal.exp ((ρ i : EReal) - (b : EReal)) := by
  have e : ∀ c : ℝ, ∑ i ∈ S, Ideal.exp ((ρ i : EReal) - (c : EReal)) = ((∑ i ∈ S, Real.exp (ρ i - c) : ℝ) : EReal) := fun c => by
    rw [coe_sum]
    exact Finset.sum_congr rfl fun i _ => by rw [← EReal.coe_sub, exp_real]
  rw [e, e, ← EReal.coe_sub, exp_real, ← EReal.coe_mul, Finset.sum_mul]
  congr 1
  refine Finset.sum_congr rfl fun i _ => ?_
  rw [← Real.exp_add]; congr 1; ring

/-- One block's step of the running sum. -/
theorem sum_step (ρ : ℕ → ℝ) (N B : ℕ) (m l : EReal) (b m' : ℝ) (hm : N = 0 ∨ ∃ a : ℝ, m = a)
    (hl : l = ∑ i ∈ Finset.range N, Ideal.exp ((ρ i : EReal) - m)) :
    l * Ideal.exp (m - (m' : EReal)) + (∑ r : Fin B, Ideal.exp ((ρ (N + r.val) : EReal) - (b : EReal))) * Ideal.exp ((b : EReal) - (m' : EReal))
      = ∑ i ∈ Finset.range (N + B), Ideal.exp ((ρ i : EReal) - (m' : EReal)) := by
  rw [exp_shift Finset.univ (fun r : Fin B => ρ (N + r.val)) b m', Finset.sum_range_add,
    ← Finset.sum_range (fun r => Ideal.exp ((ρ (N + r) : EReal) - (m' : EReal)))]
  congr 1
  rcases hm with rfl | ⟨a, rfl⟩
  · rw [hl]; simp
  · rw [hl, exp_shift]

/-- A fold of maxima from the bottom element is the greatest entry. -/
theorem fold_max_eq {ι : Type} [Fintype ι] (f : ι → EReal) (i : ι) (h : ∀ k, f k ≤ f i) :
    Finset.fold max ⊥ f Finset.univ = f i :=
  le_antisymm ((Finset.fold_max_le _).2 ⟨bot_le, fun k _ => h k⟩)
    ((Finset.le_fold_max _).2 (.inr ⟨i, Finset.mem_univ _, le_rfl⟩))

/-- The signed lesser of two words, as numbers. -/
theorem toInt_minsi (x y : BitVec 32) : (IntOp.minsi x y).toInt = min x.toInt y.toInt := by
  unfold IntOp.minsi
  by_cases h : x.slt y
  · rw [if_pos h]; rw [BitVec.slt_iff_toInt_lt] at h; rw [min_eq_left h.le]
  · rw [if_neg h]; rw [BitVec.slt_iff_toInt_lt, not_lt] at h; rw [min_eq_right h]

/-- A fold of lesser words, as numbers. -/
theorem toInt_fold_minsi {ι : Type} (S : Finset ι) (b : BitVec 32) (f : ι → BitVec 32) :
    (Finset.fold IntOp.minsi b f S).toInt = Finset.fold min b.toInt (fun i => (f i).toInt) S := by
  classical
  induction S using Finset.induction_on with
  | empty => simp
  | insert a S h ih => rw [Finset.fold_insert h, Finset.fold_insert h, toInt_minsi, ih]

/-- A small word as a number. -/
theorem toInt_small (k : ℕ) (h : k < 2147483648) : (BitVec.ofNat 32 k).toInt = k := by
  rw [BitVec.toInt_eq_toNat_of_lt] <;> rw [BitVec.toNat_ofNat] <;> rw [Nat.mod_eq_of_lt (by omega)]
  omega

/-- The least index at which a value is attained, found by a fold over rows (and a trivial column). -/
theorem fold_min_index (x : Fin 400 → EReal) (j : Fin 400) (hj : IsFirstMax x j) :
    Finset.fold IntOp.minsi 2147483647#32
      (fun p : Fin 400 × Fin 1 => if x p.1 = x j then BitVec.ofNat 32 p.1.val else 10000#32) Finset.univ
      = BitVec.ofNat 32 j.val := by
  apply BitVec.eq_of_toInt_eq
  rw [toInt_fold_minsi, toInt_small j.val (by omega)]
  apply le_antisymm
  · refine (Finset.fold_min_le _).2 (.inr ⟨(j, 0), Finset.mem_univ _, ?_⟩)
    rw [if_pos rfl, toInt_small j.val (by have := j.isLt; omega)]
  · refine (Finset.le_fold_min _).2 ⟨?_, fun p _ => ?_⟩
    · rw [show (2147483647#32).toInt = 2147483647 by decide]; have := j.isLt; omega
    · by_cases h : x p.1 = x j
      · rw [if_pos h, toInt_small p.1.val (by have := p.1.isLt; omega)]
        have : ¬ p.1 < j := fun hlt => absurd h (ne_of_lt ((hj p.1).2 hlt))
        rw [Fin.lt_def] at this; omega
      · rw [if_neg h, show (10000#32).toInt = 10000 by decide]; have := j.isLt; omega

end Cert.Proof

end
-- ==== Proof.V.KerG3.lean ====
/- The last region block by block: what it computes of a block of rows. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.Online

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- The word the maxima start from. -/
theorem negInf_bot : Ideal.ofBits .f32 0xFF800000#32 = (⊥ : EReal) := by simp [Ideal.ofBits, Ideal.ieee]

variable (x0 : FVec Ideal S400x10000 .f32) (x1 : FVec Ideal S10000x128 .f32) (x2 : FVec Ideal S128x64 .f32)
    (x3 : FVec Ideal S1x64 .f32) (x4 : FVec Ideal S64x9 .f32) (x5 : FVec Ideal S9x1 .f32) (x6 : FVec Ideal S1x1 .f32)
    (x7 : FVec Ideal S400x1 .f32) (s27 s31 s35 : FVec Ideal S400x1 .f32) (v60 v63 : FVec Ideal S1x1 .f32)

/-- The block's rows of the third layer. -/
theorem k3_16 (r : Fin 400) (l : Fin 64) : k3_pay16 (F := Ideal) x0 x1 x2 x3 (ix2 r l)
    = dense (fun r y => x0 (ix2 r y)) (fun y x => x1 (ix2 y x)) (fun x l => x2 (ix2 x l)) (fun l => x3 (ix2 0 l)) r l := by
  pointwise [k3_pay16]
  rfl

/-- The branch's vector, the same on every row. -/
theorem k3_17 (r : Fin 400) (l : Fin 64) : k3_pay17 (F := Ideal) x4 x5 x6 (ix2 r l)
    = (∑ x, x4 (ix2 l x) * x5 (ix2 x 0)) + x6 (ix2 0 0) := by
  pointwise [k3_pay17]

/-- A row's similarity. -/
theorem k3_sim (r : Fin 400) :
    k3_pay21 (F := Ideal) (k3_pay18 x0 x1 x2 x3 x4 x5 x6) (k3_pay19 x4 x5 x6) (k3_pay20 x0 x1 x2 x3) (ix2 r 0)
      = simOf (dense (fun r y => x0 (ix2 r y)) (fun y x => x1 (ix2 y x)) (fun x l => x2 (ix2 x l)) (fun l => x3 (ix2 0 l)))
          (fun l => (∑ x, x4 (ix2 l x) * x5 (ix2 x 0)) + x6 (ix2 0 0)) r := by
  unfold k3_pay21 k3_pay18 k3_pay19 k3_pay20
  have h1 := k3_16 x0 x1 x2 x3
  have h2 := k3_17 x4 x5 x6
  generalize k3_pay16 (F := Ideal) x0 x1 x2 x3 = A at h1 ⊢
  generalize k3_pay17 (F := Ideal) x4 x5 x6 = B at h2 ⊢
  pointwise
  simp only [h1, h2]
  rfl

variable (j : Fin 400)

/-- The block's greatest similarity. -/
theorem k3_22 (hj : IsFirstMax (fun r : Fin 400 => k3_pay21 (F := Ideal) s27 s31 s35 (ix2 r 0)) j) :
    k3_pay22 (F := Ideal) s27 s31 s35 = k3_pay21 (F := Ideal) s27 s31 s35 (ix2 j 0) := by
  unfold k3_pay22
  generalize k3_pay21 (F := Ideal) s27 s31 s35 = A at hj ⊢
  pointwise
  rw [negInf_bot]
  exact fold_max_eq (fun x : Fin 400 × Fin 1 => A (ix2 x.1 0)) (j, 0) fun k => (hj k.1).1

/-- Its first row. -/
theorem k3_23 (hj : IsFirstMax (fun r : Fin 400 => k3_pay21 (F := Ideal) s27 s31 s35 (ix2 r 0)) j) (i) :
    k3_pay23 (F := Ideal) s27 s31 s35 i = BitVec.ofNat 32 j.val := by
  unfold k3_pay23
  rw [k3_22 s27 s31 s35 j hj]
  generalize k3_pay21 (F := Ideal) s27 s31 s35 = A at hj ⊢
  pointwise
  exact fold_min_index (fun r => A (ix2 r 0)) j hj

/-- The running sum's step. -/
theorem k3_25 (i) : k3_pay25 (F := Ideal) s27 s31 s35 v60 v63 i
    = v63 i * Ideal.exp (v60 i - max (v60 i) (k3_pay22 (F := Ideal) s27 s31 s35))
      + (∑ x : Fin 400, Ideal.exp (k3_pay21 (F := Ideal) s27 s31 s35 (ix2 x 0) - k3_pay22 (F := Ideal) s27 s31 s35))
        * Ideal.exp (k3_pay22 (F := Ideal) s27 s31 s35 - max (v60 i) (k3_pay22 (F := Ideal) s27 s31 s35)) := by
  unfold k3_pay25 k3_pay24
  generalize k3_pay22 (F := Ideal) s27 s31 s35 = B
  generalize k3_pay21 (F := Ideal) s27 s31 s35 = A
  pointwise
  simp only [Finset.univ_unique, Finset.sum_singleton]

/-- The running maximum's step. -/
theorem k3_26 (i) : k3_pay26 (F := Ideal) s27 s31 s35 v60 i = max (v60 i) (k3_pay22 (F := Ideal) s27 s31 s35) := by
  unfold k3_pay26 k3_pay24
  generalize k3_pay22 (F := Ideal) s27 s31 s35 = B
  pointwise

/-- The block's greatest label. -/
theorem k3_5 (hj : IsFirstMax (fun r : Fin 400 => (x7 (ix2 r 0) : EReal)) j) : k3_pay5 (F := Ideal) x7 = x7 (ix2 j 0) := by
  unfold k3_pay5 k3_pay4
  pointwise
  rw [negInf_bot]
  exact fold_max_eq (fun x : Fin 400 × Fin 1 => x7 (ix2 x.1 0)) (j, 0) fun k => (hj k.1).1

/-- The similarity of the row of the block's first greatest label. -/
theorem k3_8 (hj : IsFirstMax (fun r : Fin 400 => (x7 (ix2 r 0) : EReal)) j) (i) :
    k3_pay8 (F := Ideal) s27 (iota .tc S400x1 32 [0] iota_S400x1_d0_w32) x7 i = s27 (ix2 j 0) := by
  unfold k3_pay8 k3_pay4
  rw [k3_5 x7 j hj]
  pointwise
  rw [show (Finset.fold IntOp.minsi (2147483647#32)
              (fun x : Fin 400 × Fin 1 => if x7 (ix2 x.1 0) = x7 (ix2 j 0) then BitVec.ofNat 32 ↑x.1 else 10000#32) Finset.univ)
      = BitVec.ofNat 32 j.val from fold_min_index (fun r => x7 (ix2 r 0)) j hj]
  simp only [Finset.univ_unique, Finset.sum_singleton]
  refine (Finset.sum_eq_single j (fun b _ hb => ?_) fun h => absurd (Finset.mem_univ _) h).trans ?_
  · have : ¬ (BitVec.ofNat 32 b.val = BitVec.ofNat 32 j.val) := fun hh => hb (Fin.ext (by
      have := congrArg BitVec.toInt hh
      rw [toInt_small _ (by have := b.isLt; omega), toInt_small _ (by have := j.isLt; omega)] at this
      omega))
    unfold IntOp.cmpi Scalar.select
    rw [show (BitVec.ofNat 32 b.val == BitVec.ofNat 32 j.val) = false from beq_eq_false_iff_ne.mpr this]
    rfl
  · unfold IntOp.cmpi Scalar.select
    rw [show (BitVec.ofNat 32 j.val == BitVec.ofNat 32 j.val) = true from beq_self_eq_true _]
    rfl

end Cert.Proof

end
-- ==== Proof.V.KerAcc.lean ====
/- The last region's running words: what they hold after each block. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.KerG3

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- A comparison's word, as the branch reads it. -/
theorem gt_word (x y : EReal) :
    (Scalar.cmpi .ne (Scalar.extui (Scalar.cmpf (F := Ideal) (φ := .f32) .ogt x y)) 0#32 = 1#1) ↔ y < x := by
  show (Scalar.cmpi .ne (Scalar.extui (BitVec.ofBool (decide (y < x)))) 0#32 = 1#1) ↔ y < x
  by_cases h : y < x
  · simp only [h, decide_true, iff_true]; decide
  · simp only [h, decide_false, iff_false]; decide

/-- The one index of a one-entry array. -/
abbrev o1 : S1x1.Idx := ix2 (0 : Fin 1) (0 : Fin 1)

theorem pay1_o (v : FVec Ideal S1x1 .f32) : k3_pay1 (F := Ideal) v = v o1 := by
  unfold k3_pay1
  exact congrArg v (by funext a; exact match a with | ⟨0, _⟩ => rfl | ⟨1, _⟩ => rfl)

theorem pay6_o (v : FVec Ideal S1x1 .f32) : k3_pay6 (F := Ideal) v = v o1 := by
  unfold k3_pay6
  exact congrArg v (by funext a; exact match a with | ⟨0, _⟩ => rfl | ⟨1, _⟩ => rfl)

theorem pay2_o (x : Ideal .f32) : k3_pay2 (F := Ideal) x o1 = x := by
  pointwise [k3_pay2]

theorem pay7_o (x7 : FVec Ideal S400x1 .f32) : k3_pay7 (F := Ideal) x7 o1 = k3_pay5 (F := Ideal) x7 := by
  unfold k3_pay7
  generalize k3_pay5 (F := Ideal) x7 = B
  pointwise

theorem pay3_o (n j : ℕ) (i) : k3_pay3 (BitVec.ofNat 32 n) (BitVec.ofNat 32 j) i = BitVec.ofNat 32 (n * 400 + j) := by
  unfold k3_pay3
  pointwise
  rw [BitVec.ofNat_add, BitVec.ofNat_mul]
  rfl

variable (n : BitVec 32) (a b d x7 : FVec Ideal S400x1 .f32) (s : Acc Ideal)

/-- The words a block replaces. -/
theorem acc_bs (h : hitBest a b d s.bs) : (accStep' n a b d x7 s).bs = k3_pay2 (k3_pay22 a b d) := if_pos h
theorem acc_bi (h : hitBest a b d s.bs) : (accStep' n a b d x7 s).bi
    = k3_pay3 n (extractAt ![0, 0, 0] (k3_pay23 a b d) inpos_S1x1x1_p0_0_0) := if_pos h
theorem acc_lm (h : hitLab x7 s.lm) : (accStep' n a b d x7 s).lm = k3_pay7 (F := Ideal) x7 := if_pos h
theorem acc_tg (h : hitLab x7 s.lm) : (accStep' n a b d x7 s).tg
    = k3_pay8 (F := Ideal) (k3_pay21 a b d) (iota .tc S400x1 32 [0] iota_S400x1_d0_w32) x7 := if_pos h
/-- The words it leaves. -/
theorem acc_bs' (h : ¬ hitBest a b d s.bs) : (accStep' n a b d x7 s).bs = s.bs := if_neg h
theorem acc_bi' (h : ¬ hitBest a b d s.bs) : (accStep' n a b d x7 s).bi = s.bi := if_neg h
theorem acc_lm' (h : ¬ hitLab x7 s.lm) : (accStep' n a b d x7 s).lm = s.lm := if_neg h
theorem acc_tg' (h : ¬ hitLab x7 s.lm) : (accStep' n a b d x7 s).tg = s.tg := if_neg h

/-- The running words after the rows below `N`, whose similarities are `ρ` and labels `lab`. -/
structure Inv (ρ : ℕ → ℝ) (lab : ℕ → EReal) (N : ℕ) (s : Acc Ideal) : Prop where
  hm : N = 0 ∨ ∃ a : ℝ, s.m o1 = (a : EReal)
  hl : s.l o1 = ∑ i ∈ Finset.range N, Ideal.exp ((ρ i : EReal) - s.m o1)
  bm : Best (fun i => (ρ i : EReal)) N (s.m o1) fun _ => True
  bb : Best (fun i => (ρ i : EReal)) N (s.bs o1) fun k => s.bi o1 = BitVec.ofNat 32 k
  bl : Best lab N (s.lm o1) fun k => s.tg o1 = (ρ k : EReal)

/-- Before the first block. -/
theorem Inv.init (ρ : ℕ → ℝ) (lab : ℕ → EReal) : Inv ρ lab 0 (accInit (F := Ideal)) where
  hm := .inl rfl
  hl := by
    show k3_pay11 (F := Ideal) o1 = _
    rw [Finset.range_zero, Finset.sum_empty]
    pointwise [k3_pay11]
  bm := .inl ⟨by show k3_pay10 (F := Ideal) o1 = _; pointwise [k3_pay10]; exact negInf_bot, fun i hi => absurd hi (Nat.not_lt_zero i)⟩
  bb := .inl ⟨by show k3_pay12 (F := Ideal) o1 = _; pointwise [k3_pay12]; exact negInf_bot, fun i hi => absurd hi (Nat.not_lt_zero i)⟩
  bl := .inl ⟨by show k3_pay14 (F := Ideal) o1 = _; pointwise [k3_pay14]; exact negInf_bot, fun i hi => absurd hi (Nat.not_lt_zero i)⟩

set_option maxHeartbeats 1000000 in
/-- One block. -/
theorem Inv.step {ρ : ℕ → ℝ} {lab : ℕ → EReal} {n : ℕ} {s : Acc Ideal} (h : Inv ρ lab (n * 400) s)
    (a b d x7 : FVec Ideal S400x1 .f32)
    (hs : ∀ r : Fin 400, k3_pay21 (F := Ideal) a b d (ix2 r 0) = (ρ (n * 400 + r.val) : EReal))
    (hx : ∀ r : Fin 400, x7 (ix2 r 0) = lab (n * 400 + r.val)) :
    Inv ρ lab ((n + 1) * 400) (accStep' (BitVec.ofNat 32 n) a b d x7 s) := by
  rw [Nat.succ_mul]
  obtain ⟨j, hj⟩ := exists_firstMax (n := 400) (by norm_num) fun r : Fin 400 => (ρ (n * 400 + r.val) : EReal)
  obtain ⟨q, hq⟩ := exists_firstMax (n := 400) (by norm_num) fun r : Fin 400 => lab (n * 400 + r.val)
  have hj' : IsFirstMax (fun r : Fin 400 => (k3_pay21 (F := Ideal) a b d (ix2 r 0) : EReal)) j := by
    rw [show (fun r : Fin 400 => (k3_pay21 (F := Ideal) a b d (ix2 r 0) : EReal)) = _ from funext hs]; exact hj
  have hq' : IsFirstMax (fun r : Fin 400 => (x7 (ix2 r 0) : EReal)) q := by
    rw [show (fun r : Fin 400 => (x7 (ix2 r 0) : EReal)) = _ from funext hx]; exact hq
  have e22 : k3_pay22 (F := Ideal) a b d = (ρ (n * 400 + j.val) : EReal) := (k3_22 a b d j hj').trans (hs j)
  have e5 : k3_pay5 (F := Ideal) x7 = lab (n * 400 + q.val) := (k3_5 x7 q hq').trans (hx q)
  have hB : hitBest a b d s.bs ↔ s.bs o1 < (ρ (n * 400 + j.val) : EReal) := by
    unfold hitBest; rw [gt_word, pay1_o, e22]
  have hL : hitLab x7 s.lm ↔ s.lm o1 < lab (n * 400 + q.val) := by
    unfold hitLab; rw [gt_word, pay6_o, e5]
  have em : (accStep' (BitVec.ofNat 32 n) a b d x7 s).m o1 = max (s.m o1) (ρ (n * 400 + j.val) : EReal) := by
    show k3_pay26 (F := Ideal) a b d s.m o1 = _
    rw [k3_26, e22]
  have hreal : ∃ m' : ℝ, max (s.m o1) (ρ (n * 400 + j.val) : EReal) = (m' : EReal) := by
    rcases h.bm with ⟨h1, -⟩ | ⟨k, -, -, h1, -⟩
    · exact ⟨_, by rw [h1]; exact max_eq_right bot_le⟩
    · rcases le_total (s.m o1) (ρ (n * 400 + j.val) : EReal) with h2 | h2
      · exact ⟨_, max_eq_right h2⟩
      · exact ⟨ρ k, (max_eq_left h2).trans h1⟩
  obtain ⟨m', hm'⟩ := hreal
  refine ⟨.inr ⟨m', em.trans hm'⟩, ?_, ?_, ?_, ?_⟩
  · show k3_pay25 (F := Ideal) a b d s.m s.l o1 = _
    rw [k3_25, em, e22, hm']
    simp only [hs]
    exact sum_step ρ (n * 400) 400 (s.m o1) (s.l o1) (ρ (n * 400 + j.val)) m' h.hm h.hl
  · rw [em]
    by_cases hlt : s.m o1 < (ρ (n * 400 + j.val) : EReal)
    · rw [max_eq_right hlt.le]; exact Best.new h.bm j hj hlt trivial
    · rw [max_eq_left (not_lt.mp hlt)]; exact Best.old h.bm j hj (not_lt.mp hlt)
  · by_cases hlt : s.bs o1 < (ρ (n * 400 + j.val) : EReal)
    · have e1 : (accStep' (BitVec.ofNat 32 n) a b d x7 s).bs o1 = (ρ (n * 400 + j.val) : EReal) := by
        rw [acc_bs _ _ _ _ _ _ (hB.mpr hlt), pay2_o, e22]
      have e2 : (accStep' (BitVec.ofNat 32 n) a b d x7 s).bi o1 = BitVec.ofNat 32 (n * 400 + j.val) := by
        rw [acc_bi _ _ _ _ _ _ (hB.mpr hlt)]
        unfold extractAt
        rw [k3_23 a b d j hj', pay3_o]
      rw [e1]
      exact Best.new h.bb j hj hlt e2
    · have e1 : (accStep' (BitVec.ofNat 32 n) a b d x7 s).bs = s.bs := acc_bs' _ _ _ _ _ _ fun hh => hlt (hB.mp hh)
      have e2 : (accStep' (BitVec.ofNat 32 n) a b d x7 s).bi = s.bi := acc_bi' _ _ _ _ _ _ fun hh => hlt (hB.mp hh)
      rw [e1, e2]
      exact Best.old h.bb j hj (not_lt.mp hlt)
  · by_cases hlt : s.lm o1 < lab (n * 400 + q.val)
    · have e1 : (accStep' (BitVec.ofNat 32 n) a b d x7 s).lm o1 = lab (n * 400 + q.val) := by
        rw [acc_lm _ _ _ _ _ _ (hL.mpr hlt), pay7_o, e5]
      have e2 : (accStep' (BitVec.ofNat 32 n) a b d x7 s).tg o1 = (ρ (n * 400 + q.val) : EReal) := by
        rw [acc_tg _ _ _ _ _ _ (hL.mpr hlt), k3_8 x7 _ q hq', hs]
      rw [e1]
      exact Best.new h.bl q hq hlt e2
    · have e1 : (accStep' (BitVec.ofNat 32 n) a b d x7 s).lm = s.lm := acc_lm' _ _ _ _ _ _ fun hh => hlt (hL.mp hh)
      have e2 : (accStep' (BitVec.ofNat 32 n) a b d x7 s).tg = s.tg := acc_tg' _ _ _ _ _ _ fun hh => hlt (hL.mp hh)
      rw [e1, e2]
      exact Best.old h.bl q hq (not_lt.mp hlt)

/-- What the words give in the end, when some label is above the bottom element. -/
theorem Inv.final {ρ : ℕ → ℝ} {lab : ℕ → EReal} {N : ℕ} {s : Acc Ideal} (h : Inv ρ lab N s) (hN : 0 < N)
    (hlab : ∃ i < N, ⊥ < lab i) :
    ∃ k k', FirstMax (fun i => (ρ i : EReal)) N k ∧ FirstMax lab N k'
      ∧ (∀ i, lossOut s i = ((ρ k : EReal) + Ideal.log (∑ i ∈ Finset.range N, Ideal.exp ((ρ i : EReal) - (ρ k : EReal)))) - (ρ k' : EReal))
      ∧ ∀ i, s.bi i = BitVec.ofNat 32 k := by
  have hnb : ∀ i, (ρ i : EReal) ≠ ⊥ := fun i => EReal.coe_ne_bot _
  have hm : ∃ k, FirstMax (fun i => (ρ i : EReal)) N k ∧ s.m o1 = (ρ k : EReal) := by
    rcases h.bm with ⟨-, h1⟩ | ⟨k, hk, -, h1, -⟩
    · exact absurd (h1 0 hN) (hnb 0)
    · exact ⟨k, hk, h1⟩
  have hb : ∃ k, FirstMax (fun i => (ρ i : EReal)) N k ∧ s.bi o1 = BitVec.ofNat 32 k := by
    rcases h.bb with ⟨-, h1⟩ | ⟨k, hk, -, -, h1⟩
    · exact absurd (h1 0 hN) (hnb 0)
    · exact ⟨k, hk, h1⟩
  have ht : ∃ k, FirstMax lab N k ∧ s.tg o1 = (ρ k : EReal) := by
    rcases h.bl with ⟨-, h1⟩ | ⟨k, hk, -, -, h1⟩
    · obtain ⟨i, hi, hl⟩ := hlab
      exact absurd (h1 i hi) hl.ne'
    · exact ⟨k, hk, h1⟩
  obtain ⟨k, hk, em⟩ := hm
  obtain ⟨k2, hk2, eb⟩ := hb
  obtain ⟨k', hk', et⟩ := ht
  have hkk : k2 = k := by
    rcases lt_trichotomy k k2 with hlt | he | hlt
    · exact absurd (hk2.2.2 k hlt) (not_lt.mpr (hk.2.1 k2 hk2.1))
    · exact he.symm
    · exact absurd (hk.2.2 k2 hlt) (not_lt.mpr (hk2.2.1 k hk.1))
  subst hkk
  have ho : ∀ i : S1x1.Idx, i = o1 := fun i => by
    refine (eq_ix2 (n0 := 1) (n1 := 1) i).trans ?_
    congr 1 <;> exact Subsingleton.elim (α := Fin 1) _ _
  refine ⟨k2, k', hk, hk', fun i => ?_, fun i => by rw [ho i, eb]⟩
  rw [ho i]
  have hl := h.hl
  unfold lossOut
  pointwise [k3_pay9]
  rw [em] at hl ⊢
  rw [et, hl]

end Cert.Proof

end
-- ==== Proof.V.SimReal.lean ====
/- A similarity is a real number, whatever its two vectors. -/
module

public import proofs.«01_k».proof.Proof.V.Spec
public import Idealize.ShloMosaic.PureOps.Ideal

@[expose] public section

noncomputable section

namespace Cert.Proof

open Idealize.ShloMosaic

/-- A square is not negative. -/
theorem square_nonneg (x : EReal) : 0 ≤ x * x := by
  rcases le_total 0 x with h | h
  · exact mul_nonneg h h
  · have h' : 0 ≤ -x := EReal.neg_nonneg.mpr h
    have := mul_nonneg h' h'
    rwa [neg_mul_neg] at this

/-- A number whose square is not infinite is real. -/
theorem real_of_square (x : EReal) (h : x * x ≠ ⊤) : ∃ r : ℝ, x = r := by
  induction x using EReal.rec with
  | bot => exact absurd EReal.bot_mul_bot h
  | coe r => exact ⟨r, rfl⟩
  | top => exact absurd EReal.top_mul_top h

/-- The square root of a number that is not negative is not negative. -/
theorem sqrt_nonneg' (x : EReal) (h : 0 ≤ x) : 0 ≤ Ideal.sqrt x := by
  induction x using EReal.rec with
  | bot => exact absurd h (by decide)
  | coe r =>
    have hr : ¬ r < 0 := not_lt.mpr (EReal.coe_nonneg.mp h)
    show 0 ≤ (if r < 0 then (⊥ : EReal) else (Real.sqrt r : EReal))
    rw [if_neg hr]
    exact EReal.coe_nonneg.mpr (Real.sqrt_nonneg r)
  | top => exact le_top

/-- It is zero only at zero. -/
theorem eq_zero_of_sqrt (x : EReal) (h : 0 ≤ x) (hs : Ideal.sqrt x = 0) : x = 0 := by
  induction x using EReal.rec with
  | bot => exact absurd h (by decide)
  | coe r =>
    have hr0 := EReal.coe_nonneg.mp h
    have hr : ¬ r < 0 := not_lt.mpr hr0
    change (if r < 0 then (⊥ : EReal) else (Real.sqrt r : EReal)) = 0 at hs
    rw [if_neg hr, EReal.coe_eq_zero, Real.sqrt_eq_zero hr0] at hs
    rw [hs]; rfl
  | top => exact absurd hs (by decide)

/-- A sum of squares bounds each. -/
theorem square_le_sum {n : Nat} (f : Fin n → EReal) (l : Fin n) : f l * f l ≤ ∑ l, f l * f l :=
  Finset.single_le_sum (f := fun l => f l * f l) (fun i _ => square_nonneg (f i)) (Finset.mem_univ l)

/-- The terms of a sum of squares that is zero are zero. -/
theorem eq_zero_of_sum {n : Nat} (f : Fin n → EReal) (h : ∑ l, f l * f l = 0) (l : Fin n) : f l = 0 := by
  have := square_le_sum f l
  rw [h] at this
  exact mul_self_eq_zero.mp (le_antisymm this (square_nonneg _))

/-- A sum of products of real numbers is real. -/
theorem real_sum {n : Nat} (f g : Fin n → EReal) (hf : ∀ l, ∃ r : ℝ, f l = r) (hg : ∀ l, ∃ r : ℝ, g l = r) :
    ∃ r : ℝ, ∑ l, f l * g l = r := by
  classical
  choose a ha using hf
  choose b hb using hg
  refine ⟨∑ l, a l * b l, ?_⟩
  have : ∀ S : Finset (Fin n), ∑ l ∈ S, f l * g l = ((∑ l ∈ S, a l * b l : ℝ) : EReal) := by
    intro S
    induction S using Finset.induction_on with
    | empty => simp
    | insert i S h ih => rw [Finset.sum_insert h, Finset.sum_insert h, EReal.coe_add, ih, ha, hb, EReal.coe_mul]
  exact this _

/-- The small constant is a positive real number. -/
theorem eps_real : ∃ e : ℝ, 0 < e ∧ Ideal.ofBits .f32 0x322BCC77#32 = (e : EReal) := by
  refine ⟨_, ?_, by simp only [Ideal.ofBits, Ideal.ieee]; rw [if_neg (by decide), if_neg (by decide)]⟩
  have : ((if (BitVec.extractLsb' (8 + 23) 1 0x322BCC77#32 == 1#1) = true then -1 else 1 : ℝ)) = 1 := if_neg (by decide)
  rw [this]
  positivity

/-- A similarity is a real number. -/
theorem simOf_real {n : Nat} (X : Fin n → Fin 64 → EReal) (y : Fin 64 → EReal) (r : Fin n) : ∃ ρ : ℝ, simOf X y r = ρ := by
  obtain ⟨e, he, hE⟩ := eps_real
  unfold simOf
  rw [hE]
  generalize X r = x
  have hp : 0 ≤ ∑ l, x l * x l := Finset.sum_nonneg fun l _ => square_nonneg _
  have hq : 0 ≤ ∑ l, y l * y l := Finset.sum_nonneg fun l _ => square_nonneg _
  have hpos : (0 : EReal) < (e : EReal) := EReal.coe_pos.mpr he
  have hdpos : 0 < max (Ideal.sqrt (∑ l, x l * x l) * Ideal.sqrt (∑ l, y l * y l)) (e : EReal) := lt_of_lt_of_le hpos (le_max_right _ _)
  by_cases hd : max (Ideal.sqrt (∑ l, x l * x l) * Ideal.sqrt (∑ l, y l * y l)) (e : EReal) = ⊤
  · refine ⟨0, ?_⟩
    rw [hd]
    unfold Ideal.div
    rw [if_neg (by decide), EReal.inv_top, mul_zero]; rfl
  · have hprod : Ideal.sqrt (∑ l, x l * x l) * Ideal.sqrt (∑ l, y l * y l) ≠ ⊤ := fun h => hd (by rw [h]; exact max_eq_left le_top)
    have hnum : ∃ a : ℝ, ∑ l, x l * y l = a := by
      by_cases hp' : ∑ l, x l * x l = ⊤
      · have hs : Ideal.sqrt (∑ l, y l * y l) = 0 := by
          by_contra hne
          have : 0 < Ideal.sqrt (∑ l, y l * y l) := lt_of_le_of_ne (sqrt_nonneg' _ hq) (Ne.symm hne)
          exact hprod (by rw [hp']; exact EReal.top_mul_of_pos this)
        have hz := eq_zero_of_sum y (eq_zero_of_sqrt _ hq hs)
        exact ⟨0, by simp [hz]⟩
      · by_cases hq' : ∑ l, y l * y l = ⊤
        · have hs : Ideal.sqrt (∑ l, x l * x l) = 0 := by
            by_contra hne
            have : 0 < Ideal.sqrt (∑ l, x l * x l) := lt_of_le_of_ne (sqrt_nonneg' _ hp) (Ne.symm hne)
            exact hprod (by rw [hq']; exact EReal.mul_top_of_pos this)
          have hz := eq_zero_of_sum x (eq_zero_of_sqrt _ hp hs)
          exact ⟨0, by simp [hz]⟩
        · exact real_sum x y
            (fun l => real_of_square _ fun h => hp' (top_le_iff.mp (h ▸ square_le_sum x l)))
            (fun l => real_of_square _ fun h => hq' (top_le_iff.mp (h ▸ square_le_sum y l)))
    obtain ⟨a, ha⟩ := hnum
    rw [ha]
    revert hd hdpos
    generalize max (Ideal.sqrt (∑ l, x l * x l) * Ideal.sqrt (∑ l, y l * y l)) (e : EReal) = d
    intro hdpos hd
    induction d using EReal.rec with
    | bot => exact absurd hdpos (by decide)
    | coe d =>
      refine ⟨a * d⁻¹, ?_⟩
      unfold Ideal.div
      rw [if_neg hdpos.ne', ← EReal.coe_inv, EReal.coe_mul]
    | top => exact absurd rfl hd

end Cert.Proof

end
-- ==== Proof.V.KerArr3.lean ====
/- The last region's two results. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.KerAcc
public import proofs.«01_k».proof.Proof.V.SimReal

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- Where each window reads. -/
theorem idx3 : ∀ t : Fin cfg3.N, win3_0.index t = ![t.val, 0] ∧ win3_1.index t = ![0, 0] ∧ win3_2.index t = ![0, 0]
    ∧ win3_3.index t = ![0, 0] ∧ win3_4.index t = ![0, 0] ∧ win3_5.index t = ![0, 0] ∧ win3_6.index t = ![0, 0]
    ∧ win3_7.index t = ![t.val, 0] ∧ (grid3.coords t 0).val = t.val :=
  (by decide +kernel : ∀ t : Fin grid3.N, _)

variable (W : Dev nD → Valuation τ sig (Elt Ideal))

/-- A row of nine times the nine weights, plus the bias. -/
def fcVec (a : Fin 64 → Fin 9 → EReal) (w : Fin 9 → EReal) (b : EReal) (l : Fin 64) : EReal := (∑ x, a l x * w x) + b

/-- The similarities of all rows, from the arrays the region finds. -/
def simAt (c : Dev nD) : Fin 10000 → EReal :=
  simOf (dense (fun (r : Fin 10000) (y : Fin 10000) => (W c (Proc.devRef .tc main_arg0) (ix2 r y) : EReal))
      (fun (y : Fin 10000) (x : Fin 128) => W c (Proc.devRef .tc main_v69) (ix2 y x))
      (fun (x : Fin 128) (l : Fin 64) => W c (Proc.devRef .tc main_arg8) (ix2 x l))
      (fun l : Fin 64 => W c (Proc.devRef .tc main_v70) (ix2 (0 : Fin 1) l)))
    (fcVec (fun (l : Fin 64) (x : Fin 9) => W c (Proc.devRef .tc main_v65) (ix2 l x)) (fun x : Fin 9 => W c (Proc.devRef .tc main_arg34) (ix2 x (0 : Fin 1))) (W c (Proc.devRef .tc main_v71) (ix2 (0 : Fin 1) (0 : Fin 1))))

/-- They are real. -/
def simReal (c : Dev nD) (i : ℕ) : ℝ := if h : i < 10000 then (simOf_real _ _ ⟨i, h⟩ : ∃ ρ : ℝ, simAt W c ⟨i, h⟩ = ρ).choose else 0

theorem simReal_eq (c : Dev nD) (r : Fin 10000) : (simReal W c r.val : EReal) = simAt W c r := by
  unfold simReal
  rw [dif_pos r.isLt]
  exact (simOf_real _ _ ⟨r.val, r.isLt⟩ : ∃ ρ : ℝ, simAt W c ⟨r.val, r.isLt⟩ = ρ).choose_spec.symm

/-- The labels of all rows. -/
def labAt (c : Dev nD) (i : ℕ) : EReal := if h : i < 10000 then W c (Proc.devRef .tc main_v72) (ix2 (⟨i, h⟩ : Fin 10000) (0 : Fin 1)) else 0

theorem labAt_eq (c : Dev nD) (r : Fin 10000) : labAt W c r.val = W c (Proc.devRef .tc main_v72) (ix2 r (0 : Fin 1)) := dif_pos r.isLt

theorem row_lt (t : Fin cfg3.N) (r : Fin 400) : t.val * 400 + r.val < 10000 := by
  have h1 : t.val < 25 := t.isLt
  have h2 := r.isLt
  omega

set_option maxHeartbeats 4000000 in
/-- A block's similarities are its rows'. -/
theorem blk_sim (c : Dev nD) (t : Fin cfg3.N) (r : Fin 400) :
    k3_pay21 (F := Ideal) (k3_pay18 (iblk3 W c 0 t) (iblk3 W c 1 t) (iblk3 W c 2 t) (iblk3 W c 3 t) (iblk3 W c 4 t) (iblk3 W c 5 t) (iblk3 W c 6 t))
        (k3_pay19 (iblk3 W c 4 t) (iblk3 W c 5 t) (iblk3 W c 6 t)) (k3_pay20 (iblk3 W c 0 t) (iblk3 W c 1 t) (iblk3 W c 2 t) (iblk3 W c 3 t)) (ix2 r 0)
      = (simReal W c (t.val * 400 + r.val) : EReal) := by
  refine (k3_sim _ _ _ _ _ _ _ r).trans (Eq.trans ?_ (simReal_eq W c ⟨t.val * 400 + r.val, row_lt t r⟩).symm)
  unfold simAt
  have hX : ∀ l : Fin 64, dense (fun (r : Fin 400) (y : Fin 10000) => (iblk3 W c 0 t (ix2 r y) : EReal)) (fun (y : Fin 10000) (x : Fin 128) => iblk3 W c 1 t (ix2 y x))
        (fun (x : Fin 128) (l : Fin 64) => iblk3 W c 2 t (ix2 x l)) (fun l : Fin 64 => iblk3 W c 3 t (ix2 (0 : Fin 1) l)) r l
      = dense (fun (r : Fin 10000) (y : Fin 10000) => (W c (Proc.devRef .tc main_arg0) (ix2 r y) : EReal))
          (fun (y : Fin 10000) (x : Fin 128) => W c (Proc.devRef .tc main_v69) (ix2 y x))
          (fun (x : Fin 128) (l : Fin 64) => W c (Proc.devRef .tc main_arg8) (ix2 x l))
          (fun l : Fin 64 => W c (Proc.devRef .tc main_v70) (ix2 (0 : Fin 1) l)) ⟨t.val * 400 + r.val, row_lt t r⟩ l := fun l => by
    unfold dense
    refine congrArg₂ (fun a b : EReal => a + b) (Finset.sum_congr rfl fun x _ => congrArg₂ (fun a b : EReal => a * b)
      (Finset.sum_congr rfl fun k _ => congrArg₂ (fun a b : EReal => a * b) ?_ ?_) ?_) ?_
    all_goals blk_ext [iblk3, idx3 t]
  have hY : ∀ l : Fin 64, fcVec (fun (l : Fin 64) (x : Fin 9) => iblk3 W c 4 t (ix2 l x)) (fun x : Fin 9 => iblk3 W c 5 t (ix2 x (0 : Fin 1))) (iblk3 W c 6 t (ix2 (0 : Fin 1) (0 : Fin 1))) l
      = fcVec (fun (l : Fin 64) (x : Fin 9) => W c (Proc.devRef .tc main_v65) (ix2 l x)) (fun x : Fin 9 => W c (Proc.devRef .tc main_arg34) (ix2 x (0 : Fin 1))) (W c (Proc.devRef .tc main_v71) (ix2 (0 : Fin 1) (0 : Fin 1))) l := fun l => by
    unfold fcVec
    refine congrArg₂ (fun a b : EReal => a + b) (Finset.sum_congr rfl fun x _ => congrArg₂ (fun a b : EReal => a * b) ?_ ?_) ?_
    all_goals blk_ext [iblk3, idx3 t]
  unfold simOf
  refine congrArg₂ (fun a b : EReal => Ideal.div a (max b (Ideal.ofBits .f32 0x322BCC77#32)))
    (Finset.sum_congr rfl fun l _ => congrArg₂ (fun a b : EReal => a * b) (hX l) (hY l))
    (congrArg₂ (fun a b : EReal => Ideal.sqrt a * Ideal.sqrt b)
      (Finset.sum_congr rfl fun l _ => congrArg₂ (fun a b : EReal => a * b) (hX l) (hX l))
      (Finset.sum_congr rfl fun l _ => congrArg₂ (fun a b : EReal => a * b) (hY l) (hY l)))

/-- A block's labels are its rows'. -/
theorem blk_lab (c : Dev nD) (t : Fin cfg3.N) (r : Fin 400) :
    (iblk3 W c 7 t (ix2 r (0 : Fin 1)) : EReal) = labAt W c (t.val * 400 + r.val) := by
  refine Eq.trans ?_ (labAt_eq W c ⟨t.val * 400 + r.val, row_lt t r⟩).symm
  blk_ext [iblk3, idx3 t]

/-- The running words after `n` blocks. -/
theorem acc_inv (c : Dev nD) (n : ℕ) (hn : n ≤ 25) : Inv (simReal W c) (labAt W c) (n * 400) (accAt W c n) := by
  induction n with
  | zero => rw [Nat.zero_mul]; exact Inv.init _ _
  | succ n ih =>
    have hlt : n < cfg3.N := (by omega : n < 25)
    have e := accAt_succ W c ⟨n, hlt⟩
    rw [show accAt W c (n + 1) = _ from e]
    unfold accStep
    rw [(idx3 ⟨n, hlt⟩).2.2.2.2.2.2.2.2]
    exact Inv.step (ih (by omega)) _ _ _ _ (blk_sim W c ⟨n, hlt⟩) (blk_lab W c ⟨n, hlt⟩)

/-- The grid's last point. -/
def last3 : Fin cfg3.N := ⟨24, by decide⟩

/-- The loss's array after the region. -/
theorem arr3_8 (c : Dev nD) : (dat3 W c).arrAt 8 cfg3.N = lossOut (accAt W c 25) := by
  refine (dat3 W c).arrAt_eq_of_after_last 8 last3 (by decide +kernel) _ fun j => ?_
  blk_simp
  rw [after3_8]
  rfl

/-- The position's array after the region. -/
theorem arr3_9 (c : Dev nD) : (dat3 W c).arrAt 9 cfg3.N = (accAt W c 25).bi := by
  refine (dat3 W c).arrAt_eq_of_after_last 9 last3 (by decide +kernel) _ fun j => ?_
  blk_simp
  rw [after3_9]
  rfl

end Cert.Proof

end
-- ==== Proof.V.Host0.lean ====
/- The host's slices and reshapes of the weights of block 1 of the branch. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

variable (m : (ℓ : Loc nD τ sig) → Buf (Elt Ideal) ℓ) (c : Dev nD)

/-- `main_v1` after the first stretch of host operations. -/
theorem x1_v1 (o : Fin 3) (i : Fin 1) : X1 m c (Proc.devRef .tc main_v1) (ix2 o i) = V0 m c (Proc.devRef .tc main_arg10) (ix3 o i (0 : Fin 3)) := by
  obtain rfl : i = 0 := Subsingleton.elim _ _
  unfold X1
  after_results
  pointwise

/-- `main_v3` after the first stretch of host operations. -/
theorem x1_v3 (o : Fin 3) (i : Fin 1) : X1 m c (Proc.devRef .tc main_v3) (ix2 o i) = V0 m c (Proc.devRef .tc main_arg10) (ix3 o i (1 : Fin 3)) := by
  obtain rfl : i = 0 := Subsingleton.elim _ _
  unfold X1
  after_results
  pointwise

/-- `main_v5` after the first stretch of host operations. -/
theorem x1_v5 (o : Fin 3) (i : Fin 1) : X1 m c (Proc.devRef .tc main_v5) (ix2 o i) = V0 m c (Proc.devRef .tc main_arg10) (ix3 o i (2 : Fin 3)) := by
  obtain rfl : i = 0 := Subsingleton.elim _ _
  unfold X1
  after_results
  pointwise

/-- `main_v6` after the first stretch of host operations. -/
theorem x1_v6 (o : Fin 3) : X1 m c (Proc.devRef .tc main_v6) (ix2 o (0 : Fin 1)) = V0 m c (Proc.devRef .tc main_arg11) (ix1 o) := by
  unfold X1
  after_results
  pointwise

/-- `main_v8` after the first stretch of host operations. -/
theorem x1_v8 (o : Fin 3) (i : Fin 3) : X1 m c (Proc.devRef .tc main_v8) (ix2 o i) = V0 m c (Proc.devRef .tc main_arg12) (ix3 o i (0 : Fin 3)) := by
  unfold X1
  after_results
  pointwise

/-- `main_v10` after the first stretch of host operations. -/
theorem x1_v10 (o : Fin 3) (i : Fin 3) : X1 m c (Proc.devRef .tc main_v10) (ix2 o i) = V0 m c (Proc.devRef .tc main_arg12) (ix3 o i (1 : Fin 3)) := by
  unfold X1
  after_results
  pointwise

/-- `main_v12` after the first stretch of host operations. -/
theorem x1_v12 (o : Fin 3) (i : Fin 3) : X1 m c (Proc.devRef .tc main_v12) (ix2 o i) = V0 m c (Proc.devRef .tc main_arg12) (ix3 o i (2 : Fin 3)) := by
  unfold X1
  after_results
  pointwise

/-- `main_v13` after the first stretch of host operations. -/
theorem x1_v13 (o : Fin 3) : X1 m c (Proc.devRef .tc main_v13) (ix2 o (0 : Fin 1)) = V0 m c (Proc.devRef .tc main_arg13) (ix1 o) := by
  unfold X1
  after_results
  pointwise

/-- `main_v14` after the first stretch of host operations. -/
theorem x1_v14 (o : Fin 3) (i : Fin 1) : X1 m c (Proc.devRef .tc main_v14) (ix2 o i) = V0 m c (Proc.devRef .tc main_arg14) (ix3 o i (0 : Fin 1)) := by
  obtain rfl : i = 0 := Subsingleton.elim _ _
  unfold X1
  after_results
  pointwise

/-- `main_v15` after the first stretch of host operations. -/
theorem x1_v15 (o : Fin 3) : X1 m c (Proc.devRef .tc main_v15) (ix2 o (0 : Fin 1)) = V0 m c (Proc.devRef .tc main_arg15) (ix1 o) := by
  unfold X1
  after_results
  pointwise

end Cert.Proof

end
-- ==== Proof.V.Host1.lean ====
/- The host's slices and reshapes of the weights of block 2 of the branch. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

variable (m : (ℓ : Loc nD τ sig) → Buf (Elt Ideal) ℓ) (c : Dev nD)

/-- `main_v17` after the first stretch of host operations. -/
theorem x1_v17 (o : Fin 5) (i : Fin 3) : X1 m c (Proc.devRef .tc main_v17) (ix2 o i) = V0 m c (Proc.devRef .tc main_arg16) (ix3 o i (0 : Fin 3)) := by
  unfold X1
  after_results
  pointwise

/-- `main_v19` after the first stretch of host operations. -/
theorem x1_v19 (o : Fin 5) (i : Fin 3) : X1 m c (Proc.devRef .tc main_v19) (ix2 o i) = V0 m c (Proc.devRef .tc main_arg16) (ix3 o i (1 : Fin 3)) := by
  unfold X1
  after_results
  pointwise

/-- `main_v21` after the first stretch of host operations. -/
theorem x1_v21 (o : Fin 5) (i : Fin 3) : X1 m c (Proc.devRef .tc main_v21) (ix2 o i) = V0 m c (Proc.devRef .tc main_arg16) (ix3 o i (2 : Fin 3)) := by
  unfold X1
  after_results
  pointwise

/-- `main_v22` after the first stretch of host operations. -/
theorem x1_v22 (o : Fin 5) : X1 m c (Proc.devRef .tc main_v22) (ix2 o (0 : Fin 1)) = V0 m c (Proc.devRef .tc main_arg17) (ix1 o) := by
  unfold X1
  after_results
  pointwise

/-- `main_v24` after the first stretch of host operations. -/
theorem x1_v24 (o : Fin 5) (i : Fin 5) : X1 m c (Proc.devRef .tc main_v24) (ix2 o i) = V0 m c (Proc.devRef .tc main_arg18) (ix3 o i (0 : Fin 3)) := by
  unfold X1
  after_results
  pointwise

/-- `main_v26` after the first stretch of host operations. -/
theorem x1_v26 (o : Fin 5) (i : Fin 5) : X1 m c (Proc.devRef .tc main_v26) (ix2 o i) = V0 m c (Proc.devRef .tc main_arg18) (ix3 o i (1 : Fin 3)) := by
  unfold X1
  after_results
  pointwise

/-- `main_v28` after the first stretch of host operations. -/
theorem x1_v28 (o : Fin 5) (i : Fin 5) : X1 m c (Proc.devRef .tc main_v28) (ix2 o i) = V0 m c (Proc.devRef .tc main_arg18) (ix3 o i (2 : Fin 3)) := by
  unfold X1
  after_results
  pointwise

/-- `main_v29` after the first stretch of host operations. -/
theorem x1_v29 (o : Fin 5) : X1 m c (Proc.devRef .tc main_v29) (ix2 o (0 : Fin 1)) = V0 m c (Proc.devRef .tc main_arg19) (ix1 o) := by
  unfold X1
  after_results
  pointwise

/-- `main_v30` after the first stretch of host operations. -/
theorem x1_v30 (o : Fin 5) (i : Fin 3) : X1 m c (Proc.devRef .tc main_v30) (ix2 o i) = V0 m c (Proc.devRef .tc main_arg20) (ix3 o i (0 : Fin 1)) := by
  unfold X1
  after_results
  pointwise

/-- `main_v31` after the first stretch of host operations. -/
theorem x1_v31 (o : Fin 5) : X1 m c (Proc.devRef .tc main_v31) (ix2 o (0 : Fin 1)) = V0 m c (Proc.devRef .tc main_arg21) (ix1 o) := by
  unfold X1
  after_results
  pointwise

end Cert.Proof

end
-- ==== Proof.V.Host2.lean ====
/- The host's slices and reshapes of the weights of block 3 of the branch. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

variable (m : (ℓ : Loc nD τ sig) → Buf (Elt Ideal) ℓ) (c : Dev nD)

/-- `main_v33` after the first stretch of host operations. -/
theorem x1_v33 (o : Fin 7) (i : Fin 5) : X1 m c (Proc.devRef .tc main_v33) (ix2 o i) = V0 m c (Proc.devRef .tc main_arg22) (ix3 o i (0 : Fin 3)) := by
  unfold X1
  after_results
  pointwise

/-- `main_v35` after the first stretch of host operations. -/
theorem x1_v35 (o : Fin 7) (i : Fin 5) : X1 m c (Proc.devRef .tc main_v35) (ix2 o i) = V0 m c (Proc.devRef .tc main_arg22) (ix3 o i (1 : Fin 3)) := by
  unfold X1
  after_results
  pointwise

/-- `main_v37` after the first stretch of host operations. -/
theorem x1_v37 (o : Fin 7) (i : Fin 5) : X1 m c (Proc.devRef .tc main_v37) (ix2 o i) = V0 m c (Proc.devRef .tc main_arg22) (ix3 o i (2 : Fin 3)) := by
  unfold X1
  after_results
  pointwise

/-- `main_v38` after the first stretch of host operations. -/
theorem x1_v38 (o : Fin 7) : X1 m c (Proc.devRef .tc main_v38) (ix2 o (0 : Fin 1)) = V0 m c (Proc.devRef .tc main_arg23) (ix1 o) := by
  unfold X1
  after_results
  pointwise

/-- `main_v40` after the first stretch of host operations. -/
theorem x1_v40 (o : Fin 7) (i : Fin 7) : X1 m c (Proc.devRef .tc main_v40) (ix2 o i) = V0 m c (Proc.devRef .tc main_arg24) (ix3 o i (0 : Fin 3)) := by
  unfold X1
  after_results
  pointwise

/-- `main_v42` after the first stretch of host operations. -/
theorem x1_v42 (o : Fin 7) (i : Fin 7) : X1 m c (Proc.devRef .tc main_v42) (ix2 o i) = V0 m c (Proc.devRef .tc main_arg24) (ix3 o i (1 : Fin 3)) := by
  unfold X1
  after_results
  pointwise

/-- `main_v44` after the first stretch of host operations. -/
theorem x1_v44 (o : Fin 7) (i : Fin 7) : X1 m c (Proc.devRef .tc main_v44) (ix2 o i) = V0 m c (Proc.devRef .tc main_arg24) (ix3 o i (2 : Fin 3)) := by
  unfold X1
  after_results
  pointwise

/-- `main_v45` after the first stretch of host operations. -/
theorem x1_v45 (o : Fin 7) : X1 m c (Proc.devRef .tc main_v45) (ix2 o (0 : Fin 1)) = V0 m c (Proc.devRef .tc main_arg25) (ix1 o) := by
  unfold X1
  after_results
  pointwise

/-- `main_v46` after the first stretch of host operations. -/
theorem x1_v46 (o : Fin 7) (i : Fin 5) : X1 m c (Proc.devRef .tc main_v46) (ix2 o i) = V0 m c (Proc.devRef .tc main_arg26) (ix3 o i (0 : Fin 1)) := by
  unfold X1
  after_results
  pointwise

/-- `main_v47` after the first stretch of host operations. -/
theorem x1_v47 (o : Fin 7) : X1 m c (Proc.devRef .tc main_v47) (ix2 o (0 : Fin 1)) = V0 m c (Proc.devRef .tc main_arg27) (ix1 o) := by
  unfold X1
  after_results
  pointwise

end Cert.Proof

end
-- ==== Proof.V.Host3.lean ====
/- The host's slices and reshapes of the weights of block 4 of the branch. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

variable (m : (ℓ : Loc nD τ sig) → Buf (Elt Ideal) ℓ) (c : Dev nD)

/-- `main_v49` after the first stretch of host operations. -/
theorem x1_v49 (o : Fin 9) (i : Fin 7) : X1 m c (Proc.devRef .tc main_v49) (ix2 o i) = V0 m c (Proc.devRef .tc main_arg28) (ix3 o i (0 : Fin 3)) := by
  unfold X1
  after_results
  pointwise

/-- `main_v51` after the first stretch of host operations. -/
theorem x1_v51 (o : Fin 9) (i : Fin 7) : X1 m c (Proc.devRef .tc main_v51) (ix2 o i) = V0 m c (Proc.devRef .tc main_arg28) (ix3 o i (1 : Fin 3)) := by
  unfold X1
  after_results
  pointwise

/-- `main_v53` after the first stretch of host operations. -/
theorem x1_v53 (o : Fin 9) (i : Fin 7) : X1 m c (Proc.devRef .tc main_v53) (ix2 o i) = V0 m c (Proc.devRef .tc main_arg28) (ix3 o i (2 : Fin 3)) := by
  unfold X1
  after_results
  pointwise

/-- `main_v54` after the first stretch of host operations. -/
theorem x1_v54 (o : Fin 9) : X1 m c (Proc.devRef .tc main_v54) (ix2 o (0 : Fin 1)) = V0 m c (Proc.devRef .tc main_arg29) (ix1 o) := by
  unfold X1
  after_results
  pointwise

/-- `main_v56` after the first stretch of host operations. -/
theorem x1_v56 (o : Fin 9) (i : Fin 9) : X1 m c (Proc.devRef .tc main_v56) (ix2 o i) = V0 m c (Proc.devRef .tc main_arg30) (ix3 o i (0 : Fin 3)) := by
  unfold X1
  after_results
  pointwise

/-- `main_v58` after the first stretch of host operations. -/
theorem x1_v58 (o : Fin 9) (i : Fin 9) : X1 m c (Proc.devRef .tc main_v58) (ix2 o i) = V0 m c (Proc.devRef .tc main_arg30) (ix3 o i (1 : Fin 3)) := by
  unfold X1
  after_results
  pointwise

/-- `main_v60` after the first stretch of host operations. -/
theorem x1_v60 (o : Fin 9) (i : Fin 9) : X1 m c (Proc.devRef .tc main_v60) (ix2 o i) = V0 m c (Proc.devRef .tc main_arg30) (ix3 o i (2 : Fin 3)) := by
  unfold X1
  after_results
  pointwise

/-- `main_v61` after the first stretch of host operations. -/
theorem x1_v61 (o : Fin 9) : X1 m c (Proc.devRef .tc main_v61) (ix2 o (0 : Fin 1)) = V0 m c (Proc.devRef .tc main_arg31) (ix1 o) := by
  unfold X1
  after_results
  pointwise

/-- `main_v62` after the first stretch of host operations. -/
theorem x1_v62 (o : Fin 9) (i : Fin 7) : X1 m c (Proc.devRef .tc main_v62) (ix2 o i) = V0 m c (Proc.devRef .tc main_arg32) (ix3 o i (0 : Fin 1)) := by
  unfold X1
  after_results
  pointwise

/-- `main_v63` after the first stretch of host operations. -/
theorem x1_v63 (o : Fin 9) : X1 m c (Proc.devRef .tc main_v63) (ix2 o (0 : Fin 1)) = V0 m c (Proc.devRef .tc main_arg33) (ix1 o) := by
  unfold X1
  after_results
  pointwise

end Cert.Proof

end
-- ==== Proof.V.Chain.lean ====
/- The chain of regions and host operations: what each region finds and leaves. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.KerG1
public import proofs.«01_k».proof.Proof.V.KerG2
public import proofs.«01_k».proof.Proof.V.KerYOut
public import proofs.«01_k».proof.Proof.V.KerY
public import proofs.«01_k».proof.Proof.V.KerArr3
public import proofs.«01_k».proof.Proof.V.Host0
public import proofs.«01_k».proof.Proof.V.Host1
public import proofs.«01_k».proof.Proof.V.Host2
public import proofs.«01_k».proof.Proof.V.Host3

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

variable (m : (ℓ : Loc nD τ sig) → Buf (Elt Ideal) ℓ) (c : Dev nD)

/-! ## The arguments, before and after each region -/

theorem x1_arg (r : Ref sig .tc) (h : r ∉ written) : X1 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [X1_of m c r h0]

theorem y1_arg (r : Ref sig .tc) (h : r ∉ written) : Y1 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [Y1_of m c r (by simp [a]), X1_of m c r h0]

theorem x2_arg (r : Ref sig .tc) (h : r ∉ written) : X2 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [X2_of m c r h1, Y1_of m c r (by simp [a]), X1_of m c r h0]

theorem y2_arg (r : Ref sig .tc) (h : r ∉ written) : Y2 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [Y2_of m c r (by simp [b]), X2_of m c r h1, Y1_of m c r (by simp [a]), X1_of m c r h0]

theorem x3_arg (r : Ref sig .tc) (h : r ∉ written) : X3 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [X3_of m c r h2, Y2_of m c r (by simp [b]), X2_of m c r h1, Y1_of m c r (by simp [a]), X1_of m c r h0]

theorem y3_arg (r : Ref sig .tc) (h : r ∉ written) : Y3 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [Y3_of m c r (by simp [d]), X3_of m c r h2, Y2_of m c r (by simp [b]), X2_of m c r h1, Y1_of m c r (by simp [a]), X1_of m c r h0]

theorem x4_arg (r : Ref sig .tc) (h : r ∉ written) : X4 m c (Proc.devRef .tc r) = V0 m c (Proc.devRef .tc r) := by
  simp only [written, List.mem_append, not_or] at h
  obtain ⟨⟨⟨⟨⟨h0, h1⟩, h2⟩, h3⟩, h4⟩, h5⟩ := h
  simp only [List.mem_cons, List.not_mem_nil, or_false, not_or] at h5
  obtain ⟨a, b, d, e, f⟩ := h5
  rw [X4_of m c r h3, Y3_of m c r (by simp [d]), X3_of m c r h2, Y2_of m c r (by simp [b]), X2_of m c r h1, Y1_of m c r (by simp [a]), X1_of m c r h0]

/-! ## What the regions leave -/

theorem y1_v64 : Y1 m c (Proc.devRef .tc main_v64) = (dat0 (X1 m) c).arrAt 41 cfg0.N :=
  Pipeline.afterRegion_arr (dat0 (X1 m) c) (X1 m c) launch0.win.arr_inj 41
theorem y2_v67 : Y2 m c (Proc.devRef .tc main_v67) = (dat1 (X2 m) c).arrAt 4 cfg1.N :=
  Pipeline.afterRegion_arr (dat1 (X2 m) c) (X2 m c) launch1.win.arr_inj 4
theorem y3_v69 : Y3 m c (Proc.devRef .tc main_v69) = (dat2 (X3 m) c).arrAt 4 cfg2.N :=
  Pipeline.afterRegion_arr (dat2 (X3 m) c) (X3 m c) launch2.win.arr_inj 4
theorem y4_v73_0 : Y4 m c (Proc.devRef .tc main_v73_0) = (dat3 (X4 m) c).arrAt 8 cfg3.N :=
  Pipeline.afterRegion_arr (dat3 (X4 m) c) (X4 m c) launch3.win.arr_inj 8
theorem y4_v73_1 : Y4 m c (Proc.devRef .tc main_v73_1) = (dat3 (X4 m) c).arrAt 9 cfg3.N :=
  Pipeline.afterRegion_arr (dat3 (X4 m) c) (X4 m c) launch3.win.arr_inj 9

/-! ## The host operations between -/

theorem x2_v66 (l : Fin 256) : X2 m c (Proc.devRef .tc main_v66) (ix2 (0 : Fin 1) l) = V0 m c (Proc.devRef .tc main_arg5) (ix1 l) := by
  rw [← y1_arg m c main_arg5 (by decide)]
  unfold X2
  after_results
  pointwise
theorem x3_v68 (l : Fin 257) : X3 m c (Proc.devRef .tc main_v68) (ix2 (0 : Fin 1) l) = V0 m c (Proc.devRef .tc main_arg7) (ix1 l) := by
  rw [← y2_arg m c main_arg7 (by decide)]
  unfold X3
  after_results
  pointwise
theorem x4_v70 (l : Fin 64) : X4 m c (Proc.devRef .tc main_v70) (ix2 (0 : Fin 1) l) = V0 m c (Proc.devRef .tc main_arg9) (ix1 l) := by
  rw [← y3_arg m c main_arg9 (by decide)]
  unfold X4
  after_results
  pointwise
theorem x4_v71 : X4 m c (Proc.devRef .tc main_v71) (ix2 (0 : Fin 1) (0 : Fin 1)) = V0 m c (Proc.devRef .tc main_arg35) (ix1 (0 : Fin 1)) := by
  rw [← y3_arg m c main_arg35 (by decide)]
  unfold X4
  after_results
  pointwise
theorem x4_v72 (r : Fin 10000) : X4 m c (Proc.devRef .tc main_v72) (ix2 r (0 : Fin 1)) = V0 m c (Proc.devRef .tc main_arg2) (ix2 (0 : Fin 1) r) := by
  rw [← y3_arg m c main_arg2 (by decide)]
  unfold X4
  after_results
  pointwise
theorem x2_v65 (l : Fin 64) (x : Fin 9) : X2 m c (Proc.devRef .tc main_v65) (ix2 l x)
    = Y1 m c (Proc.devRef .tc main_v64) (ix2 (⟨(l.val * 9 + x.val) / 64, by omega⟩ : Fin 9) (⟨(l.val * 9 + x.val) % 64, by omega⟩ : Fin 64)) := by
  unfold X2
  after_results
  pointwise
theorem x4_v65 : X4 m c (Proc.devRef .tc main_v65) = X2 m c (Proc.devRef .tc main_v65) := by
  rw [X4_of m c main_v65 (by decide), Y3_of m c main_v65 (by decide), X3_of m c main_v65 (by decide), Y2_of m c main_v65 (by decide)]
theorem x5_v74 (i : S_.Idx) : X5 m c (Proc.devRef .tc main_v74) i = Y4 m c (Proc.devRef .tc main_v73_0) (ix2 (0 : Fin 1) (0 : Fin 1)) := by
  unfold X5
  after_results
  pointwise

/-! ## The branch -/

/-- The branch's channels, as the first region leaves them. -/
theorem y1_apply (ch : Fin 9) (l : Fin 64) : Y1 m c (Proc.devRef .tc main_v64) (ix2 ch l)
    = (resblock (fun (o : Fin 9) (i : Fin 7) (k : Fin 3) => V0 m c (Proc.devRef .tc main_arg28) (ix3 o i k)) (fun o : Fin 9 => V0 m c (Proc.devRef .tc main_arg29) (ix1 o)) (fun (o : Fin 9) (i : Fin 9) (k : Fin 3) => V0 m c (Proc.devRef .tc main_arg30) (ix3 o i k)) (fun o : Fin 9 => V0 m c (Proc.devRef .tc main_arg31) (ix1 o)) (fun (o : Fin 9) (i : Fin 7) (k : Fin 1) => V0 m c (Proc.devRef .tc main_arg32) (ix3 o i k)) (fun o : Fin 9 => V0 m c (Proc.devRef .tc main_arg33) (ix1 o))
      (resblock (fun (o : Fin 7) (i : Fin 5) (k : Fin 3) => V0 m c (Proc.devRef .tc main_arg22) (ix3 o i k)) (fun o : Fin 7 => V0 m c (Proc.devRef .tc main_arg23) (ix1 o)) (fun (o : Fin 7) (i : Fin 7) (k : Fin 3) => V0 m c (Proc.devRef .tc main_arg24) (ix3 o i k)) (fun o : Fin 7 => V0 m c (Proc.devRef .tc main_arg25) (ix1 o)) (fun (o : Fin 7) (i : Fin 5) (k : Fin 1) => V0 m c (Proc.devRef .tc main_arg26) (ix3 o i k)) (fun o : Fin 7 => V0 m c (Proc.devRef .tc main_arg27) (ix1 o))
      (resblock (fun (o : Fin 5) (i : Fin 3) (k : Fin 3) => V0 m c (Proc.devRef .tc main_arg16) (ix3 o i k)) (fun o : Fin 5 => V0 m c (Proc.devRef .tc main_arg17) (ix1 o)) (fun (o : Fin 5) (i : Fin 5) (k : Fin 3) => V0 m c (Proc.devRef .tc main_arg18) (ix3 o i k)) (fun o : Fin 5 => V0 m c (Proc.devRef .tc main_arg19) (ix1 o)) (fun (o : Fin 5) (i : Fin 3) (k : Fin 1) => V0 m c (Proc.devRef .tc main_arg20) (ix3 o i k)) (fun o : Fin 5 => V0 m c (Proc.devRef .tc main_arg21) (ix1 o))
      (resblock (fun (o : Fin 3) (i : Fin 1) (k : Fin 3) => V0 m c (Proc.devRef .tc main_arg10) (ix3 o i k)) (fun o : Fin 3 => V0 m c (Proc.devRef .tc main_arg11) (ix1 o)) (fun (o : Fin 3) (i : Fin 3) (k : Fin 3) => V0 m c (Proc.devRef .tc main_arg12) (ix3 o i k)) (fun o : Fin 3 => V0 m c (Proc.devRef .tc main_arg13) (ix1 o)) (fun (o : Fin 3) (i : Fin 1) (k : Fin 1) => V0 m c (Proc.devRef .tc main_arg14) (ix3 o i k)) (fun o : Fin 3 => V0 m c (Proc.devRef .tc main_arg15) (ix1 o))
      (fun (_ : Fin 1) (l : Fin 64) => V0 m c (Proc.devRef .tc main_arg1) (ix2 (0 : Fin 1) l)))))) ch l :=
  ((congrFun (y1_v64 m c) _).trans (congrFun (arr0 (X1 m) c) _)).trans (
    blk79_apply _ _ _ _ _ _ _ _ _ _ _ (fun (o : Fin 9) (i : Fin 7) (k : Fin 3) => V0 m c (Proc.devRef .tc main_arg28) (ix3 o i k)) (fun o : Fin 9 => V0 m c (Proc.devRef .tc main_arg29) (ix1 o)) (fun (o : Fin 9) (i : Fin 9) (k : Fin 3) => V0 m c (Proc.devRef .tc main_arg30) (ix3 o i k)) (fun o : Fin 9 => V0 m c (Proc.devRef .tc main_arg31) (ix1 o)) (fun (o : Fin 9) (i : Fin 7) (k : Fin 1) => V0 m c (Proc.devRef .tc main_arg32) (ix3 o i k)) (fun o : Fin 9 => V0 m c (Proc.devRef .tc main_arg33) (ix1 o))
      (resblock (fun (o : Fin 7) (i : Fin 5) (k : Fin 3) => V0 m c (Proc.devRef .tc main_arg22) (ix3 o i k)) (fun o : Fin 7 => V0 m c (Proc.devRef .tc main_arg23) (ix1 o)) (fun (o : Fin 7) (i : Fin 7) (k : Fin 3) => V0 m c (Proc.devRef .tc main_arg24) (ix3 o i k)) (fun o : Fin 7 => V0 m c (Proc.devRef .tc main_arg25) (ix1 o)) (fun (o : Fin 7) (i : Fin 5) (k : Fin 1) => V0 m c (Proc.devRef .tc main_arg26) (ix3 o i k)) (fun o : Fin 7 => V0 m c (Proc.devRef .tc main_arg27) (ix1 o))
      (resblock (fun (o : Fin 5) (i : Fin 3) (k : Fin 3) => V0 m c (Proc.devRef .tc main_arg16) (ix3 o i k)) (fun o : Fin 5 => V0 m c (Proc.devRef .tc main_arg17) (ix1 o)) (fun (o : Fin 5) (i : Fin 5) (k : Fin 3) => V0 m c (Proc.devRef .tc main_arg18) (ix3 o i k)) (fun o : Fin 5 => V0 m c (Proc.devRef .tc main_arg19) (ix1 o)) (fun (o : Fin 5) (i : Fin 3) (k : Fin 1) => V0 m c (Proc.devRef .tc main_arg20) (ix3 o i k)) (fun o : Fin 5 => V0 m c (Proc.devRef .tc main_arg21) (ix1 o))
      (resblock (fun (o : Fin 3) (i : Fin 1) (k : Fin 3) => V0 m c (Proc.devRef .tc main_arg10) (ix3 o i k)) (fun o : Fin 3 => V0 m c (Proc.devRef .tc main_arg11) (ix1 o)) (fun (o : Fin 3) (i : Fin 3) (k : Fin 3) => V0 m c (Proc.devRef .tc main_arg12) (ix3 o i k)) (fun o : Fin 3 => V0 m c (Proc.devRef .tc main_arg13) (ix1 o)) (fun (o : Fin 3) (i : Fin 1) (k : Fin 1) => V0 m c (Proc.devRef .tc main_arg14) (ix3 o i k)) (fun o : Fin 3 => V0 m c (Proc.devRef .tc main_arg15) (ix1 o))
      (fun (_ : Fin 1) (l : Fin 64) => V0 m c (Proc.devRef .tc main_arg1) (ix2 (0 : Fin 1) l)))))
      (x1_v49 m c) (x1_v51 m c) (x1_v53 m c) (x1_v54 m c) (x1_v56 m c) (x1_v58 m c) (x1_v60 m c) (x1_v61 m c) (x1_v62 m c) (x1_v63 m c)
      (blk57_apply _ _ _ _ _ _ _ _ _ _ _ (fun (o : Fin 7) (i : Fin 5) (k : Fin 3) => V0 m c (Proc.devRef .tc main_arg22) (ix3 o i k)) (fun o : Fin 7 => V0 m c (Proc.devRef .tc main_arg23) (ix1 o)) (fun (o : Fin 7) (i : Fin 7) (k : Fin 3) => V0 m c (Proc.devRef .tc main_arg24) (ix3 o i k)) (fun o : Fin 7 => V0 m c (Proc.devRef .tc main_arg25) (ix1 o)) (fun (o : Fin 7) (i : Fin 5) (k : Fin 1) => V0 m c (Proc.devRef .tc main_arg26) (ix3 o i k)) (fun o : Fin 7 => V0 m c (Proc.devRef .tc main_arg27) (ix1 o))
      (resblock (fun (o : Fin 5) (i : Fin 3) (k : Fin 3) => V0 m c (Proc.devRef .tc main_arg16) (ix3 o i k)) (fun o : Fin 5 => V0 m c (Proc.devRef .tc main_arg17) (ix1 o)) (fun (o : Fin 5) (i : Fin 5) (k : Fin 3) => V0 m c (Proc.devRef .tc main_arg18) (ix3 o i k)) (fun o : Fin 5 => V0 m c (Proc.devRef .tc main_arg19) (ix1 o)) (fun (o : Fin 5) (i : Fin 3) (k : Fin 1) => V0 m c (Proc.devRef .tc main_arg20) (ix3 o i k)) (fun o : Fin 5 => V0 m c (Proc.devRef .tc main_arg21) (ix1 o))
      (resblock (fun (o : Fin 3) (i : Fin 1) (k : Fin 3) => V0 m c (Proc.devRef .tc main_arg10) (ix3 o i k)) (fun o : Fin 3 => V0 m c (Proc.devRef .tc main_arg11) (ix1 o)) (fun (o : Fin 3) (i : Fin 3) (k : Fin 3) => V0 m c (Proc.devRef .tc main_arg12) (ix3 o i k)) (fun o : Fin 3 => V0 m c (Proc.devRef .tc main_arg13) (ix1 o)) (fun (o : Fin 3) (i : Fin 1) (k : Fin 1) => V0 m c (Proc.devRef .tc main_arg14) (ix3 o i k)) (fun o : Fin 3 => V0 m c (Proc.devRef .tc main_arg15) (ix1 o))
      (fun (_ : Fin 1) (l : Fin 64) => V0 m c (Proc.devRef .tc main_arg1) (ix2 (0 : Fin 1) l))))
      (x1_v33 m c) (x1_v35 m c) (x1_v37 m c) (x1_v38 m c) (x1_v40 m c) (x1_v42 m c) (x1_v44 m c) (x1_v45 m c) (x1_v46 m c) (x1_v47 m c)
      (blk35_apply _ _ _ _ _ _ _ _ _ _ _ (fun (o : Fin 5) (i : Fin 3) (k : Fin 3) => V0 m c (Proc.devRef .tc main_arg16) (ix3 o i k)) (fun o : Fin 5 => V0 m c (Proc.devRef .tc main_arg17) (ix1 o)) (fun (o : Fin 5) (i : Fin 5) (k : Fin 3) => V0 m c (Proc.devRef .tc main_arg18) (ix3 o i k)) (fun o : Fin 5 => V0 m c (Proc.devRef .tc main_arg19) (ix1 o)) (fun (o : Fin 5) (i : Fin 3) (k : Fin 1) => V0 m c (Proc.devRef .tc main_arg20) (ix3 o i k)) (fun o : Fin 5 => V0 m c (Proc.devRef .tc main_arg21) (ix1 o))
      (resblock (fun (o : Fin 3) (i : Fin 1) (k : Fin 3) => V0 m c (Proc.devRef .tc main_arg10) (ix3 o i k)) (fun o : Fin 3 => V0 m c (Proc.devRef .tc main_arg11) (ix1 o)) (fun (o : Fin 3) (i : Fin 3) (k : Fin 3) => V0 m c (Proc.devRef .tc main_arg12) (ix3 o i k)) (fun o : Fin 3 => V0 m c (Proc.devRef .tc main_arg13) (ix1 o)) (fun (o : Fin 3) (i : Fin 1) (k : Fin 1) => V0 m c (Proc.devRef .tc main_arg14) (ix3 o i k)) (fun o : Fin 3 => V0 m c (Proc.devRef .tc main_arg15) (ix1 o))
      (fun (_ : Fin 1) (l : Fin 64) => V0 m c (Proc.devRef .tc main_arg1) (ix2 (0 : Fin 1) l)))
      (x1_v17 m c) (x1_v19 m c) (x1_v21 m c) (x1_v22 m c) (x1_v24 m c) (x1_v26 m c) (x1_v28 m c) (x1_v29 m c) (x1_v30 m c) (x1_v31 m c)
      (blk13_apply _ _ _ _ _ _ _ _ _ _ _ (fun (o : Fin 3) (i : Fin 1) (k : Fin 3) => V0 m c (Proc.devRef .tc main_arg10) (ix3 o i k)) (fun o : Fin 3 => V0 m c (Proc.devRef .tc main_arg11) (ix1 o)) (fun (o : Fin 3) (i : Fin 3) (k : Fin 3) => V0 m c (Proc.devRef .tc main_arg12) (ix3 o i k)) (fun o : Fin 3 => V0 m c (Proc.devRef .tc main_arg13) (ix1 o)) (fun (o : Fin 3) (i : Fin 1) (k : Fin 1) => V0 m c (Proc.devRef .tc main_arg14) (ix3 o i k)) (fun o : Fin 3 => V0 m c (Proc.devRef .tc main_arg15) (ix1 o))
      (fun (_ : Fin 1) (l : Fin 64) => V0 m c (Proc.devRef .tc main_arg1) (ix2 (0 : Fin 1) l))
      (x1_v1 m c) (x1_v3 m c) (x1_v5 m c) (x1_v6 m c) (x1_v8 m c) (x1_v10 m c) (x1_v12 m c) (x1_v13 m c) (x1_v14 m c) (x1_v15 m c)
      (fun a l => by
        obtain rfl : a = 0 := Subsingleton.elim _ _
        exact congrFun (x1_arg m c main_arg1 (by decide)) _)))) ch l)

/-- The branch's vector. -/
def kerY (m : (ℓ : Loc nD τ sig) → Buf (Elt Ideal) ℓ) (c : Dev nD) : Fin 64 → EReal :=
  fcOf (resblock (fun (o : Fin 9) (i : Fin 7) (k : Fin 3) => V0 m c (Proc.devRef .tc main_arg28) (ix3 o i k)) (fun o : Fin 9 => V0 m c (Proc.devRef .tc main_arg29) (ix1 o)) (fun (o : Fin 9) (i : Fin 9) (k : Fin 3) => V0 m c (Proc.devRef .tc main_arg30) (ix3 o i k)) (fun o : Fin 9 => V0 m c (Proc.devRef .tc main_arg31) (ix1 o)) (fun (o : Fin 9) (i : Fin 7) (k : Fin 1) => V0 m c (Proc.devRef .tc main_arg32) (ix3 o i k)) (fun o : Fin 9 => V0 m c (Proc.devRef .tc main_arg33) (ix1 o))
      (resblock (fun (o : Fin 7) (i : Fin 5) (k : Fin 3) => V0 m c (Proc.devRef .tc main_arg22) (ix3 o i k)) (fun o : Fin 7 => V0 m c (Proc.devRef .tc main_arg23) (ix1 o)) (fun (o : Fin 7) (i : Fin 7) (k : Fin 3) => V0 m c (Proc.devRef .tc main_arg24) (ix3 o i k)) (fun o : Fin 7 => V0 m c (Proc.devRef .tc main_arg25) (ix1 o)) (fun (o : Fin 7) (i : Fin 5) (k : Fin 1) => V0 m c (Proc.devRef .tc main_arg26) (ix3 o i k)) (fun o : Fin 7 => V0 m c (Proc.devRef .tc main_arg27) (ix1 o))
      (resblock (fun (o : Fin 5) (i : Fin 3) (k : Fin 3) => V0 m c (Proc.devRef .tc main_arg16) (ix3 o i k)) (fun o : Fin 5 => V0 m c (Proc.devRef .tc main_arg17) (ix1 o)) (fun (o : Fin 5) (i : Fin 5) (k : Fin 3) => V0 m c (Proc.devRef .tc main_arg18) (ix3 o i k)) (fun o : Fin 5 => V0 m c (Proc.devRef .tc main_arg19) (ix1 o)) (fun (o : Fin 5) (i : Fin 3) (k : Fin 1) => V0 m c (Proc.devRef .tc main_arg20) (ix3 o i k)) (fun o : Fin 5 => V0 m c (Proc.devRef .tc main_arg21) (ix1 o))
      (resblock (fun (o : Fin 3) (i : Fin 1) (k : Fin 3) => V0 m c (Proc.devRef .tc main_arg10) (ix3 o i k)) (fun o : Fin 3 => V0 m c (Proc.devRef .tc main_arg11) (ix1 o)) (fun (o : Fin 3) (i : Fin 3) (k : Fin 3) => V0 m c (Proc.devRef .tc main_arg12) (ix3 o i k)) (fun o : Fin 3 => V0 m c (Proc.devRef .tc main_arg13) (ix1 o)) (fun (o : Fin 3) (i : Fin 1) (k : Fin 1) => V0 m c (Proc.devRef .tc main_arg14) (ix3 o i k)) (fun o : Fin 3 => V0 m c (Proc.devRef .tc main_arg15) (ix1 o))
      (fun (_ : Fin 1) (l : Fin 64) => V0 m c (Proc.devRef .tc main_arg1) (ix2 (0 : Fin 1) l))))))
    (fun x : Fin 9 => V0 m c (Proc.devRef .tc main_arg34) (ix2 x (0 : Fin 1))) (V0 m c (Proc.devRef .tc main_arg35) (ix1 (0 : Fin 1)))

/-- The third layer's rows. -/
def kerX (m : (ℓ : Loc nD τ sig) → Buf (Elt Ideal) ℓ) (c : Dev nD) : Fin 10000 → Fin 64 → EReal :=
  dense (fun (r : Fin 10000) (y : Fin 10000) => (V0 m c (Proc.devRef .tc main_arg0) (ix2 r y) : EReal))
    (fun (r : Fin 10000) => pool5 (layer (fun (r : Fin 10000) (y : Fin 10000) => (V0 m c (Proc.devRef .tc main_arg0) (ix2 r y) : EReal))
      (layer (fun (r : Fin 10000) (y : Fin 10000) => (V0 m c (Proc.devRef .tc main_arg0) (ix2 r y) : EReal))
        (fun (y : Fin 10000) (x : Fin 512) => V0 m c (Proc.devRef .tc main_arg3) (ix2 y x))
        (fun (x : Fin 512) (l : Fin 256) => V0 m c (Proc.devRef .tc main_arg4) (ix2 x l))
        (fun l : Fin 256 => V0 m c (Proc.devRef .tc main_arg5) (ix1 l)))
      (fun (x : Fin 256) (l : Fin 257) => V0 m c (Proc.devRef .tc main_arg6) (ix2 x l))
      (fun l : Fin 257 => V0 m c (Proc.devRef .tc main_arg7) (ix1 l)) r))
    (fun (x : Fin 128) (l : Fin 64) => V0 m c (Proc.devRef .tc main_arg8) (ix2 x l))
    (fun l : Fin 64 => V0 m c (Proc.devRef .tc main_arg9) (ix1 l))

/-- The branch's vector, as the last region finds it. -/
theorem fc_eq (l : Fin 64) :
    fcVec (fun (l : Fin 64) (x : Fin 9) => X4 m c (Proc.devRef .tc main_v65) (ix2 l x)) (fun x : Fin 9 => X4 m c (Proc.devRef .tc main_arg34) (ix2 x (0 : Fin 1))) (X4 m c (Proc.devRef .tc main_v71) (ix2 (0 : Fin 1) (0 : Fin 1))) l
      = kerY m c l := by
  unfold fcVec kerY fcOf
  refine congrArg₂ (fun a b : EReal => a + b) (Finset.sum_congr rfl fun x _ => congrArg₂ (fun a b : EReal => a * b) ?_ ?_) (x4_v71 m c)
  · exact ((congrFun (x4_v65 m c) _).trans (x2_v65 m c l x)).trans (y1_apply m c _ _)
  · exact congrFun (x4_arg m c main_arg34 (by decide)) _

/-! ## The graph layers -/

/-- The first layer. -/
theorem y2_eq : Y2 m c (Proc.devRef .tc main_v67) = fun i =>
    layer (fun (r : Fin 10000) (y : Fin 10000) => (V0 m c (Proc.devRef .tc main_arg0) (ix2 r y) : EReal))
        (fun (y : Fin 10000) (x : Fin 512) => V0 m c (Proc.devRef .tc main_arg3) (ix2 y x))
        (fun (x : Fin 512) (l : Fin 256) => V0 m c (Proc.devRef .tc main_arg4) (ix2 x l))
        (fun l : Fin 256 => V0 m c (Proc.devRef .tc main_arg5) (ix1 l)) (i 0) (i 1) := by
  rw [y2_v67, arr1, x2_arg m c main_arg0 (by decide), x2_arg m c main_arg3 (by decide), x2_arg m c main_arg4 (by decide),
    show (fun l : Fin 256 => (X2 m c (Proc.devRef .tc main_v66) (ix2 (0 : Fin 1) l) : EReal)) = _ from funext (x2_v66 m c)]
  rfl

/-- The second, pooled. -/
theorem y3_eq (r : Fin 10000) (x : Fin 128) : Y3 m c (Proc.devRef .tc main_v69) (ix2 r x) =
    pool5 (layer (fun (r : Fin 10000) (y : Fin 10000) => (V0 m c (Proc.devRef .tc main_arg0) (ix2 r y) : EReal))
      (layer (fun (r : Fin 10000) (y : Fin 10000) => (V0 m c (Proc.devRef .tc main_arg0) (ix2 r y) : EReal))
        (fun (y : Fin 10000) (x : Fin 512) => V0 m c (Proc.devRef .tc main_arg3) (ix2 y x))
        (fun (x : Fin 512) (l : Fin 256) => V0 m c (Proc.devRef .tc main_arg4) (ix2 x l))
        (fun l : Fin 256 => V0 m c (Proc.devRef .tc main_arg5) (ix1 l)))
      (fun (x : Fin 256) (l : Fin 257) => V0 m c (Proc.devRef .tc main_arg6) (ix2 x l))
      (fun l : Fin 257 => V0 m c (Proc.devRef .tc main_arg7) (ix1 l)) r) x := by
  rw [y3_v69, arr2, x3_arg m c main_arg0 (by decide), x3_arg m c main_arg6 (by decide), X3_of m c main_v67 (by decide), y2_eq,
    show (fun l : Fin 257 => (X3 m c (Proc.devRef .tc main_v68) (ix2 (0 : Fin 1) l) : EReal)) = _ from funext (x3_v68 m c)]
  rfl

/-- The similarities the last region computes. -/
theorem sim_eq : simAt (X4 m) c = simOf (kerX m c) (kerY m c) := by
  unfold simAt
  rw [show fcVec (fun (l : Fin 64) (x : Fin 9) => X4 m c (Proc.devRef .tc main_v65) (ix2 l x)) (fun x : Fin 9 => X4 m c (Proc.devRef .tc main_arg34) (ix2 x (0 : Fin 1))) (X4 m c (Proc.devRef .tc main_v71) (ix2 (0 : Fin 1) (0 : Fin 1))) = _ from funext (fc_eq m c)]
  refine congrArg (fun X => simOf X (kerY m c)) ?_
  unfold kerX
  rw [x4_arg m c main_arg0 (by decide), x4_arg m c main_arg8 (by decide), X4_of m c main_v69 (by decide),
    show (fun (y : Fin 10000) (x : Fin 128) => (Y3 m c (Proc.devRef .tc main_v69) (ix2 y x) : EReal)) = _ from funext fun y => funext fun x => y3_eq m c y x,
    show (fun l : Fin 64 => (X4 m c (Proc.devRef .tc main_v70) (ix2 (0 : Fin 1) l) : EReal)) = _ from funext (x4_v70 m c)]

/-- The labels it finds. -/
theorem lab_eq (r : Fin 10000) : labAt (X4 m) c r.val = V0 m c (Proc.devRef .tc main_arg2) (ix2 (0 : Fin 1) r) :=
  (labAt_eq (X4 m) c r).trans (x4_v72 m c r)

end Cert.Proof

end
-- ==== Proof.V.KerOut.lean ====
/- What the kernel leaves in its two results. -/
module

public import proofs.«01_k».proof.Proof.KernelIdeal.Run
public import proofs.«01_k».proof.Proof.V.Spec
public import Idealize.ShloMosaic.Lib.Pointwise
public import Idealize.ShloMosaic.Lib.Tactic.CleanTypes
public import Idealize.ShloMosaic.Lib.Pipeline.Value
public import Idealize.ShloMosaic.Lib.Pipeline.ValueKit
public import proofs.«01_k».proof.Proof.V.Chain
public import proofs.«01_k».proof.Proof.V.TopK
public import proofs.«01_k».proof.Proof.V.Online

@[expose] public section

set_option maxRecDepth 16384

noncomputable section

namespace Cert.Proof

open Idealize.ShloMosaic Cert.KernelIdeal Cert.KernelIdeal.Gen
open Idealize.ShloMosaic.TcCoe Idealize.SL Idealize.SL.RA Idealize.ShloMosaic.Pipeline

/-- The first greatest entry, counted by numbers below `n`, is the first greatest entry of the row. -/
theorem firstMax_fin {n : Nat} {x : ℕ → EReal} {y : Fin n → EReal} (hxy : ∀ r : Fin n, x r.val = y r) {k : ℕ} (h : FirstMax x n k) :
    IsFirstMax y ⟨k, h.1⟩ := fun r => by
  refine ⟨?_, fun hr => ?_⟩
  · rw [← hxy, ← hxy]; exact h.2.1 r.val r.isLt
  · rw [← hxy, ← hxy]; exact h.2.2 r.val hr

variable (m : (ℓ : Loc nD τ sig) → Buf (Elt Ideal) ℓ) (c : Dev nD)

/-- The two results, when some label lies above minus infinity: the loss at the first greatest similarity and the
    first greatest label, and the position of the former. -/
theorem ker_out (hlab : ∃ r : Fin 10000, (⊥ : EReal) < V0 m c (Proc.devRef .tc main_arg2) (ix2 (0 : Fin 1) r)) :
    ∃ k k' : Fin 10000, IsFirstMax (simOf (kerX m c) (kerY m c)) k
      ∧ IsFirstMax (fun r : Fin 10000 => (V0 m c (Proc.devRef .tc main_arg2) (ix2 (0 : Fin 1) r) : EReal)) k'
      ∧ (∀ i, X5 m c (Proc.devRef .tc main_v74) i
          = (Ideal.log (∑ r : Fin 10000, Ideal.exp (simOf (kerX m c) (kerY m c) r - simOf (kerX m c) (kerY m c) k))
              + simOf (kerX m c) (kerY m c) k) - simOf (kerX m c) (kerY m c) k')
      ∧ ∀ i, X5 m c (Proc.devRef .tc main_v73_1) i = BitVec.ofNat 32 k.val := by
  have hS : ∀ r : Fin 10000, (simReal (X4 m) c r.val : EReal) = simOf (kerX m c) (kerY m c) r := fun r =>
    (simReal_eq (X4 m) c r).trans (congrFun (sim_eq m c) r)
  obtain ⟨r0, hr0⟩ := hlab
  obtain ⟨k, k', hk, hk', hl, hp⟩ := Inv.final (N := 10000) (acc_inv (X4 m) c 25 le_rfl) (by omega)
    ⟨r0.val, r0.isLt, by rw [lab_eq]; exact hr0⟩
  refine ⟨⟨k, hk.1⟩, ⟨k', hk'.1⟩, firstMax_fin hS hk, firstMax_fin (lab_eq m c) hk', fun i => ?_, fun i => ?_⟩
  · refine (x5_v74 m c i).trans ((congrFun ((y4_v73_0 m c).trans (arr3_8 (X4 m) c)) _).trans ((hl _).trans ?_))
    rw [Finset.sum_range, add_comm]
    have e1 := hS ⟨k, hk.1⟩
    have e2 := hS ⟨k', hk'.1⟩
    simp only at e1 e2
    simp only [hS, e1, e2]
  · exact (congrFun (X5_of' m c main_v73_1 (by decide)) i).trans ((congrFun ((y4_v73_1 m c).trans (arr3_9 (X4 m) c)) _).trans (hp _))

end Cert.Proof

end
-- ==== Proof.V.RefX3.lean ====
/- The reference's three graph layers, read at an index. -/
module

public import proofs.«01_k».proof.Proof.Gen.ReferenceIdeal.Run
public import proofs.«01_k».proof.Proof.V.Spec
public import Idealize.ShloMosaic.Lib.Pointwise
public import Idealize.ShloMosaic.Lib.Pointwise.IndexBridge
public import Idealize.ShloMosaic.Lib.Routing.Ops
public import Idealize.ShloMosaic.Lib.Tactic.CleanTypes

@[expose] public section

set_option maxRecDepth 16384

noncomputable section

namespace Cert.Proof

open Idealize.ShloMosaic Idealize.ShloMosaic.StableHlo Cert.ReferenceIdeal Cert.ReferenceIdeal.Value

/-- The pattern of minus infinity denotes the bottom element. -/
theorem ofBits_negInf : Ideal.ofBits .f32 0xFF800000#32 = (⊥ : EReal) := by
  simp [Ideal.ofBits, Ideal.ieee]

/-- The word of a small number, read signed. -/
theorem small_toInt (n : Nat) (hn : n < 2 ^ 31) : (BitVec.ofNat 32 n).toInt = n := by
  rw [BitVec.toInt_eq_toNat_of_lt (by rw [BitVec.toNat_ofNat]; omega), BitVec.toNat_ofNat, Nat.mod_eq_of_lt (by omega)]

/-- It is not negative. -/
theorem small_slt (n : Nat) (hn : n < 2 ^ 31) : IntOp.cmpi .slt (BitVec.ofNat 32 n) 0#32 = 0#1 := by
  have h : (BitVec.ofNat 32 n).slt 0#32 = false := by
    rw [BitVec.slt, small_toInt n hn]; simp
  unfold IntOp.cmpi
  rw [h]; rfl

/-- Small words compare as their numbers. -/
theorem small_sle (n k : Nat) (hn : n < 2 ^ 31) (hk : k < 2 ^ 31) (h : n ≤ k) :
    IntOp.cmpi .sle (BitVec.ofNat 32 n) (BitVec.ofNat 32 k) = 1#1 := by
  have h : (BitVec.ofNat 32 n).sle (BitVec.ofNat 32 k) = true := by
    rw [BitVec.sle, small_toInt n hn, small_toInt k hk]; simp [h]
  unfold IntOp.cmpi
  rw [h]; rfl

/-- The other way round. -/
theorem small_sge (n k : Nat) (hn : n < 2 ^ 31) (hk : k < 2 ^ 31) (h : k ≤ n) :
    IntOp.cmpi .sge (BitVec.ofNat 32 n) (BitVec.ofNat 32 k) = 1#1 := by
  have h : (BitVec.ofNat 32 k).sle (BitVec.ofNat 32 n) = true := by
    rw [BitVec.sle, small_toInt n hn, small_toInt k hk]; simp [h]
  unfold IntOp.cmpi
  rw [h]; rfl

/-- The host's pooling window over a row, read at an index. -/
theorem reduceWindow_apply (x : (⟨3, ![1, 10000, 257]⟩ : Shape).Idx → EReal) (init : (⟨0, ![]⟩ : Shape).Idx → EReal)
    (hi : ∀ i, init i = ⊥) (h) (hu) (r : Fin 10000) (t : Fin 128) :
    Host.reduceWindow (s := ⟨3, ![1, 10000, 257]⟩) (t := ⟨3, ![1, 10000, 128]⟩) (u := ⟨0, ![]⟩)
        (max : EReal → EReal → EReal) ![1, 1, 5] ![1, 1, 2] ![0, 0, 1] ![0, 0, 1] x init h hu (ix3 (0 : Fin 1) r t)
      = pool5 (fun l => x (ix3 (0 : Fin 1) r l)) t := by
  unfold Host.reduceWindow
  simp only [hi]
  have key : ∀ n : Fin 5,
      (if hin : ∀ a : Fin 3, (![0, 0, 1] : Fin 3 → Nat) a ≤ (ix3 (0 : Fin 1) r t (a.cast rfl)).val * (![1, 1, 2] : Fin 3 → Nat) a
            + ((⟨3, ![1, 1, 5]⟩ : Shape).rowMajor.symm n a).val
          ∧ (ix3 (0 : Fin 1) r t (a.cast rfl)).val * (![1, 1, 2] : Fin 3 → Nat) a
            + ((⟨3, ![1, 1, 5]⟩ : Shape).rowMajor.symm n a).val - (![0, 0, 1] : Fin 3 → Nat) a < (![1, 10000, 257] : Fin 3 → Nat) a
        then x (fun a => ⟨(ix3 (0 : Fin 1) r t (a.cast rfl)).val * (![1, 1, 2] : Fin 3 → Nat) a
            + ((⟨3, ![1, 1, 5]⟩ : Shape).rowMajor.symm n a).val - (![0, 0, 1] : Fin 3 → Nat) a, (hin a).2⟩) else ⊥)
      = padAt (fun l => x (ix3 (0 : Fin 1) r l)) (t.val * 2 + n.val) := by
    intro n
    have e0 : ((⟨3, ![1, 1, 5]⟩ : Shape).rowMajor.symm n 0).val = 0 := by revert n; decide
    have e1 : ((⟨3, ![1, 1, 5]⟩ : Shape).rowMajor.symm n 1).val = 0 := by revert n; decide
    have e2 : ((⟨3, ![1, 1, 5]⟩ : Shape).rowMajor.symm n 2).val = n.val := by revert n; decide
    unfold padAt
    by_cases hc : 1 ≤ t.val * 2 + n.val ∧ t.val * 2 + n.val - 1 < 257
    · rw [dif_pos hc, dif_pos]
      · refine congrArg x (funext fun a => Fin.ext ?_)
        match a with
        | ⟨0, _⟩ => show 0 * 1 + ((⟨3, ![1, 1, 5]⟩ : Shape).rowMajor.symm n 0).val - 0 = 0; rw [e0]
        | ⟨1, _⟩ => show r.val * 1 + ((⟨3, ![1, 1, 5]⟩ : Shape).rowMajor.symm n 1).val - 0 = r.val; rw [e1]; omega
        | ⟨2, _⟩ => show t.val * 2 + ((⟨3, ![1, 1, 5]⟩ : Shape).rowMajor.symm n 2).val - 1 = _; rw [e2]; rfl
      · intro a
        match a with
        | ⟨0, _⟩ => exact ⟨Nat.zero_le _, by show 0 * 1 + ((⟨3, ![1, 1, 5]⟩ : Shape).rowMajor.symm n 0).val - 0 < 1; rw [e0]; omega⟩
        | ⟨1, _⟩ => exact ⟨Nat.zero_le _, by
            show r.val * 1 + ((⟨3, ![1, 1, 5]⟩ : Shape).rowMajor.symm n 1).val - 0 < 10000; rw [e1]; omega⟩
        | ⟨2, _⟩ =>
          show 1 ≤ t.val * 2 + ((⟨3, ![1, 1, 5]⟩ : Shape).rowMajor.symm n 2).val
            ∧ t.val * 2 + ((⟨3, ![1, 1, 5]⟩ : Shape).rowMajor.symm n 2).val - 1 < 257
          rw [e2]; exact hc
    · rw [dif_neg hc, dif_neg]
      intro hh
      have h2 := hh 2
      change 1 ≤ t.val * 2 + ((⟨3, ![1, 1, 5]⟩ : Shape).rowMajor.symm n 2).val
            ∧ t.val * 2 + ((⟨3, ![1, 1, 5]⟩ : Shape).rowMajor.symm n 2).val - 1 < 257 at h2
      rw [e2] at h2; exact hc h2
  have fold : ∀ (f : Fin 5 → EReal), (List.finRange 5).foldl (fun r n => max r (f n)) ⊥
      = max (max (max (max (f 0) (f 1)) (f 2)) (f 3)) (f 4) := by
    intro f
    show max (max (max (max (max ⊥ (f 0)) (f 1)) (f 2)) (f 3)) (f 4) = _
    rw [max_eq_right bot_le]
  refine Eq.trans ?_ ((fold fun n => padAt (fun l => x (ix3 (0 : Fin 1) r l)) (t.val * 2 + n.val)))
  show (List.finRange 5).foldl _ ⊥ = _
  refine congrArg (fun g => (List.finRange 5).foldl g ⊥) (funext fun a => funext fun n => congrArg (max a) (key n))

variable (V : Valuation τ sig (Elt Ideal))

/-- The rows taken are the rows themselves. -/
theorem take_apply (r : Fin 10000) :
    res_main_call0_v5 (F := Ideal) V (ix2 r (0 : Fin 1)) = BitVec.ofNat 32 r.val := by
  unfold res_main_call0_v5 res_main_v0
  clean_types
  pointwise
  rw [small_slt _ (by omega)]
  rfl

/-- The table's rows, in order, read at an index. -/
theorem embed_apply (r : Fin 10000) (l : Fin 512) :
    (select (broadcastInDim S10000x512 ![0] Gen.bcast_S10000_S10000x512_0 (Host.reduce IntOp.andi (andi (cmpi .sge (res_main_call0_v5 (F := Ideal) V) (broadcastInDim S10000x1 ![] Gen.bcast_S_S10000x1 (constantI S_ 32 0#32))) (cmpi .sle (res_main_call0_v5 (F := Ideal) V) (broadcastInDim S10000x1 ![0, 1] Gen.bcast_S1x1_S10000x1_0_1 (broadcastInDim S1x1 ![1] Gen.bcast_S1_S1x1_1 (constantI S1 32 9999#32))))) (constantI S_ 1 1#1) Gen.reducesTo_S10000x1_S10000_d1 Gen.h_S_)) (Host.gather gather_S10000x512_S10000x1_S10000x512_1_0_n_n_0_1_1512 (V (Proc.devRef .tc main_arg3)) (res_main_call0_v5 (F := Ideal) V)) (broadcastInDim S10000x512 ![] Gen.bcast_S_S10000x512 (constant (F := Ideal) S_ .f32 0x7FC00000#32))) (ix2 r l)
      = V (Proc.devRef .tc main_arg3) (ix2 r l) := by
  have hr := r.isLt
  rw [ix2_eq_valueIdx]
  have hg := Routing.gather_row (nb := 10000) (B := 512) (n := 10000) gather_S10000x512_S10000x1_S10000x512_1_0_n_n_0_1_1512
    rfl rfl rfl rfl rfl (V (Proc.devRef .tc main_arg3)) (res_main_call0_v5 (F := Ideal) V) r l r
    (by rw [← ix2_eq_valueIdx]; exact take_apply V r) (by norm_num)
  rw [← ix2_eq_valueIdx] at hg ⊢
  generalize hG : Host.gather gather_S10000x512_S10000x1_S10000x512_1_0_n_n_0_1_1512 (V (Proc.devRef .tc main_arg3)) (res_main_call0_v5 (F := Ideal) V) = G at hg ⊢
  have ht : ∀ q : Fin 10000, res_main_call0_v5 (F := Ideal) V (ix2 q (0 : Fin 1)) = BitVec.ofNat 32 q.val := take_apply V
  generalize hT : res_main_call0_v5 (F := Ideal) V = T at ht ⊢
  clean_types
  pointwise
  rw [Finset.univ_unique, Finset.fold_singleton, show (default : Fin 1) = 0 from rfl, ht,
    small_sge _ 0 (by omega) (by omega) (by omega), small_sle _ 9999 (by omega) (by omega) (by omega)]
  exact hg

set_option maxHeartbeats 1000000 in
/-- The third layer's rows, read at an index. -/
theorem x3_apply (r : Fin 10000) (l : Fin 64) :
    res_main_v24 (F := Ideal) V (ix3 (0 : Fin 1) r l)
      = dense (fun (r : Fin 10000) (y : Fin 10000) => (V (Proc.devRef .tc main_arg0) (ix2 r y) : EReal))
          (fun (r : Fin 10000) => pool5 (layer (fun (r : Fin 10000) (y : Fin 10000) => (V (Proc.devRef .tc main_arg0) (ix2 r y) : EReal))
            (layer (fun (r : Fin 10000) (y : Fin 10000) => (V (Proc.devRef .tc main_arg0) (ix2 r y) : EReal))
              (fun (y : Fin 10000) (x : Fin 512) => V (Proc.devRef .tc main_arg3) (ix2 y x))
              (fun (x : Fin 512) (l : Fin 256) => V (Proc.devRef .tc main_arg4) (ix2 x l))
              (fun l : Fin 256 => V (Proc.devRef .tc main_arg5) (ix1 l)))
            (fun (x : Fin 256) (l : Fin 257) => V (Proc.devRef .tc main_arg6) (ix2 x l))
            (fun l : Fin 257 => V (Proc.devRef .tc main_arg7) (ix1 l)) r))
          (fun (x : Fin 128) (l : Fin 64) => V (Proc.devRef .tc main_arg8) (ix2 x l))
          (fun l : Fin 64 => V (Proc.devRef .tc main_arg9) (ix1 l)) r l := by
  have he := embed_apply V
  unfold res_main_v24
  generalize (select (broadcastInDim S10000x512 ![0] Gen.bcast_S10000_S10000x512_0 (Host.reduce IntOp.andi (andi (cmpi .sge (res_main_call0_v5 (F := Ideal) V) (broadcastInDim S10000x1 ![] Gen.bcast_S_S10000x1 (constantI S_ 32 0#32))) (cmpi .sle (res_main_call0_v5 (F := Ideal) V) (broadcastInDim S10000x1 ![0, 1] Gen.bcast_S1x1_S10000x1_0_1 (broadcastInDim S1x1 ![1] Gen.bcast_S1_S1x1_1 (constantI S1 32 9999#32))))) (constantI S_ 1 1#1) Gen.reducesTo_S10000x1_S10000_d1 Gen.h_S_)) (Host.gather gather_S10000x512_S10000x1_S10000x512_1_0_n_n_0_1_1512 (V (Proc.devRef .tc main_arg3)) (res_main_call0_v5 (F := Ideal) V)) (broadcastInDim S10000x512 ![] Gen.bcast_S_S10000x512 (constant (F := Ideal) S_ .f32 0x7FC00000#32))) = N0 at he ⊢
  clean_types
  pointwise
  unfold dense
  refine congrArg₂ (fun a b : EReal => a + b) (Finset.sum_congr rfl fun x _ => congrArg₂ (fun a b : EReal => a * b)
    (Finset.sum_congr rfl fun y _ => congrArg₂ (fun a b : EReal => a * b) rfl ?_) rfl) rfl
  refine (reduceWindow_apply _ _ (fun i => by clean_types; pointwise; exact ofBits_negInf) _ _ y x).trans ?_
  refine congrArg (fun f : Fin 257 → EReal => pool5 f x) (funext fun l => ?_)
  pointwise
  unfold layer dense
  simp only [he]

end Cert.Proof

end
-- ==== Proof.V.RefY.lean ====
/- The convolution branch of the reference, block by block. -/
module

public import proofs.«01_k».proof.Proof.Gen.ReferenceIdeal.Run
public import proofs.«01_k».proof.Proof.V.Spec
public import Idealize.ShloMosaic.Lib.Pointwise
public import Idealize.ShloMosaic.Lib.Tactic.CleanTypes

@[expose] public section

set_option maxRecDepth 16384

noncomputable section

namespace Cert.Proof

open Idealize.ShloMosaic Idealize.ShloMosaic.StableHlo Cert.ReferenceIdeal Cert.ReferenceIdeal.Value

/-- The padding value of the host's convolutions. -/
theorem padZero : FloatOps.sitofp (F := Ideal) .f32 (0#32) = (0 : EReal) := by
  show (((0#32).toInt : ℝ) : EReal) = 0
  rw [show (0#32).toInt = 0 by decide]; simp

/-- Inside the row. -/
theorem padZ_in (f : Fin 64 → EReal) (p : Nat) (h : 1 ≤ p ∧ p - 1 < 64) : padZ f p = f ⟨p - 1, h.2⟩ := by
  unfold padZ; rw [dif_pos h]

/-- Outside the row. -/
theorem padZ_out (f : Fin 64 → EReal) (p : Nat) (h : ¬ (1 ≤ p ∧ p - 1 < 64)) : padZ f p = 0 := by
  unfold padZ; rw [dif_neg h]

variable (V : Valuation τ sig (Elt Ideal))

/-- The input of block 1, padded. -/
theorem v26_apply (a : Fin 1) (p : Fin 66) :
    res_main_v26 (F := Ideal) V (ix3 (0 : Fin 1) a p) = padZ ((fun (a : Fin 1) (l : Fin 64) => res_main_v25 (F := Ideal) V (ix3 (0 : Fin 1) a l)) a) p.val := by
  unfold res_main_v26
  generalize res_main_v25 (F := Ideal) V = X
  clean_types
  pointwise
  rw [padZero]
  obtain rfl : a = 0 := Subsingleton.elim _ _; exact rfl

/-- Block 1's first convolution, kept above zero and padded. -/
theorem v48_apply (c : Fin 3) (p : Fin 66) :
    res_main_v48 (F := Ideal) V (ix3 (0 : Fin 1) c p)
      = padZ (fun l => max (conv3 (fun (o : Fin 3) (i : Fin 1) (k : Fin 3) => V (Proc.devRef .tc main_arg10) (ix3 o i k)) (fun o : Fin 3 => V (Proc.devRef .tc main_arg11) (ix1 o))
          (fun (a : Fin 1) (l : Fin 64) => res_main_v25 (F := Ideal) V (ix3 (0 : Fin 1) a l)) c l) 0) p.val := by
  have hp := v26_apply V
  unfold res_main_v48
  generalize res_main_v26 (F := Ideal) V = X at hp ⊢
  clean_types
  pointwise
  simp only [hp]
  rw [padZero]
  by_cases h : 1 ≤ p.val ∧ p.val - 1 < 64
  swap
  · exact (dif_neg h).trans (padZ_out _ _ h).symm
  refine (dif_pos h).trans (Eq.trans ?_ (padZ_in _ _ h).symm)
  refine congrArg (fun t : EReal => max t 0) (congrArg₂ (fun a b : EReal => a + b) (congrArg₂ (fun a b : EReal => a + b)
    (congrArg₂ (fun a b : EReal => a + b) ?_ ?_) ?_) rfl)
  all_goals refine Finset.sum_congr rfl fun x _ => ?_
  · obtain rfl : x = 0 := Subsingleton.elim _ _; exact mul_comm _ _
  · obtain rfl : x = 0 := Subsingleton.elim _ _; rw [Nat.add_comm 1]; exact mul_comm _ _
  · obtain rfl : x = 0 := Subsingleton.elim _ _; rw [Nat.add_comm 2]; exact mul_comm _ _

/-- Block 1. -/
theorem v76_apply (c : Fin 3) (l : Fin 64) :
    res_main_v76 (F := Ideal) V (ix3 (0 : Fin 1) c l)
      = resblock (fun (o : Fin 3) (i : Fin 1) (k : Fin 3) => V (Proc.devRef .tc main_arg10) (ix3 o i k)) (fun o : Fin 3 => V (Proc.devRef .tc main_arg11) (ix1 o)) (fun (o : Fin 3) (i : Fin 3) (k : Fin 3) => V (Proc.devRef .tc main_arg12) (ix3 o i k)) (fun o : Fin 3 => V (Proc.devRef .tc main_arg13) (ix1 o)) (fun (o : Fin 3) (i : Fin 1) (k : Fin 1) => V (Proc.devRef .tc main_arg14) (ix3 o i k)) (fun o : Fin 3 => V (Proc.devRef .tc main_arg15) (ix1 o))
          (fun (a : Fin 1) (l : Fin 64) => res_main_v25 (F := Ideal) V (ix3 (0 : Fin 1) a l)) c l := by
  have hp := v48_apply V
  unfold res_main_v76
  generalize res_main_v48 (F := Ideal) V = Y at hp ⊢
  generalize res_main_v25 (F := Ideal) V = X at hp ⊢
  clean_types
  pointwise
  simp only [hp]
  refine congrArg (fun t : EReal => max t 0) (congrArg₂ (fun a b : EReal => a + b) (congrArg₂ (fun a b : EReal => a + b)
    (congrArg₂ (fun a b : EReal => a + b) (congrArg₂ (fun a b : EReal => a + b) ?_ ?_) ?_) rfl)
    (congrArg₂ (fun a b : EReal => a + b) ?_ rfl))
  all_goals refine Finset.sum_congr rfl fun x _ => ?_
  · exact mul_comm _ _
  · rw [Nat.add_comm 1]; exact mul_comm _ _
  · rw [Nat.add_comm 2]; exact mul_comm _ _
  · obtain rfl : x = 0 := Subsingleton.elim _ _; exact mul_comm _ _

/-- The input of block 2, padded. -/
theorem v77_apply (a : Fin 3) (p : Fin 66) :
    res_main_v77 (F := Ideal) V (ix3 (0 : Fin 1) a p) = padZ ((fun (a : Fin 3) (l : Fin 64) => res_main_v76 (F := Ideal) V (ix3 (0 : Fin 1) a l)) a) p.val := by
  unfold res_main_v77
  generalize res_main_v76 (F := Ideal) V = X
  clean_types
  pointwise
  rw [padZero]
  exact rfl

/-- Block 2's first convolution, kept above zero and padded. -/
theorem v99_apply (c : Fin 5) (p : Fin 66) :
    res_main_v99 (F := Ideal) V (ix3 (0 : Fin 1) c p)
      = padZ (fun l => max (conv3 (fun (o : Fin 5) (i : Fin 3) (k : Fin 3) => V (Proc.devRef .tc main_arg16) (ix3 o i k)) (fun o : Fin 5 => V (Proc.devRef .tc main_arg17) (ix1 o))
          (fun (a : Fin 3) (l : Fin 64) => res_main_v76 (F := Ideal) V (ix3 (0 : Fin 1) a l)) c l) 0) p.val := by
  have hp := v77_apply V
  unfold res_main_v99
  generalize res_main_v77 (F := Ideal) V = X at hp ⊢
  clean_types
  pointwise
  simp only [hp]
  rw [padZero]
  by_cases h : 1 ≤ p.val ∧ p.val - 1 < 64
  swap
  · exact (dif_neg h).trans (padZ_out _ _ h).symm
  refine (dif_pos h).trans (Eq.trans ?_ (padZ_in _ _ h).symm)
  refine congrArg (fun t : EReal => max t 0) (congrArg₂ (fun a b : EReal => a + b) (congrArg₂ (fun a b : EReal => a + b)
    (congrArg₂ (fun a b : EReal => a + b) ?_ ?_) ?_) rfl)
  all_goals refine Finset.sum_congr rfl fun x _ => ?_
  · exact mul_comm _ _
  · rw [Nat.add_comm 1]; exact mul_comm _ _
  · rw [Nat.add_comm 2]; exact mul_comm _ _

/-- Block 2. -/
theorem v127_apply (c : Fin 5) (l : Fin 64) :
    res_main_v127 (F := Ideal) V (ix3 (0 : Fin 1) c l)
      = resblock (fun (o : Fin 5) (i : Fin 3) (k : Fin 3) => V (Proc.devRef .tc main_arg16) (ix3 o i k)) (fun o : Fin 5 => V (Proc.devRef .tc main_arg17) (ix1 o)) (fun (o : Fin 5) (i : Fin 5) (k : Fin 3) => V (Proc.devRef .tc main_arg18) (ix3 o i k)) (fun o : Fin 5 => V (Proc.devRef .tc main_arg19) (ix1 o)) (fun (o : Fin 5) (i : Fin 3) (k : Fin 1) => V (Proc.devRef .tc main_arg20) (ix3 o i k)) (fun o : Fin 5 => V (Proc.devRef .tc main_arg21) (ix1 o))
          (fun (a : Fin 3) (l : Fin 64) => res_main_v76 (F := Ideal) V (ix3 (0 : Fin 1) a l)) c l := by
  have hp := v99_apply V
  unfold res_main_v127
  generalize res_main_v99 (F := Ideal) V = Y at hp ⊢
  generalize res_main_v76 (F := Ideal) V = X at hp ⊢
  clean_types
  pointwise
  simp only [hp]
  refine congrArg (fun t : EReal => max t 0) (congrArg₂ (fun a b : EReal => a + b) (congrArg₂ (fun a b : EReal => a + b)
    (congrArg₂ (fun a b : EReal => a + b) (congrArg₂ (fun a b : EReal => a + b) ?_ ?_) ?_) rfl)
    (congrArg₂ (fun a b : EReal => a + b) ?_ rfl))
  all_goals refine Finset.sum_congr rfl fun x _ => ?_
  · exact mul_comm _ _
  · rw [Nat.add_comm 1]; exact mul_comm _ _
  · rw [Nat.add_comm 2]; exact mul_comm _ _
  · exact mul_comm _ _

/-- The input of block 3, padded. -/
theorem v128_apply (a : Fin 5) (p : Fin 66) :
    res_main_v128 (F := Ideal) V (ix3 (0 : Fin 1) a p) = padZ ((fun (a : Fin 5) (l : Fin 64) => res_main_v127 (F := Ideal) V (ix3 (0 : Fin 1) a l)) a) p.val := by
  unfold res_main_v128
  generalize res_main_v127 (F := Ideal) V = X
  clean_types
  pointwise
  rw [padZero]
  exact rfl

/-- Block 3's first convolution, kept above zero and padded. -/
theorem v150_apply (c : Fin 7) (p : Fin 66) :
    res_main_v150 (F := Ideal) V (ix3 (0 : Fin 1) c p)
      = padZ (fun l => max (conv3 (fun (o : Fin 7) (i : Fin 5) (k : Fin 3) => V (Proc.devRef .tc main_arg22) (ix3 o i k)) (fun o : Fin 7 => V (Proc.devRef .tc main_arg23) (ix1 o))
          (fun (a : Fin 5) (l : Fin 64) => res_main_v127 (F := Ideal) V (ix3 (0 : Fin 1) a l)) c l) 0) p.val := by
  have hp := v128_apply V
  unfold res_main_v150
  generalize res_main_v128 (F := Ideal) V = X at hp ⊢
  clean_types
  pointwise
  simp only [hp]
  rw [padZero]
  by_cases h : 1 ≤ p.val ∧ p.val - 1 < 64
  swap
  · exact (dif_neg h).trans (padZ_out _ _ h).symm
  refine (dif_pos h).trans (Eq.trans ?_ (padZ_in _ _ h).symm)
  refine congrArg (fun t : EReal => max t 0) (congrArg₂ (fun a b : EReal => a + b) (congrArg₂ (fun a b : EReal => a + b)
    (congrArg₂ (fun a b : EReal => a + b) ?_ ?_) ?_) rfl)
  all_goals refine Finset.sum_congr rfl fun x _ => ?_
  · exact mul_comm _ _
  · rw [Nat.add_comm 1]; exact mul_comm _ _
  · rw [Nat.add_comm 2]; exact mul_comm _ _

/-- Block 3. -/
theorem v178_apply (c : Fin 7) (l : Fin 64) :
    res_main_v178 (F := Ideal) V (ix3 (0 : Fin 1) c l)
      = resblock (fun (o : Fin 7) (i : Fin 5) (k : Fin 3) => V (Proc.devRef .tc main_arg22) (ix3 o i k)) (fun o : Fin 7 => V (Proc.devRef .tc main_arg23) (ix1 o)) (fun (o : Fin 7) (i : Fin 7) (k : Fin 3) => V (Proc.devRef .tc main_arg24) (ix3 o i k)) (fun o : Fin 7 => V (Proc.devRef .tc main_arg25) (ix1 o)) (fun (o : Fin 7) (i : Fin 5) (k : Fin 1) => V (Proc.devRef .tc main_arg26) (ix3 o i k)) (fun o : Fin 7 => V (Proc.devRef .tc main_arg27) (ix1 o))
          (fun (a : Fin 5) (l : Fin 64) => res_main_v127 (F := Ideal) V (ix3 (0 : Fin 1) a l)) c l := by
  have hp := v150_apply V
  unfold res_main_v178
  generalize res_main_v150 (F := Ideal) V = Y at hp ⊢
  generalize res_main_v127 (F := Ideal) V = X at hp ⊢
  clean_types
  pointwise
  simp only [hp]
  refine congrArg (fun t : EReal => max t 0) (congrArg₂ (fun a b : EReal => a + b) (congrArg₂ (fun a b : EReal => a + b)
    (congrArg₂ (fun a b : EReal => a + b) (congrArg₂ (fun a b : EReal => a + b) ?_ ?_) ?_) rfl)
    (congrArg₂ (fun a b : EReal => a + b) ?_ rfl))
  all_goals refine Finset.sum_congr rfl fun x _ => ?_
  · exact mul_comm _ _
  · rw [Nat.add_comm 1]; exact mul_comm _ _
  · rw [Nat.add_comm 2]; exact mul_comm _ _
  · exact mul_comm _ _

/-- The input of block 4, padded. -/
theorem v179_apply (a : Fin 7) (p : Fin 66) :
    res_main_v179 (F := Ideal) V (ix3 (0 : Fin 1) a p) = padZ ((fun (a : Fin 7) (l : Fin 64) => res_main_v178 (F := Ideal) V (ix3 (0 : Fin 1) a l)) a) p.val := by
  unfold res_main_v179
  generalize res_main_v178 (F := Ideal) V = X
  clean_types
  pointwise
  rw [padZero]
  exact rfl

/-- Block 4's first convolution, kept above zero and padded. -/
theorem v201_apply (c : Fin 9) (p : Fin 66) :
    res_main_v201 (F := Ideal) V (ix3 (0 : Fin 1) c p)
      = padZ (fun l => max (conv3 (fun (o : Fin 9) (i : Fin 7) (k : Fin 3) => V (Proc.devRef .tc main_arg28) (ix3 o i k)) (fun o : Fin 9 => V (Proc.devRef .tc main_arg29) (ix1 o))
          (fun (a : Fin 7) (l : Fin 64) => res_main_v178 (F := Ideal) V (ix3 (0 : Fin 1) a l)) c l) 0) p.val := by
  have hp := v179_apply V
  unfold res_main_v201
  generalize res_main_v179 (F := Ideal) V = X at hp ⊢
  clean_types
  pointwise
  simp only [hp]
  rw [padZero]
  by_cases h : 1 ≤ p.val ∧ p.val - 1 < 64
  swap
  · exact (dif_neg h).trans (padZ_out _ _ h).symm
  refine (dif_pos h).trans (Eq.trans ?_ (padZ_in _ _ h).symm)
  refine congrArg (fun t : EReal => max t 0) (congrArg₂ (fun a b : EReal => a + b) (congrArg₂ (fun a b : EReal => a + b)
    (congrArg₂ (fun a b : EReal => a + b) ?_ ?_) ?_) rfl)
  all_goals refine Finset.sum_congr rfl fun x _ => ?_
  · exact mul_comm _ _
  · rw [Nat.add_comm 1]; exact mul_comm _ _
  · rw [Nat.add_comm 2]; exact mul_comm _ _

/-- The branch's last stage, spread over the rows. -/
theorem v237_apply (r : Fin 10000) (l : Fin 64) :
    res_main_v237 (F := Ideal) V (ix3 (0 : Fin 1) r l)
      = fcOf (resblock (fun (o : Fin 9) (i : Fin 7) (k : Fin 3) => V (Proc.devRef .tc main_arg28) (ix3 o i k)) (fun o : Fin 9 => V (Proc.devRef .tc main_arg29) (ix1 o)) (fun (o : Fin 9) (i : Fin 9) (k : Fin 3) => V (Proc.devRef .tc main_arg30) (ix3 o i k)) (fun o : Fin 9 => V (Proc.devRef .tc main_arg31) (ix1 o)) (fun (o : Fin 9) (i : Fin 7) (k : Fin 1) => V (Proc.devRef .tc main_arg32) (ix3 o i k)) (fun o : Fin 9 => V (Proc.devRef .tc main_arg33) (ix1 o))
          (fun (a : Fin 7) (l : Fin 64) => res_main_v178 (F := Ideal) V (ix3 (0 : Fin 1) a l)))
          (fun x : Fin 9 => V (Proc.devRef .tc main_arg34) (ix2 x (0 : Fin 1))) (V (Proc.devRef .tc main_arg35) (ix1 (0 : Fin 1))) l := by
  have hp := v201_apply V
  unfold res_main_v237
  generalize res_main_v201 (F := Ideal) V = Y at hp ⊢
  generalize res_main_v178 (F := Ideal) V = X at hp ⊢
  clean_types
  pointwise
  simp only [hp]
  refine congrArg₂ (fun a b : EReal => a + b) (Finset.sum_congr rfl fun z _ => congrArg₂ (fun a b : EReal => a * b) ?_ rfl) rfl
  refine congrArg (fun t : EReal => max t 0) (congrArg₂ (fun a b : EReal => a + b) (congrArg₂ (fun a b : EReal => a + b)
    (congrArg₂ (fun a b : EReal => a + b) (congrArg₂ (fun a b : EReal => a + b) ?_ ?_) ?_) rfl)
    (congrArg₂ (fun a b : EReal => a + b) ?_ rfl))
  all_goals refine Finset.sum_congr rfl fun x _ => ?_
  · exact mul_comm _ _
  · rw [Nat.add_comm 1]; exact mul_comm _ _
  · rw [Nat.add_comm 2]; exact mul_comm _ _
  · exact mul_comm _ _

end Cert.Proof

end
-- ==== Proof.V.RefTail.lean ====
/- The reference's similarities, loss and prediction. -/
module

public import proofs.«01_k».proof.Proof.V.RefX3
public import proofs.«01_k».proof.Proof.V.RefY
public import proofs.«01_k».proof.Proof.V.TopK
public import proofs.«01_k».proof.Proof.V.Online

@[expose] public section

set_option maxRecDepth 16384

noncomputable section

namespace Cert.Proof

open Idealize.ShloMosaic Idealize.ShloMosaic.StableHlo Cert.ReferenceIdeal Cert.ReferenceIdeal.Value

variable (V : Valuation τ sig (Elt Ideal))

/-- The branch's vector. -/
def refY : Fin 64 → EReal :=
  fcOf (resblock (fun (o : Fin 9) (i : Fin 7) (k : Fin 3) => V (Proc.devRef .tc main_arg28) (ix3 o i k)) (fun o : Fin 9 => V (Proc.devRef .tc main_arg29) (ix1 o)) (fun (o : Fin 9) (i : Fin 9) (k : Fin 3) => V (Proc.devRef .tc main_arg30) (ix3 o i k)) (fun o : Fin 9 => V (Proc.devRef .tc main_arg31) (ix1 o)) (fun (o : Fin 9) (i : Fin 7) (k : Fin 1) => V (Proc.devRef .tc main_arg32) (ix3 o i k)) (fun o : Fin 9 => V (Proc.devRef .tc main_arg33) (ix1 o))
      (resblock (fun (o : Fin 7) (i : Fin 5) (k : Fin 3) => V (Proc.devRef .tc main_arg22) (ix3 o i k)) (fun o : Fin 7 => V (Proc.devRef .tc main_arg23) (ix1 o)) (fun (o : Fin 7) (i : Fin 7) (k : Fin 3) => V (Proc.devRef .tc main_arg24) (ix3 o i k)) (fun o : Fin 7 => V (Proc.devRef .tc main_arg25) (ix1 o)) (fun (o : Fin 7) (i : Fin 5) (k : Fin 1) => V (Proc.devRef .tc main_arg26) (ix3 o i k)) (fun o : Fin 7 => V (Proc.devRef .tc main_arg27) (ix1 o))
      (resblock (fun (o : Fin 5) (i : Fin 3) (k : Fin 3) => V (Proc.devRef .tc main_arg16) (ix3 o i k)) (fun o : Fin 5 => V (Proc.devRef .tc main_arg17) (ix1 o)) (fun (o : Fin 5) (i : Fin 5) (k : Fin 3) => V (Proc.devRef .tc main_arg18) (ix3 o i k)) (fun o : Fin 5 => V (Proc.devRef .tc main_arg19) (ix1 o)) (fun (o : Fin 5) (i : Fin 3) (k : Fin 1) => V (Proc.devRef .tc main_arg20) (ix3 o i k)) (fun o : Fin 5 => V (Proc.devRef .tc main_arg21) (ix1 o))
      (resblock (fun (o : Fin 3) (i : Fin 1) (k : Fin 3) => V (Proc.devRef .tc main_arg10) (ix3 o i k)) (fun o : Fin 3 => V (Proc.devRef .tc main_arg11) (ix1 o)) (fun (o : Fin 3) (i : Fin 3) (k : Fin 3) => V (Proc.devRef .tc main_arg12) (ix3 o i k)) (fun o : Fin 3 => V (Proc.devRef .tc main_arg13) (ix1 o)) (fun (o : Fin 3) (i : Fin 1) (k : Fin 1) => V (Proc.devRef .tc main_arg14) (ix3 o i k)) (fun o : Fin 3 => V (Proc.devRef .tc main_arg15) (ix1 o))
      (fun (_ : Fin 1) (l : Fin 64) => V (Proc.devRef .tc main_arg1) (ix2 (0 : Fin 1) l))))))
    (fun x : Fin 9 => V (Proc.devRef .tc main_arg34) (ix2 x (0 : Fin 1))) (V (Proc.devRef .tc main_arg35) (ix1 (0 : Fin 1)))

/-- The third layer's rows. -/
def refX : Fin 10000 → Fin 64 → EReal :=
  dense (fun (r : Fin 10000) (y : Fin 10000) => (V (Proc.devRef .tc main_arg0) (ix2 r y) : EReal))
    (fun (r : Fin 10000) => pool5 (layer (fun (r : Fin 10000) (y : Fin 10000) => (V (Proc.devRef .tc main_arg0) (ix2 r y) : EReal))
      (layer (fun (r : Fin 10000) (y : Fin 10000) => (V (Proc.devRef .tc main_arg0) (ix2 r y) : EReal))
        (fun (y : Fin 10000) (x : Fin 512) => V (Proc.devRef .tc main_arg3) (ix2 y x))
        (fun (x : Fin 512) (l : Fin 256) => V (Proc.devRef .tc main_arg4) (ix2 x l))
        (fun l : Fin 256 => V (Proc.devRef .tc main_arg5) (ix1 l)))
      (fun (x : Fin 256) (l : Fin 257) => V (Proc.devRef .tc main_arg6) (ix2 x l))
      (fun l : Fin 257 => V (Proc.devRef .tc main_arg7) (ix1 l)) r))
    (fun (x : Fin 128) (l : Fin 64) => V (Proc.devRef .tc main_arg8) (ix2 x l))
    (fun l : Fin 64 => V (Proc.devRef .tc main_arg9) (ix1 l))

theorem v25_apply (a : Fin 1) (l : Fin 64) : res_main_v25 (F := Ideal) V (ix3 (0 : Fin 1) a l) = V (Proc.devRef .tc main_arg1) (ix2 (0 : Fin 1) l) := by
  obtain rfl : a = 0 := Subsingleton.elim _ _
  unfold res_main_v25
  clean_types
  pointwise

/-- The branch's vector, the same on every row. -/
theorem refY_apply (r : Fin 10000) (l : Fin 64) : res_main_v237 (F := Ideal) V (ix3 (0 : Fin 1) r l) = refY V l := by
  rw [v237_apply]
  unfold refY
  simp only [v178_apply, v127_apply, v76_apply, v25_apply]

/-- The similarities. -/
theorem v245_apply (r : Fin 10000) : res_main_v245 (F := Ideal) V (ix2 (0 : Fin 1) r) = simOf (refX V) (refY V) r := by
  have h1 : ∀ (r : Fin 10000) (l : Fin 64), res_main_v24 (F := Ideal) V (ix3 (0 : Fin 1) r l) = refX V r l := x3_apply V
  have h2 := refY_apply V
  unfold res_main_v245
  generalize res_main_v24 (F := Ideal) V = A at h1 ⊢
  generalize res_main_v237 (F := Ideal) V = B at h2 ⊢
  clean_types
  pointwise
  simp only [h1, h2]
  rfl

/-- Their greatest. -/
theorem v247_apply (k : Fin 10000) (hk : IsFirstMax (fun r : Fin 10000 => (res_main_v245 (F := Ideal) V (ix2 (0 : Fin 1) r) : EReal)) k)
    (i : S1x1.Idx) : res_main_v247 (F := Ideal) V i = res_main_v245 (F := Ideal) V (ix2 (0 : Fin 1) k) := by
  obtain rfl : i = ix2 (0 : Fin 1) (0 : Fin 1) := by
    rw [eq_ix2 (n0 := 1) (n1 := 1) i]; congr 1 <;> exact Subsingleton.elim (α := Fin 1) _ _
  unfold res_main_v247
  generalize res_main_v245 (F := Ideal) V = A at hk ⊢
  clean_types
  pointwise
  rw [ofBits_negInf]
  exact fold_max_eq (fun x : Fin 10000 => A (ix2 (0 : Fin 1) x)) k fun q => (hk q).1

/-- The row of the first greatest label. -/
theorem lab_apply (k : Fin 10000) (hk : IsFirstMax (fun r : Fin 10000 => (V (Proc.devRef .tc main_arg2) (ix2 (0 : Fin 1) r) : EReal)) k) (i : S1x1.Idx) :
    res_main_call21_v4 (F := Ideal) V i = BitVec.ofNat 32 k.val := by
  obtain rfl : i = ix2 (0 : Fin 1) (0 : Fin 1) := by
    rw [eq_ix2 (n0 := 1) (n1 := 1) i]; congr 1 <;> exact Subsingleton.elim (α := Fin 1) _ _
  have h : res_main_indices_10 (F := Ideal) V (ix2 (0 : Fin 1) (0 : Fin 1)) = BitVec.ofNat 32 k.val := topK_row _ _ _ k hk
  unfold res_main_call21_v4
  generalize res_main_indices_10 (F := Ideal) V = T at h ⊢
  clean_types
  pointwise
  rw [h, small_slt _ (by have := k.isLt; omega)]
  rfl

/-- The entry of a row of 10000 taken at one position. -/
theorem gather_col (x : FVec Ideal S1x10000 .f32) (idx : IVec S1x1 32) (k : Fin 10000)
    (hk : ∀ i, idx i = BitVec.ofNat 32 k.val) (i : S1x1.Idx) :
    Host.gather gather_S1x10000_S1x1_S1x1_0_1_n_n_1_1_11 x idx i = x (ix2 (0 : Fin 1) k) := by
  unfold Host.gather
  refine congrArg x (funext fun a => ?_)
  match a with
  | ⟨0, _⟩ => exact Subsingleton.elim (α := Fin 1) _ _
  | ⟨1, _⟩ =>
    apply Fin.ext
    set d := gather_S1x10000_S1x1_S1x1_0_1_n_n_1_1_11 with hd
    have hsk : (1 : Fin 2) ∉ d.sKept := fun h => ((d.mem_sKept 1).1 h).1 (List.mem_singleton.2 rfl)
    have hm : (1 : Fin 2) ∈ d.startIndexMap := List.mem_singleton.2 rfl
    show d.start i idx 1 + d.batchCoord i 1 + d.offCoord i 1 = k.val
    rw [d.batchCoord_eq_zero _ _ (show (1 : Fin 2) ∉ d.operandBatchingDims from List.not_mem_nil), d.offCoord_eq_zero _ _ hsk]
    unfold GatherDims.start
    rw [dif_pos hm, hk, small_toInt k.val (by have := k.isLt; omega)]
    have := k.isLt
    show min ((k.val : Int)).toNat (10000 - 1) + 0 + 0 = k.val
    omega

/-- Dividing by one. -/
theorem div_one' (x : EReal) : Ideal.div x 1 = x := by
  unfold Ideal.div
  rw [if_neg one_ne_zero, inv_one, mul_one]

/-- The loss. -/
theorem loss_apply (k k' : Fin 10000) (hk : IsFirstMax (simOf (refX V) (refY V)) k)
    (hk' : IsFirstMax (fun r : Fin 10000 => (V (Proc.devRef .tc main_arg2) (ix2 (0 : Fin 1) r) : EReal)) k') (i : S_.Idx) :
    (Host.divf (Host.reduceAdd (subf (addf (Host.log (Host.reduceAdd (Host.exp (subf (res_main_v245 (F := Ideal) V) (broadcastInDim S1x10000 ![0, 1] Gen.bcast_S1x1_S1x10000_0_1 (res_main_v247 (F := Ideal) V)))) (constant (F := Ideal) S_ .f32 0x00000000#32) Gen.reducesTo_S1x10000_S1_d1 Gen.h_S_)) (shapeCast _ (res_main_v247 (F := Ideal) V) Gen.shapeCasts_S1x1_S1)) (shapeCast _ (select (broadcastInDim S1x1 ![1] Gen.bcast_S1_S1x1_1 (Host.reduce IntOp.andi (andi (cmpi .sge (res_main_call21_v4 (F := Ideal) V) (broadcastInDim S1x1 ![] Gen.bcast_S_S1x1 (constantI S_ 32 0#32))) (cmpi .sle (res_main_call21_v4 (F := Ideal) V) (broadcastInDim S1x1 ![1] Gen.bcast_S1_S1x1_1 (constantI S1 32 9999#32)))) (constantI S_ 1 1#1) Gen.reducesTo_S1x1_S1_d1 Gen.h_S_)) (Host.gather gather_S1x10000_S1x1_S1x1_0_1_n_n_1_1_11 (res_main_v245 (F := Ideal) V) (res_main_call21_v4 (F := Ideal) V)) (broadcastInDim S1x1 ![] Gen.bcast_S_S1x1 (constant (F := Ideal) S_ .f32 0x7FC00000#32))) Gen.shapeCasts_S1x1_S1)) (constant (F := Ideal) S_ .f32 0x00000000#32) Gen.reducesTo_S1_S_d0 Gen.h_S_) (constant (F := Ideal) S_ .f32 0x3F800000#32) : FVec Ideal S_ .f32) i
      = (Ideal.log (∑ r : Fin 10000, Ideal.exp (simOf (refX V) (refY V) r - simOf (refX V) (refY V) k))
          + simOf (refX V) (refY V) k) - simOf (refX V) (refY V) k' := by
  have hA := v245_apply V
  have hk2 : IsFirstMax (fun r : Fin 10000 => (res_main_v245 (F := Ideal) V (ix2 (0 : Fin 1) r) : EReal)) k := by
    rw [show (fun r : Fin 10000 => (res_main_v245 (F := Ideal) V (ix2 (0 : Fin 1) r) : EReal)) = _ from funext hA]; exact hk
  have h1 := fun i => (v247_apply V k hk2 i).trans (hA k)
  have h2 := lab_apply V k' hk'
  have h3 := fun i => (gather_col (res_main_v245 (F := Ideal) V) (res_main_call21_v4 (F := Ideal) V) k' h2 i).trans (hA k')
  generalize Host.gather gather_S1x10000_S1x1_S1x1_0_1_n_n_1_1_11 (res_main_v245 (F := Ideal) V) (res_main_call21_v4 (F := Ideal) V) = G at h3 ⊢
  generalize res_main_call21_v4 (F := Ideal) V = T at h2 ⊢
  generalize res_main_v247 (F := Ideal) V = M at h1 ⊢
  generalize res_main_v245 (F := Ideal) V = A at hA ⊢
  generalize simOf (refX V) (refY V) = S at hA h1 h3 ⊢
  clean_types
  pointwise
  simp only [hA, h1, h2, h3]
  simp only [Finset.univ_unique, Finset.sum_singleton, Finset.fold_singleton]
  rw [small_sge _ 0 (by have := k'.isLt; omega) (by omega) (by omega), small_sle _ 9999 (by have := k'.isLt; omega) (by omega) (by have := k'.isLt; omega)]
  refine (div_one' _).trans ?_
  rfl

/-- The prediction. -/
theorem pred_apply (k : Fin 10000) (hk : IsFirstMax (simOf (refX V) (refY V)) k) (i : S1x1.Idx) :
    (Host.topK S1x1 1 (FloatOps.cmpfTotal (F := Ideal) (φ := .f32) .gt) (res_main_v245 (F := Ideal) V) Gen.sliceFits_S1x10000_S1x1).2 i = BitVec.ofNat 32 k.val :=
  topK_row _ _ _ k (by
    rw [show (fun r : Fin 10000 => (res_main_v245 (F := Ideal) V (ix2 (0 : Fin 1) r) : EReal)) = _ from funext (v245_apply V)]; exact hk)

end Cert.Proof

end
-- ==== Proof.V.Label.lean ====
/- The precondition, read: some label lies above minus infinity. -/
module

public import proofs.«01_k».proof.Pre_some_label
public import Idealize.ShloMosaic.Lib.Pointwise
public import Idealize.ShloMosaic.Lib.Tactic.CleanTypes
public import Idealize.ShloMosaic.Lib.Routing.OpsOrder

@[expose] public section

set_option maxRecDepth 16384

noncomputable section

namespace Cert.Proof

open Idealize.ShloMosaic Cert.Pre_some_label

/-- The shapes the precondition's operations take fit. -/
instance labelFacts : Cert.Pre_some_label.Facts where
  bcast_S_S1x10000 := by decide
  reducesTo_S1x10000_S_d0_1 := by decide
  h_S_ := by decide

/-- When the comparison of the labels with minus infinity holds somewhere, one of them lies above it. -/
theorem label_of (x : FVec Ideal S1x10000 .f32)
    (h : Host.reduce IntOp.ori (cmpf .ogt x (broadcastInDim S1x10000 ![] labelFacts.bcast_S_S1x10000 (constant (F := Ideal) S_ .f32 0xFF800000#32)))
      (constantI S_ 1 0#1) labelFacts.reducesTo_S1x10000_S_d0_1 labelFacts.h_S_ = fun _ => 1#1) :
    ∃ r : Fin 10000, (⊥ : EReal) < x (ix2 (0 : Fin 1) r) := by
  have e := congrFun h (fun i => i.elim0)
  clean_types
  pointwise at e
  obtain ⟨k, -, hk⟩ := (Idealize.ShloMosaic.Routing.fold_ori _ _).1 e
  have hd := (decide_eq_true_iff (p := Ideal.ofBits .f32 0xFF800000#32 < (x (ix2 k.1 k.2) : EReal))).1 (by
    rcases hb : decide (Ideal.ofBits .f32 0xFF800000#32 < (x (ix2 k.1 k.2) : EReal)) with _ | _
    · rw [hb] at hk; exact absurd hk (by decide)
    · rfl)
  rw [show Ideal.ofBits .f32 0xFF800000#32 = (⊥ : EReal) from by simp [Ideal.ofBits, Ideal.ieee]] at hd
  have h0 : k.1 = 0 := Subsingleton.elim (α := Fin 1) _ _
  rw [h0] at hd
  exact ⟨k.2, hd⟩

end Cert.Proof

end
-- ==== Proof.V.Final.lean ====
/- The kernel and the reference compute the same, from the same arguments. -/
module

public import proofs.«01_k».proof.Defs
public import proofs.«01_k».proof.Proof.V.KerOut
public import proofs.«01_k».proof.Proof.V.RefTail
public import proofs.«01_k».proof.Proof.V.Label
public import proofs.«01_k».proof.Proof.Frames

@[expose] public section

set_option maxRecDepth 16384

noncomputable section

namespace Cert.Proof

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on device `c`. -/
abbrev SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
    ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
    ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
    ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
    ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
    ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
    ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
    ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)

variable {m m' c}

/-- The rows of the last graph layer are the same on both sides. -/
theorem refX_eq (h : SameArgs m m' c) : refX (StableHlo.launchContents m' c) = kerX m c := by
  obtain ⟨h0, h1, h2, h3, h4, h5, h6, h7, h8, h9, h10, h11, h12, h13, h14, h15, h16, h17, h18, h19, h20, h21, h22, h23, h24, h25, h26, h27, h28, h29, h30, h31, h32, h33, h34, h35⟩ := h
  unfold refX kerX
  have e0 : ∀ (r : Fin 10000) (y : Fin 10000), StableHlo.launchContents m' c (Proc.devRef .tc Cert.ReferenceIdeal.main_arg0) (ix2 r y) = Cert.KernelIdeal.Gen.V0 m c (Proc.devRef .tc Cert.KernelIdeal.main_arg0) (ix2 r y) := fun r y => congrFun h0 _
  have e3 : ∀ (r : Fin 10000) (y : Fin 512), StableHlo.launchContents m' c (Proc.devRef .tc Cert.ReferenceIdeal.main_arg3) (ix2 r y) = Cert.KernelIdeal.Gen.V0 m c (Proc.devRef .tc Cert.KernelIdeal.main_arg3) (ix2 r y) := fun r y => congrFun h3 _
  have e4 : ∀ (r : Fin 512) (y : Fin 256), StableHlo.launchContents m' c (Proc.devRef .tc Cert.ReferenceIdeal.main_arg4) (ix2 r y) = Cert.KernelIdeal.Gen.V0 m c (Proc.devRef .tc Cert.KernelIdeal.main_arg4) (ix2 r y) := fun r y => congrFun h4 _
  have e5 : ∀ (r : Fin 256), StableHlo.launchContents m' c (Proc.devRef .tc Cert.ReferenceIdeal.main_arg5) (ix1 r) = Cert.KernelIdeal.Gen.V0 m c (Proc.devRef .tc Cert.KernelIdeal.main_arg5) (ix1 r) := fun r => congrFun h5 _
  have e6 : ∀ (r : Fin 256) (y : Fin 257), StableHlo.launchContents m' c (Proc.devRef .tc Cert.ReferenceIdeal.main_arg6) (ix2 r y) = Cert.KernelIdeal.Gen.V0 m c (Proc.devRef .tc Cert.KernelIdeal.main_arg6) (ix2 r y) := fun r y => congrFun h6 _
  have e7 : ∀ (r : Fin 257), StableHlo.launchContents m' c (Proc.devRef .tc Cert.ReferenceIdeal.main_arg7) (ix1 r) = Cert.KernelIdeal.Gen.V0 m c (Proc.devRef .tc Cert.KernelIdeal.main_arg7) (ix1 r) := fun r => congrFun h7 _
  have e8 : ∀ (r : Fin 128) (y : Fin 64), StableHlo.launchContents m' c (Proc.devRef .tc Cert.ReferenceIdeal.main_arg8) (ix2 r y) = Cert.KernelIdeal.Gen.V0 m c (Proc.devRef .tc Cert.KernelIdeal.main_arg8) (ix2 r y) := fun r y => congrFun h8 _
  have e9 : ∀ (r : Fin 64), StableHlo.launchContents m' c (Proc.devRef .tc Cert.ReferenceIdeal.main_arg9) (ix1 r) = Cert.KernelIdeal.Gen.V0 m c (Proc.devRef .tc Cert.KernelIdeal.main_arg9) (ix1 r) := fun r => congrFun h9 _
  simp only [e0, e3, e4, e5, e6, e7, e8, e9]

/-- So is the branch's vector. -/
theorem refY_eq (h : SameArgs m m' c) : refY (StableHlo.launchContents m' c) = kerY m c := by
  obtain ⟨h0, h1, h2, h3, h4, h5, h6, h7, h8, h9, h10, h11, h12, h13, h14, h15, h16, h17, h18, h19, h20, h21, h22, h23, h24, h25, h26, h27, h28, h29, h30, h31, h32, h33, h34, h35⟩ := h
  unfold refY kerY
  have e1 : ∀ (a : Fin 1) (l : Fin 64), StableHlo.launchContents m' c (Proc.devRef .tc Cert.ReferenceIdeal.main_arg1) (ix2 a l) = Cert.KernelIdeal.Gen.V0 m c (Proc.devRef .tc Cert.KernelIdeal.main_arg1) (ix2 a l) := fun a l => congrFun h1 _
  have e34 : ∀ (x : Fin 9) (l : Fin 1), StableHlo.launchContents m' c (Proc.devRef .tc Cert.ReferenceIdeal.main_arg34) (ix2 x l) = Cert.KernelIdeal.Gen.V0 m c (Proc.devRef .tc Cert.KernelIdeal.main_arg34) (ix2 x l) := fun x l => congrFun h34 _
  have e35 : ∀ (x : Fin 1), StableHlo.launchContents m' c (Proc.devRef .tc Cert.ReferenceIdeal.main_arg35) (ix1 x) = Cert.KernelIdeal.Gen.V0 m c (Proc.devRef .tc Cert.KernelIdeal.main_arg35) (ix1 x) := fun x => congrFun h35 _
  have e10 : ∀ (o : Fin 3) (i : Fin 1) (k : Fin 3), StableHlo.launchContents m' c (Proc.devRef .tc Cert.ReferenceIdeal.main_arg10) (ix3 o i k) = Cert.KernelIdeal.Gen.V0 m c (Proc.devRef .tc Cert.KernelIdeal.main_arg10) (ix3 o i k) := fun o i k => congrFun h10 _
  have e11 : ∀ (o : Fin 3), StableHlo.launchContents m' c (Proc.devRef .tc Cert.ReferenceIdeal.main_arg11) (ix1 o) = Cert.KernelIdeal.Gen.V0 m c (Proc.devRef .tc Cert.KernelIdeal.main_arg11) (ix1 o) := fun o => congrFun h11 _
  have e12 : ∀ (o : Fin 3) (i : Fin 3) (k : Fin 3), StableHlo.launchContents m' c (Proc.devRef .tc Cert.ReferenceIdeal.main_arg12) (ix3 o i k) = Cert.KernelIdeal.Gen.V0 m c (Proc.devRef .tc Cert.KernelIdeal.main_arg12) (ix3 o i k) := fun o i k => congrFun h12 _
  have e13 : ∀ (o : Fin 3), StableHlo.launchContents m' c (Proc.devRef .tc Cert.ReferenceIdeal.main_arg13) (ix1 o) = Cert.KernelIdeal.Gen.V0 m c (Proc.devRef .tc Cert.KernelIdeal.main_arg13) (ix1 o) := fun o => congrFun h13 _
  have e14 : ∀ (o : Fin 3) (i : Fin 1) (k : Fin 1), StableHlo.launchContents m' c (Proc.devRef .tc Cert.ReferenceIdeal.main_arg14) (ix3 o i k) = Cert.KernelIdeal.Gen.V0 m c (Proc.devRef .tc Cert.KernelIdeal.main_arg14) (ix3 o i k) := fun o i k => congrFun h14 _
  have e15 : ∀ (o : Fin 3), StableHlo.launchContents m' c (Proc.devRef .tc Cert.ReferenceIdeal.main_arg15) (ix1 o) = Cert.KernelIdeal.Gen.V0 m c (Proc.devRef .tc Cert.KernelIdeal.main_arg15) (ix1 o) := fun o => congrFun h15 _
  have e16 : ∀ (o : Fin 5) (i : Fin 3) (k : Fin 3), StableHlo.launchContents m' c (Proc.devRef .tc Cert.ReferenceIdeal.main_arg16) (ix3 o i k) = Cert.KernelIdeal.Gen.V0 m c (Proc.devRef .tc Cert.KernelIdeal.main_arg16) (ix3 o i k) := fun o i k => congrFun h16 _
  have e17 : ∀ (o : Fin 5), StableHlo.launchContents m' c (Proc.devRef .tc Cert.ReferenceIdeal.main_arg17) (ix1 o) = Cert.KernelIdeal.Gen.V0 m c (Proc.devRef .tc Cert.KernelIdeal.main_arg17) (ix1 o) := fun o => congrFun h17 _
  have e18 : ∀ (o : Fin 5) (i : Fin 5) (k : Fin 3), StableHlo.launchContents m' c (Proc.devRef .tc Cert.ReferenceIdeal.main_arg18) (ix3 o i k) = Cert.KernelIdeal.Gen.V0 m c (Proc.devRef .tc Cert.KernelIdeal.main_arg18) (ix3 o i k) := fun o i k => congrFun h18 _
  have e19 : ∀ (o : Fin 5), StableHlo.launchContents m' c (Proc.devRef .tc Cert.ReferenceIdeal.main_arg19) (ix1 o) = Cert.KernelIdeal.Gen.V0 m c (Proc.devRef .tc Cert.KernelIdeal.main_arg19) (ix1 o) := fun o => congrFun h19 _
  have e20 : ∀ (o : Fin 5) (i : Fin 3) (k : Fin 1), StableHlo.launchContents m' c (Proc.devRef .tc Cert.ReferenceIdeal.main_arg20) (ix3 o i k) = Cert.KernelIdeal.Gen.V0 m c (Proc.devRef .tc Cert.KernelIdeal.main_arg20) (ix3 o i k) := fun o i k => congrFun h20 _
  have e21 : ∀ (o : Fin 5), StableHlo.launchContents m' c (Proc.devRef .tc Cert.ReferenceIdeal.main_arg21) (ix1 o) = Cert.KernelIdeal.Gen.V0 m c (Proc.devRef .tc Cert.KernelIdeal.main_arg21) (ix1 o) := fun o => congrFun h21 _
  have e22 : ∀ (o : Fin 7) (i : Fin 5) (k : Fin 3), StableHlo.launchContents m' c (Proc.devRef .tc Cert.ReferenceIdeal.main_arg22) (ix3 o i k) = Cert.KernelIdeal.Gen.V0 m c (Proc.devRef .tc Cert.KernelIdeal.main_arg22) (ix3 o i k) := fun o i k => congrFun h22 _
  have e23 : ∀ (o : Fin 7), StableHlo.launchContents m' c (Proc.devRef .tc Cert.ReferenceIdeal.main_arg23) (ix1 o) = Cert.KernelIdeal.Gen.V0 m c (Proc.devRef .tc Cert.KernelIdeal.main_arg23) (ix1 o) := fun o => congrFun h23 _
  have e24 : ∀ (o : Fin 7) (i : Fin 7) (k : Fin 3), StableHlo.launchContents m' c (Proc.devRef .tc Cert.ReferenceIdeal.main_arg24) (ix3 o i k) = Cert.KernelIdeal.Gen.V0 m c (Proc.devRef .tc Cert.KernelIdeal.main_arg24) (ix3 o i k) := fun o i k => congrFun h24 _
  have e25 : ∀ (o : Fin 7), StableHlo.launchContents m' c (Proc.devRef .tc Cert.ReferenceIdeal.main_arg25) (ix1 o) = Cert.KernelIdeal.Gen.V0 m c (Proc.devRef .tc Cert.KernelIdeal.main_arg25) (ix1 o) := fun o => congrFun h25 _
  have e26 : ∀ (o : Fin 7) (i : Fin 5) (k : Fin 1), StableHlo.launchContents m' c (Proc.devRef .tc Cert.ReferenceIdeal.main_arg26) (ix3 o i k) = Cert.KernelIdeal.Gen.V0 m c (Proc.devRef .tc Cert.KernelIdeal.main_arg26) (ix3 o i k) := fun o i k => congrFun h26 _
  have e27 : ∀ (o : Fin 7), StableHlo.launchContents m' c (Proc.devRef .tc Cert.ReferenceIdeal.main_arg27) (ix1 o) = Cert.KernelIdeal.Gen.V0 m c (Proc.devRef .tc Cert.KernelIdeal.main_arg27) (ix1 o) := fun o => congrFun h27 _
  have e28 : ∀ (o : Fin 9) (i : Fin 7) (k : Fin 3), StableHlo.launchContents m' c (Proc.devRef .tc Cert.ReferenceIdeal.main_arg28) (ix3 o i k) = Cert.KernelIdeal.Gen.V0 m c (Proc.devRef .tc Cert.KernelIdeal.main_arg28) (ix3 o i k) := fun o i k => congrFun h28 _
  have e29 : ∀ (o : Fin 9), StableHlo.launchContents m' c (Proc.devRef .tc Cert.ReferenceIdeal.main_arg29) (ix1 o) = Cert.KernelIdeal.Gen.V0 m c (Proc.devRef .tc Cert.KernelIdeal.main_arg29) (ix1 o) := fun o => congrFun h29 _
  have e30 : ∀ (o : Fin 9) (i : Fin 9) (k : Fin 3), StableHlo.launchContents m' c (Proc.devRef .tc Cert.ReferenceIdeal.main_arg30) (ix3 o i k) = Cert.KernelIdeal.Gen.V0 m c (Proc.devRef .tc Cert.KernelIdeal.main_arg30) (ix3 o i k) := fun o i k => congrFun h30 _
  have e31 : ∀ (o : Fin 9), StableHlo.launchContents m' c (Proc.devRef .tc Cert.ReferenceIdeal.main_arg31) (ix1 o) = Cert.KernelIdeal.Gen.V0 m c (Proc.devRef .tc Cert.KernelIdeal.main_arg31) (ix1 o) := fun o => congrFun h31 _
  have e32 : ∀ (o : Fin 9) (i : Fin 7) (k : Fin 1), StableHlo.launchContents m' c (Proc.devRef .tc Cert.ReferenceIdeal.main_arg32) (ix3 o i k) = Cert.KernelIdeal.Gen.V0 m c (Proc.devRef .tc Cert.KernelIdeal.main_arg32) (ix3 o i k) := fun o i k => congrFun h32 _
  have e33 : ∀ (o : Fin 9), StableHlo.launchContents m' c (Proc.devRef .tc Cert.ReferenceIdeal.main_arg33) (ix1 o) = Cert.KernelIdeal.Gen.V0 m c (Proc.devRef .tc Cert.KernelIdeal.main_arg33) (ix1 o) := fun o => congrFun h33 _
  simp only [e1, e34, e35, e10, e11, e12, e13, e14, e15, e16, e17, e18, e19, e20, e21, e22, e23, e24, e25, e26, e27, e28, e29, e30, e31, e32, e33]

/-- From the same arguments, some label above minus infinity: both programs run, and end with equal results. -/
theorem value : Cert.algebraic_KernelIdeal_ReferenceIdeal_pre_some_label (hKernelIdeal := Cert.KernelIdeal.Gen.facts)
    (hReferenceIdeal := Cert.ReferenceIdeal.Gen.facts) (hPre_some_label := labelFacts) := by
  intro m g m' g' hpre hargs
  refine ⟨fun c => Cert.KernelIdeal.Gen.X5 m c (Proc.devRef .tc Cert.KernelIdeal.main_v74),
    fun c => Cert.KernelIdeal.Gen.X5 m c (Proc.devRef .tc Cert.KernelIdeal.main_v73_1), ?_, ?_⟩
  · exact (θ_run Cert.KernelIdeal.defs _ _).mono (fun r h c =>
      ⟨h.1 c Cert.KernelIdeal.main_v74 (by decide), h.1 c Cert.KernelIdeal.main_v73_1 (by decide), Cert.KernelIdeal.Gen.args_kept m r.2 c (h.1 c)⟩)
      (Cert.KernelIdeal.Gen.run_all (F := Ideal) m g)
  · refine (θ_run Cert.ReferenceIdeal.defs _ _).mono (fun r h c => ?_) (Cert.ReferenceIdeal.Value.run (F := Ideal) m' g')
    have hs : SameArgs m m' c := hargs c
    have hX := refX_eq hs
    have hY := refY_eq hs
    obtain ⟨k, k', hk, hk', hl, hp⟩ := ker_out m c (label_of _ (hpre c))
    rw [← hX, ← hY] at hk hl
    have hk2 : IsFirstMax (fun r : Fin 10000 => (StableHlo.launchContents m' c (Proc.devRef .tc Cert.ReferenceIdeal.main_arg2) (ix2 (0 : Fin 1) r) : EReal)) k' := by
      rw [show (fun r : Fin 10000 => (StableHlo.launchContents m' c (Proc.devRef .tc Cert.ReferenceIdeal.main_arg2) (ix2 (0 : Fin 1) r) : EReal))
        = fun r : Fin 10000 => (Cert.KernelIdeal.Gen.V0 m c (Proc.devRef .tc Cert.KernelIdeal.main_arg2) (ix2 (0 : Fin 1) r) : EReal) from
          funext fun r => congrFun hs.2.2.1 _]
      exact hk'
    exact ⟨(h c).1.trans (funext fun i => (loss_apply (StableHlo.launchContents m' c) k k' hk hk2 i).trans (hl i).symm),
      (h c).2.1.trans (funext fun i => (pred_apply (StableHlo.launchContents m' c) k hk i).trans (hp i).symm), (h c).2.2⟩

/-- The frames under the precondition are the frames. -/
theorem frame_kernelIdeal_label : Cert.quiescent_KernelIdeal_pre_some_label (hKernelIdeal := Cert.KernelIdeal.Gen.facts) (hPre_some_label := labelFacts) :=
  fun m g _ => frame_kernelIdeal m g trivial

theorem frame_referenceIdeal_label : Cert.quiescent_ReferenceIdeal_pre_some_label (hReferenceIdeal := Cert.ReferenceIdeal.Gen.facts) (hPre_some_label := labelFacts) :=
  fun m g _ => frame_referenceIdeal m g trivial

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.V.Final

@[expose] public section

noncomputable section

namespace Cert.Proof

theorem claim : Cert.Claim :=
  ⟨Cert.Kernel.Gen.facts, Cert.KernelIdeal.Gen.facts, Cert.ReferenceIdeal.Gen.facts, labelFacts,
    frame_kernel, frame_kernelIdeal, frame_kernelIdeal_label, frame_referenceIdeal, frame_referenceIdeal_label, trivial, value⟩

end Cert.Proof

end
